-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v845) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x16x256x256 : Shape := ⟨4, ![2, 16, 256, 256]⟩
abbrev S256 : Shape := ⟨1, ![256]⟩
abbrev S_ : Shape := ⟨0, ![]⟩

class Facts : Prop where
  bcast_S_S2x16x256x256 : S_.BroadcastsInDim S2x16x256x256 (![] : Fin 0 → Fin S2x16x256x256.rank)
  reducesTo_S2x16x256x256_S_d0_1_2_3 : S2x16x256x256.ReducesTo [0, 1, 2, 3] S_
  h_S_ : 0 < S_.numel

variable [Facts]

def fn {F : FTy → Type} [FloatOps F] (main_arg0 : FVec F S2x16x256x256 .f32) (main_arg1 : IVec S2x16x256x256 32) (main_arg2 : FVec F S256 .f32) : IVec S_ 1 :=
  let main_c : IVec S_ 32 := constantI S_ 32 0#32
  let main_v0 : IVec S2x16x256x256 32 := broadcastInDim S2x16x256x256 ![] bcast_S_S2x16x256x256 main_c
  let main_v1 : IVec S2x16x256x256 1 := cmpi .sge main_arg1 main_v0
  let main_c_0 : IVec S_ 32 := constantI S_ 32 1#32
  let main_v2 : IVec S2x16x256x256 32 := broadcastInDim S2x16x256x256 ![] bcast_S_S2x16x256x256 main_c_0
  let main_v3 : IVec S2x16x256x256 1 := cmpi .sle main_arg1 main_v2
  let main_v4 : IVec S2x16x256x256 1 := andi main_v1 main_v3
  let main_c_1 : IVec S_ 1 := constantI S_ 1 1#1
  let main_v5 : IVec S_ 1 := (fun x v => Host.reduce IntOp.andi x v reducesTo_S2x16x256x256_S_d0_1_2_3 h_S_) main_v4 main_c_1
  let main_cst : FVec F S_ .f32 := constant S_ .f32 0xFF800000#32
  let main_v6 : FVec F S2x16x256x256 .f32 := broadcastInDim S2x16x256x256 ![] bcast_S_S2x16x256x256 main_cst
  let main_v7 : IVec S2x16x256x256 1 := cmpf .ogt main_arg0 main_v6
  let main_c_2 : IVec S_ 1 := constantI S_ 1 1#1
  let main_v8 : IVec S_ 1 := (fun x v => Host.reduce IntOp.andi x v reducesTo_S2x16x256x256_S_d0_1_2_3 h_S_) main_v7 main_c_2
  let main_v9 : IVec S_ 1 := andi main_v5 main_v8
  main_v9
-- ==== Kernel.lean ====
abbrev S2x16x256x256 : Shape := ⟨4, ![2, 16, 256, 256]⟩
abbrev S256 : Shape := ⟨1, ![256]⟩
abbrev S_ : Shape := ⟨0, ![]⟩
abbrev S2x16x264x256 : Shape := ⟨4, ![2, 16, 264, 256]⟩
abbrev S2x3x16x16 : Shape := ⟨4, ![2, 3, 16, 16]⟩
abbrev S1x1x264x256 : Shape := ⟨4, ![1, 1, 264, 256]⟩
abbrev S1x3x16x16 : Shape := ⟨4, ![1, 3, 16, 16]⟩
abbrev S264x256 : Shape := ⟨2, ![264, 256]⟩
abbrev S1x256 : Shape := ⟨2, ![1, 256]⟩
abbrev S263x256 : Shape := ⟨2, ![263, 256]⟩
abbrev S264x1 : Shape := ⟨2, ![264, 1]⟩
abbrev S264x255 : Shape := ⟨2, ![264, 255]⟩
abbrev S16x67584 : Shape := ⟨2, ![16, 67584]⟩
abbrev S16x16 : Shape := ⟨2, ![16, 16]⟩
abbrev S16x1 : Shape := ⟨2, ![16, 1]⟩
abbrev S1x16 : Shape := ⟨2, ![1, 16]⟩
abbrev S1x1 : Shape := ⟨2, ![1, 1]⟩
abbrev S1 : Shape := ⟨1, ![1]⟩
abbrev S1x67584 : Shape := ⟨2, ![1, 67584]⟩
abbrev S1x1x16x16 : Shape := ⟨4, ![1, 1, 16, 16]⟩
abbrev S15 : Shape := ⟨1, ![15]⟩
abbrev S2x16x256x1 : Shape := ⟨4, ![2, 16, 256, 1]⟩
abbrev S2x16x256 : Shape := ⟨3, ![2, 16, 256]⟩
abbrev S2x16x264 : Shape := ⟨3, ![2, 16, 264]⟩
abbrev S2x264x128 : Shape := ⟨3, ![2, 264, 128]⟩
abbrev S2x15x264 : Shape := ⟨3, ![2, 15, 264]⟩
abbrev S2x264x15 : Shape := ⟨3, ![2, 264, 15]⟩
abbrev S15x1 : Shape := ⟨2, ![15, 1]⟩
abbrev S1x264x128 : Shape := ⟨3, ![1, 264, 128]⟩
abbrev S8x128 : Shape := ⟨2, ![8, 128]⟩
abbrev S264x128 : Shape := ⟨2, ![264, 128]⟩
abbrev S264x127 : Shape := ⟨2, ![264, 127]⟩
abbrev S263x128 : Shape := ⟨2, ![263, 128]⟩
abbrev S1x128 : Shape := ⟨2, ![1, 128]⟩
abbrev S16x33792 : Shape := ⟨2, ![16, 33792]⟩
abbrev S1x33792 : Shape := ⟨2, ![1, 33792]⟩
abbrev S2x1x16x16 : Shape := ⟨4, ![2, 1, 16, 16]⟩
abbrev S2x16x16 : Shape := ⟨3, ![2, 16, 16]⟩
abbrev S1x16x16 : Shape := ⟨3, ![1, 16, 16]⟩
abbrev S2 : Shape := ⟨1, ![2]⟩

abbrev nBuf : Space → Nat
  | .hbm => 115
  | .vmem => 21
  | .smem => 0
  | _ => 0

abbrev bufTy : (tb : Table) → Fin (tcTables nBuf tb) → BufTy
  | .hbm, ⟨0, _⟩ => ⟨S2x16x256x256, .f32⟩
  | .hbm, ⟨1, _⟩ => ⟨S2x16x256x256, .i32⟩
  | .hbm, ⟨2, _⟩ => ⟨S256, .f32⟩
  | .hbm, ⟨3, _⟩ => ⟨S_, .f32⟩
  | .hbm, ⟨4, _⟩ => ⟨S_, .f32⟩
  | .hbm, ⟨5, _⟩ => ⟨S2x16x264x256, .f32⟩
  | .hbm, ⟨6, _⟩ => ⟨S2x16x256x256, .f32⟩
  | .hbm, ⟨7, _⟩ => ⟨S_, .f32⟩
  | .hbm, ⟨8, _⟩ => ⟨S_, .f32⟩
  | .hbm, ⟨9, _⟩ => ⟨S2x16x264x256, .f32⟩
  | .hbm, ⟨10, _⟩ => ⟨S2x3x16x16, .f32⟩
  | .hbm, ⟨11, _⟩ => ⟨S15, .i32⟩
  | .hbm, ⟨12, _⟩ => ⟨S_, .i32⟩
  | .hbm, ⟨13, _⟩ => ⟨S15, .i32⟩
  | .hbm, ⟨14, _⟩ => ⟨S15, .i32⟩
  | .hbm, ⟨15, _⟩ => ⟨S2x16x256x1, .f32⟩
  | .hbm, ⟨16, _⟩ => ⟨S2x16x256, .f32⟩
  | .hbm, ⟨17, _⟩ => ⟨S_, .f32⟩
  | .hbm, ⟨18, _⟩ => ⟨S_, .f32⟩
  | .hbm, ⟨19, _⟩ => ⟨S2x16x264, .f32⟩
  | .hbm, ⟨20, _⟩ => ⟨S2x16x256x1, .i32⟩
  | .hbm, ⟨21, _⟩ => ⟨S2x16x256, .i32⟩
  | .hbm, ⟨22, _⟩ => ⟨S2x16x256, .f32⟩
  | .hbm, ⟨23, _⟩ => ⟨S_, .f32⟩
  | .hbm, ⟨24, _⟩ => ⟨S_, .f32⟩
  | .hbm, ⟨25, _⟩ => ⟨S2x16x264, .f32⟩
  | .hbm, ⟨26, _⟩ => ⟨S_, .f32⟩
  | .hbm, ⟨27, _⟩ => ⟨S2x264x128, .f32⟩
  | .hbm, ⟨28, _⟩ => ⟨S2x15x264, .f32⟩
  | .hbm, ⟨29, _⟩ => ⟨S2x264x15, .f32⟩
  | .hbm, ⟨30, _⟩ => ⟨S_, .i32⟩
  | .hbm, ⟨31, _⟩ => ⟨S15, .i32⟩
  | .hbm, ⟨32, _⟩ => ⟨S15, .i1⟩
  | .hbm, ⟨33, _⟩ => ⟨S_, .i32⟩
  | .hbm, ⟨34, _⟩ => ⟨S15, .i32⟩
  | .hbm, ⟨35, _⟩ => ⟨S15, .i32⟩
  | .hbm, ⟨36, _⟩ => ⟨S15, .i32⟩
  | .hbm, ⟨37, _⟩ => ⟨S15x1, .i32⟩
  | .hbm, ⟨38, _⟩ => ⟨S2x264x128, .f32⟩
  | .hbm, ⟨39, _⟩ => ⟨S_, .f32⟩
  | .hbm, ⟨40, _⟩ => ⟨S2x264x128, .f32⟩
  | .hbm, ⟨41, _⟩ => ⟨S2x15x264, .f32⟩
  | .hbm, ⟨42, _⟩ => ⟨S2x264x15, .f32⟩
  | .hbm, ⟨43, _⟩ => ⟨S_, .i32⟩
  | .hbm, ⟨44, _⟩ => ⟨S15, .i32⟩
  | .hbm, ⟨45, _⟩ => ⟨S15, .i1⟩
  | .hbm, ⟨46, _⟩ => ⟨S_, .i32⟩
  | .hbm, ⟨47, _⟩ => ⟨S15, .i32⟩
  | .hbm, ⟨48, _⟩ => ⟨S15, .i32⟩
  | .hbm, ⟨49, _⟩ => ⟨S15, .i32⟩
  | .hbm, ⟨50, _⟩ => ⟨S15x1, .i32⟩
  | .hbm, ⟨51, _⟩ => ⟨S2x264x128, .f32⟩
  | .hbm, ⟨52, _⟩ => ⟨S_, .f32⟩
  | .hbm, ⟨53, _⟩ => ⟨S2x264x128, .f32⟩
  | .hbm, ⟨54, _⟩ => ⟨S2x15x264, .f32⟩
  | .hbm, ⟨55, _⟩ => ⟨S2x264x15, .f32⟩
  | .hbm, ⟨56, _⟩ => ⟨S_, .i32⟩
  | .hbm, ⟨57, _⟩ => ⟨S15, .i32⟩
  | .hbm, ⟨58, _⟩ => ⟨S15, .i1⟩
  | .hbm, ⟨59, _⟩ => ⟨S_, .i32⟩
  | .hbm, ⟨60, _⟩ => ⟨S15, .i32⟩
  | .hbm, ⟨61, _⟩ => ⟨S15, .i32⟩
  | .hbm, ⟨62, _⟩ => ⟨S15, .i32⟩
  | .hbm, ⟨63, _⟩ => ⟨S15x1, .i32⟩
  | .hbm, ⟨64, _⟩ => ⟨S2x264x128, .f32⟩
  | .hbm, ⟨65, _⟩ => ⟨S_, .f32⟩
  | .hbm, ⟨66, _⟩ => ⟨S2x264x128, .f32⟩
  | .hbm, ⟨67, _⟩ => ⟨S2x15x264, .f32⟩
  | .hbm, ⟨68, _⟩ => ⟨S2x264x15, .f32⟩
  | .hbm, ⟨69, _⟩ => ⟨S_, .i32⟩
  | .hbm, ⟨70, _⟩ => ⟨S15, .i32⟩
  | .hbm, ⟨71, _⟩ => ⟨S15, .i1⟩
  | .hbm, ⟨72, _⟩ => ⟨S_, .i32⟩
  | .hbm, ⟨73, _⟩ => ⟨S15, .i32⟩
  | .hbm, ⟨74, _⟩ => ⟨S15, .i32⟩
  | .hbm, ⟨75, _⟩ => ⟨S15, .i32⟩
  | .hbm, ⟨76, _⟩ => ⟨S15x1, .i32⟩
  | .hbm, ⟨77, _⟩ => ⟨S2x264x128, .f32⟩
  | .hbm, ⟨78, _⟩ => ⟨S2x3x16x16, .f32⟩
  | .hbm, ⟨79, _⟩ => ⟨S2x3x16x16, .f32⟩
  | .hbm, ⟨80, _⟩ => ⟨S16x16, .f32⟩
  | .hbm, ⟨81, _⟩ => ⟨S2x1x16x16, .f32⟩
  | .hbm, ⟨82, _⟩ => ⟨S2x16x16, .f32⟩
  | .hbm, ⟨83, _⟩ => ⟨S2x1x16x16, .f32⟩
  | .hbm, ⟨84, _⟩ => ⟨S2x16x16, .f32⟩
  | .hbm, ⟨85, _⟩ => ⟨S2x16x16, .f32⟩
  | .hbm, ⟨86, _⟩ => ⟨S1x16x16, .f32⟩
  | .hbm, ⟨87, _⟩ => ⟨S2x16x16, .f32⟩
  | .hbm, ⟨88, _⟩ => ⟨S2x16x16, .f32⟩
  | .hbm, ⟨89, _⟩ => ⟨S_, .f32⟩
  | .hbm, ⟨90, _⟩ => ⟨S2, .f32⟩
  | .hbm, ⟨91, _⟩ => ⟨S2x1x16x16, .f32⟩
  | .hbm, ⟨92, _⟩ => ⟨S2x16x16, .f32⟩
  | .hbm, ⟨93, _⟩ => ⟨S1x16x16, .f32⟩
  | .hbm, ⟨94, _⟩ => ⟨S2x16x16, .f32⟩
  | .hbm, ⟨95, _⟩ => ⟨S2x16x16, .f32⟩
  | .hbm, ⟨96, _⟩ => ⟨S_, .f32⟩
  | .hbm, ⟨97, _⟩ => ⟨S2, .f32⟩
  | .hbm, ⟨98, _⟩ => ⟨S_, .f32⟩
  | .hbm, ⟨99, _⟩ => ⟨S2, .f32⟩
  | .hbm, ⟨100, _⟩ => ⟨S2, .f32⟩
  | .hbm, ⟨101, _⟩ => ⟨S_, .f32⟩
  | .hbm, ⟨102, _⟩ => ⟨S2, .f32⟩
  | .hbm, ⟨103, _⟩ => ⟨S2, .f32⟩
  | .hbm, ⟨104, _⟩ => ⟨S_, .f32⟩
  | .hbm, ⟨105, _⟩ => ⟨S2, .f32⟩
  | .hbm, ⟨106, _⟩ => ⟨S2, .f32⟩
  | .hbm, ⟨107, _⟩ => ⟨S2, .f32⟩
  | .hbm, ⟨108, _⟩ => ⟨S_, .f32⟩
  | .hbm, ⟨109, _⟩ => ⟨S2, .f32⟩
  | .hbm, ⟨110, _⟩ => ⟨S2, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S1x1x264x256, .f32⟩
  | .local _ .vmem, ⟨1, _⟩ => ⟨S1x1x264x256, .f32⟩
  | .local _ .vmem, ⟨2, _⟩ => ⟨S1x1x264x256, .f32⟩
  | .local _ .vmem, ⟨3, _⟩ => ⟨S1x1x264x256, .f32⟩
  | .local _ .vmem, ⟨4, _⟩ => ⟨S1x1x264x256, .f32⟩
  | .local _ .vmem, ⟨5, _⟩ => ⟨S1x1x264x256, .f32⟩
  | .local _ .vmem, ⟨6, _⟩ => ⟨S1x1x264x256, .f32⟩
  | .local _ .vmem, ⟨7, _⟩ => ⟨S1x1x264x256, .f32⟩
  | .local _ .vmem, ⟨8, _⟩ => ⟨S1x3x16x16, .f32⟩
  | .local _ .vmem, ⟨9, _⟩ => ⟨S1x3x16x16, .f32⟩
  | .local _ .vmem, ⟨10, _⟩ => ⟨S1x264x128, .f32⟩
  | .local _ .vmem, ⟨11, _⟩ => ⟨S1x264x128, .f32⟩
  | .local _ .vmem, ⟨12, _⟩ => ⟨S1x264x128, .f32⟩
  | .local _ .vmem, ⟨13, _⟩ => ⟨S1x264x128, .f32⟩
  | .local _ .vmem, ⟨14, _⟩ => ⟨S1x264x128, .f32⟩
  | .local _ .vmem, ⟨15, _⟩ => ⟨S1x264x128, .f32⟩
  | .local _ .vmem, ⟨16, _⟩ => ⟨S1x264x128, .f32⟩
  | .local _ .vmem, ⟨17, _⟩ => ⟨S1x264x128, .f32⟩
  | .local _ .vmem, ⟨18, _⟩ => ⟨S1x3x16x16, .f32⟩
  | .local _ .vmem, ⟨19, _⟩ => ⟨S1x3x16x16, .f32⟩
  | .local _ .vmem, ⟨20, _⟩ => ⟨S8x128, .f32⟩
  | _, _ => ⟨S2x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call3_v0 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 15], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x264x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x264x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x264x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x264x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x264x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x264x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x264x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x264x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x3x16x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2x16x256x256 : Shape := ⟨4, ![2, 16, 256, 256]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S_ : Shape := ⟨0, ![]⟩
abbrev S2x15x256x256 : Shape := ⟨4, ![2, 15, 256, 256]⟩
abbrev S2x15x1x256x256 : Shape := ⟨5, ![2, 15, 1, 256, 256]⟩
abbrev S2x15x2x256x256 : Shape := ⟨5, ![2, 15, 2, 256, 256]⟩
abbrev S2x15x2x258x258 : Shape := ⟨5, ![2, 15, 2, 258, 258]⟩
abbrev S2x15x1x257x257 : Shape := ⟨5, ![2, 15, 1, 257, 257]⟩
abbrev S2x15x257x257 : Shape := ⟨4, ![2, 15, 257, 257]⟩
abbrev S2x15x66049 : Shape := ⟨3, ![2, 15, 66049]⟩
abbrev S2x15x1x66049 : Shape := ⟨4, ![2, 15, 1, 66049]⟩
abbrev S2x15x8x66049 : Shape := ⟨4, ![2, 15, 8, 66049]⟩
abbrev S2x15x66049x1 : Shape := ⟨4, ![2, 15, 66049, 1]⟩
abbrev S2x15x66049x8 : Shape := ⟨4, ![2, 15, 66049, 8]⟩
abbrev S2x15 : Shape := ⟨2, ![2, 15]⟩
abbrev S2 : Shape := ⟨1, ![2]⟩

abbrev nBuf : Space → Nat
  | .hbm => 1105
  | .vmem => 0
  | .smem => 0
  | _ => 0

abbrev hbmTy0_0 (i : Nat) : BufTy := match i % 128 with
  | 0 => ⟨S2x16x256x256, .f32⟩
  | 1 => ⟨S2x16x256x256, .i32⟩
  | 2 => ⟨S256, .f32⟩
  | 3 => ⟨S256, .i32⟩
  | 4 => ⟨S256x1, .i32⟩
  | 5 => ⟨S8, .i32⟩
  | 6 => ⟨S1x8, .i32⟩
  | 7 => ⟨S256x8, .i32⟩
  | 8 => ⟨S256x8, .i32⟩
  | 9 => ⟨S256x8, .i32⟩
  | 10 => ⟨S_, .i32⟩
  | 11 => ⟨S256x8, .i32⟩
  | 12 => ⟨S256x8, .i32⟩
  | 13 => ⟨S256x8, .f32⟩
  | 14 => ⟨S2x16x256x256, .f32⟩
  | 15 => ⟨S2x16x256x256, .f32⟩
  | 16 => ⟨S_, .f32⟩
  | 17 => ⟨S2x16x256x256, .f32⟩
  | 18 => ⟨S2x16x256x256, .f32⟩
  | 19 => ⟨S_, .f32⟩
  | 20 => ⟨S2x16x256x256, .f32⟩
  | 21 => ⟨S2x16x256x256, .f32⟩
  | 22 => ⟨S2x15x256x256, .f32⟩
  | 23 => ⟨S2x15x256x256, .f32⟩
  | 24 => ⟨S2x15x1x256x256, .f32⟩
  | 25 => ⟨S2x15x1x256x256, .f32⟩
  | 26 => ⟨S2x15x2x256x256, .f32⟩
  | 27 => ⟨S_, .i32⟩
  | 28 => ⟨S_, .f32⟩
  | 29 => ⟨S2x15x2x258x258, .f32⟩
  | 30 => ⟨S2x15x1x257x257, .f32⟩
  | 31 => ⟨S2x15x257x257, .f32⟩
  | 32 => ⟨S2x15x66049, .f32⟩
  | 33 => ⟨S2x15x1x257x257, .f32⟩
  | 34 => ⟨S2x15x257x257, .f32⟩
  | 35 => ⟨S2x15x66049, .f32⟩
  | 36 => ⟨S2x15x1x257x257, .f32⟩
  | 37 => ⟨S2x15x257x257, .f32⟩
  | 38 => ⟨S2x15x66049, .f32⟩
  | 39 => ⟨S2x15x1x257x257, .f32⟩
  | 40 => ⟨S2x15x257x257, .f32⟩
  | 41 => ⟨S2x15x66049, .f32⟩
  | 42 => ⟨S2x15x1x257x257, .f32⟩
  | 43 => ⟨S2x15x257x257, .f32⟩
  | 44 => ⟨S2x15x66049, .f32⟩
  | 45 => ⟨S2x15x1x257x257, .f32⟩
  | 46 => ⟨S2x15x257x257, .f32⟩
  | 47 => ⟨S2x15x66049, .f32⟩
  | 48 => ⟨S2x15x1x257x257, .f32⟩
  | 49 => ⟨S2x15x257x257, .f32⟩
  | 50 => ⟨S2x15x66049, .f32⟩
  | 51 => ⟨S2x15x1x257x257, .f32⟩
  | 52 => ⟨S2x15x257x257, .f32⟩
  | 53 => ⟨S2x15x66049, .f32⟩
  | 54 => ⟨S2x15x1x66049, .f32⟩
  | 55 => ⟨S2x15x1x66049, .f32⟩
  | 56 => ⟨S2x15x1x66049, .f32⟩
  | 57 => ⟨S2x15x1x66049, .f32⟩
  | 58 => ⟨S2x15x1x66049, .f32⟩
  | 59 => ⟨S2x15x1x66049, .f32⟩
  | 60 => ⟨S2x15x1x66049, .f32⟩
  | 61 => ⟨S2x15x1x66049, .f32⟩
  | 62 => ⟨S2x15x8x66049, .f32⟩
  | 63 => ⟨S2x16x256x256, .f32⟩
  | 64 => ⟨S2x15x256x256, .f32⟩
  | 65 => ⟨S2x15x256x256, .f32⟩
  | 66 => ⟨S2x15x1x256x256, .f32⟩
  | 67 => ⟨S2x15x1x256x256, .f32⟩
  | 68 => ⟨S2x15x2x256x256, .f32⟩
  | 69 => ⟨S_, .i32⟩
  | 70 => ⟨S_, .f32⟩
  | 71 => ⟨S2x15x2x258x258, .f32⟩
  | 72 => ⟨S2x15x1x257x257, .f32⟩
  | 73 => ⟨S2x15x257x257, .f32⟩
  | 74 => ⟨S2x15x66049, .f32⟩
  | 75 => ⟨S2x15x1x257x257, .f32⟩
  | 76 => ⟨S2x15x257x257, .f32⟩
  | 77 => ⟨S2x15x66049, .f32⟩
  | 78 => ⟨S2x15x1x257x257, .f32⟩
  | 79 => ⟨S2x15x257x257, .f32⟩
  | 80 => ⟨S2x15x66049, .f32⟩
  | 81 => ⟨S2x15x1x257x257, .f32⟩
  | 82 => ⟨S2x15x257x257, .f32⟩
  | 83 => ⟨S2x15x66049, .f32⟩
  | 84 => ⟨S2x15x1x257x257, .f32⟩
  | 85 => ⟨S2x15x257x257, .f32⟩
  | 86 => ⟨S2x15x66049, .f32⟩
  | 87 => ⟨S2x15x1x257x257, .f32⟩
  | 88 => ⟨S2x15x257x257, .f32⟩
  | 89 => ⟨S2x15x66049, .f32⟩
  | 90 => ⟨S2x15x1x257x257, .f32⟩
  | 91 => ⟨S2x15x257x257, .f32⟩
  | 92 => ⟨S2x15x66049, .f32⟩
  | 93 => ⟨S2x15x1x257x257, .f32⟩
  | 94 => ⟨S2x15x257x257, .f32⟩
  | 95 => ⟨S2x15x66049, .f32⟩
  | 96 => ⟨S2x15x1x66049, .f32⟩
  | 97 => ⟨S2x15x1x66049, .f32⟩
  | 98 => ⟨S2x15x1x66049, .f32⟩
  | 99 => ⟨S2x15x1x66049, .f32⟩
  | 100 => ⟨S2x15x1x66049, .f32⟩
  | 101 => ⟨S2x15x1x66049, .f32⟩
  | 102 => ⟨S2x15x1x66049, .f32⟩
  | 103 => ⟨S2x15x1x66049, .f32⟩
  | 104 => ⟨S2x15x8x66049, .f32⟩
  | 105 => ⟨S2x15x1x66049, .f32⟩
  | 106 => ⟨S2x15x66049, .f32⟩
  | 107 => ⟨S2x15x66049, .i32⟩
  | 108 => ⟨S_, .i32⟩
  | 109 => ⟨S2x15x66049, .i32⟩
  | 110 => ⟨S2x15x66049, .i32⟩
  | 111 => ⟨S_, .i32⟩
  | 112 => ⟨S2x15x66049, .i32⟩
  | 113 => ⟨S2x15x66049, .i32⟩
  | 114 => ⟨S2x15x1x66049, .f32⟩
  | 115 => ⟨S2x15x66049, .f32⟩
  | 116 => ⟨S2x15x66049, .i32⟩
  | 117 => ⟨S_, .i32⟩
  | 118 => ⟨S2x15x66049, .i32⟩
  | 119 => ⟨S2x15x66049, .i32⟩
  | 120 => ⟨S2x15x66049, .i32⟩
  | 121 => ⟨S2x15x1x66049, .f32⟩
  | 122 => ⟨S2x15x66049, .f32⟩
  | 123 => ⟨S2x15x66049, .i32⟩
  | 124 => ⟨S_, .i32⟩
  | 125 => ⟨S2x15x66049, .i32⟩
  | 126 => ⟨S2x15x66049, .i32⟩
  | 127 => ⟨S2x15x66049, .i32⟩
  | _ => ⟨S2x16x256x256, .f32⟩

abbrev hbmTy0_1 (i : Nat) : BufTy := match i % 128 with
  | 0 => ⟨S2x15x1x66049, .f32⟩
  | 1 => ⟨S2x15x66049, .f32⟩
  | 2 => ⟨S2x15x66049, .i32⟩
  | 3 => ⟨S_, .i32⟩
  | 4 => ⟨S2x15x66049, .i32⟩
  | 5 => ⟨S2x15x66049, .i32⟩
  | 6 => ⟨S2x15x66049, .i32⟩
  | 7 => ⟨S2x15x1x66049, .f32⟩
  | 8 => ⟨S2x15x66049, .f32⟩
  | 9 => ⟨S2x15x66049, .i32⟩
  | 10 => ⟨S_, .i32⟩
  | 11 => ⟨S2x15x66049, .i32⟩
  | 12 => ⟨S2x15x66049, .i32⟩
  | 13 => ⟨S2x15x66049, .i32⟩
  | 14 => ⟨S2x15x1x66049, .f32⟩
  | 15 => ⟨S2x15x66049, .f32⟩
  | 16 => ⟨S2x15x66049, .i32⟩
  | 17 => ⟨S_, .i32⟩
  | 18 => ⟨S2x15x66049, .i32⟩
  | 19 => ⟨S2x15x66049, .i32⟩
  | 20 => ⟨S2x15x66049, .i32⟩
  | 21 => ⟨S2x15x1x66049, .f32⟩
  | 22 => ⟨S2x15x66049, .f32⟩
  | 23 => ⟨S2x15x66049, .i32⟩
  | 24 => ⟨S_, .i32⟩
  | 25 => ⟨S2x15x66049, .i32⟩
  | 26 => ⟨S2x15x66049, .i32⟩
  | 27 => ⟨S2x15x66049, .i32⟩
  | 28 => ⟨S2x15x1x66049, .f32⟩
  | 29 => ⟨S2x15x66049, .f32⟩
  | 30 => ⟨S2x15x66049, .i32⟩
  | 31 => ⟨S_, .i32⟩
  | 32 => ⟨S2x15x66049, .i32⟩
  | 33 => ⟨S2x15x66049, .i32⟩
  | 34 => ⟨S2x15x66049, .i32⟩
  | 35 => ⟨S_, .f32⟩
  | 36 => ⟨S2x15x66049, .f32⟩
  | 37 => ⟨S_, .f32⟩
  | 38 => ⟨S2x15x66049, .f32⟩
  | 39 => ⟨S_, .f32⟩
  | 40 => ⟨S2x15x8x66049, .f32⟩
  | 41 => ⟨S2x15x8x66049, .i1⟩
  | 42 => ⟨S2x15x8x66049, .i32⟩
  | 43 => ⟨S2x15x1x66049, .i32⟩
  | 44 => ⟨S2x15x66049, .i32⟩
  | 45 => ⟨S_, .i32⟩
  | 46 => ⟨S2x15x66049, .i32⟩
  | 47 => ⟨S2x15x66049, .i32⟩
  | 48 => ⟨S_, .i32⟩
  | 49 => ⟨S2x15x66049, .i32⟩
  | 50 => ⟨S2x15x66049, .i32⟩
  | 51 => ⟨S2x15x1x66049, .i32⟩
  | 52 => ⟨S2x15x66049, .i32⟩
  | 53 => ⟨S_, .i32⟩
  | 54 => ⟨S2x15x66049, .i32⟩
  | 55 => ⟨S2x15x66049, .i32⟩
  | 56 => ⟨S2x15x66049, .i32⟩
  | 57 => ⟨S2x15x1x66049, .i32⟩
  | 58 => ⟨S2x15x66049, .i32⟩
  | 59 => ⟨S_, .i32⟩
  | 60 => ⟨S2x15x66049, .i32⟩
  | 61 => ⟨S2x15x66049, .i32⟩
  | 62 => ⟨S2x15x66049, .i32⟩
  | 63 => ⟨S2x15x1x66049, .i32⟩
  | 64 => ⟨S2x15x66049, .i32⟩
  | 65 => ⟨S_, .i32⟩
  | 66 => ⟨S2x15x66049, .i32⟩
  | 67 => ⟨S2x15x66049, .i32⟩
  | 68 => ⟨S2x15x66049, .i32⟩
  | 69 => ⟨S2x15x1x66049, .i32⟩
  | 70 => ⟨S2x15x66049, .i32⟩
  | 71 => ⟨S_, .i32⟩
  | 72 => ⟨S2x15x66049, .i32⟩
  | 73 => ⟨S2x15x66049, .i32⟩
  | 74 => ⟨S2x15x66049, .i32⟩
  | 75 => ⟨S2x15x1x66049, .i32⟩
  | 76 => ⟨S2x15x66049, .i32⟩
  | 77 => ⟨S_, .i32⟩
  | 78 => ⟨S2x15x66049, .i32⟩
  | 79 => ⟨S2x15x66049, .i32⟩
  | 80 => ⟨S2x15x66049, .i32⟩
  | 81 => ⟨S2x15x1x66049, .i32⟩
  | 82 => ⟨S2x15x66049, .i32⟩
  | 83 => ⟨S_, .i32⟩
  | 84 => ⟨S2x15x66049, .i32⟩
  | 85 => ⟨S2x15x66049, .i32⟩
  | 86 => ⟨S2x15x66049, .i32⟩
  | 87 => ⟨S2x15x1x66049, .i32⟩
  | 88 => ⟨S2x15x66049, .i32⟩
  | 89 => ⟨S_, .i32⟩
  | 90 => ⟨S2x15x66049, .i32⟩
  | 91 => ⟨S2x15x66049, .i32⟩
  | 92 => ⟨S2x15x66049, .i32⟩
  | 93 => ⟨S_, .i32⟩
  | 94 => ⟨S2x15x66049, .i32⟩
  | 95 => ⟨S2x15x66049, .i1⟩
  | 96 => ⟨S_, .i32⟩
  | 97 => ⟨S2x15x66049, .i32⟩
  | 98 => ⟨S2x15x66049, .i32⟩
  | 99 => ⟨S2x15x66049, .i32⟩
  | 100 => ⟨S2x15x66049x1, .i32⟩
  | 101 => ⟨S2x15x66049x8, .f32⟩
  | 102 => ⟨S2x15x8x66049, .f32⟩
  | 103 => ⟨S_, .f32⟩
  | 104 => ⟨S2x15x8x66049, .f32⟩
  | 105 => ⟨S2x15x8x66049, .i1⟩
  | 106 => ⟨S_, .f32⟩
  | 107 => ⟨S_, .f32⟩
  | 108 => ⟨S2x15x8x66049, .f32⟩
  | 109 => ⟨S2x15x8x66049, .f32⟩
  | 110 => ⟨S_, .f32⟩
  | 111 => ⟨S2x15x66049, .f32⟩
  | 112 => ⟨S2x15x66049, .f32⟩
  | 113 => ⟨S_, .f32⟩
  | 114 => ⟨S2x15x66049, .f32⟩
  | 115 => ⟨S2x15x66049, .i1⟩
  | 116 => ⟨S_, .f32⟩
  | 117 => ⟨S_, .f32⟩
  | 118 => ⟨S2x15x66049, .f32⟩
  | 119 => ⟨S2x15x66049, .f32⟩
  | 120 => ⟨S_, .i32⟩
  | 121 => ⟨S2x15x66049, .i32⟩
  | 122 => ⟨S2x15x66049, .i1⟩
  | 123 => ⟨S_, .i32⟩
  | 124 => ⟨S2x15x66049, .i32⟩
  | 125 => ⟨S2x15x66049, .i32⟩
  | 126 => ⟨S2x15x66049, .i32⟩
  | 127 => ⟨S2x15x66049x1, .i32⟩
  | _ => ⟨S2x16x256x256, .f32⟩

abbrev hbmTy0_2 (i : Nat) : BufTy := match i % 128 with
  | 0 => ⟨S2x15x66049, .f32⟩
  | 1 => ⟨S2x15x66049, .f32⟩
  | 2 => ⟨S2x15x66049, .f32⟩
  | 3 => ⟨S2x15x66049, .i1⟩
  | 4 => ⟨S2x15x66049, .f32⟩
  | 5 => ⟨S2x15x66049, .f32⟩
  | 6 => ⟨S2x15x66049, .f32⟩
  | 7 => ⟨S2x15x1x66049, .f32⟩
  | 8 => ⟨S2x15x8x66049, .f32⟩
  | 9 => ⟨S2x15x8x66049, .f32⟩
  | 10 => ⟨S2x15x8x66049, .f32⟩
  | 11 => ⟨S_, .f32⟩
  | 12 => ⟨S2x15x8x66049, .f32⟩
  | 13 => ⟨S2x15x8x66049, .i1⟩
  | 14 => ⟨S2x15x8x66049, .i32⟩
  | 15 => ⟨S2x15x1x66049, .i32⟩
  | 16 => ⟨S2x15x66049, .i32⟩
  | 17 => ⟨S_, .i32⟩
  | 18 => ⟨S2x15x66049, .i32⟩
  | 19 => ⟨S2x15x66049, .i32⟩
  | 20 => ⟨S_, .i32⟩
  | 21 => ⟨S2x15x66049, .i32⟩
  | 22 => ⟨S2x15x66049, .i32⟩
  | 23 => ⟨S2x15x1x66049, .i32⟩
  | 24 => ⟨S2x15x66049, .i32⟩
  | 25 => ⟨S_, .i32⟩
  | 26 => ⟨S2x15x66049, .i32⟩
  | 27 => ⟨S2x15x66049, .i32⟩
  | 28 => ⟨S2x15x66049, .i32⟩
  | 29 => ⟨S2x15x1x66049, .i32⟩
  | 30 => ⟨S2x15x66049, .i32⟩
  | 31 => ⟨S_, .i32⟩
  | 32 => ⟨S2x15x66049, .i32⟩
  | 33 => ⟨S2x15x66049, .i32⟩
  | 34 => ⟨S2x15x66049, .i32⟩
  | 35 => ⟨S2x15x1x66049, .i32⟩
  | 36 => ⟨S2x15x66049, .i32⟩
  | 37 => ⟨S_, .i32⟩
  | 38 => ⟨S2x15x66049, .i32⟩
  | 39 => ⟨S2x15x66049, .i32⟩
  | 40 => ⟨S2x15x66049, .i32⟩
  | 41 => ⟨S2x15x1x66049, .i32⟩
  | 42 => ⟨S2x15x66049, .i32⟩
  | 43 => ⟨S_, .i32⟩
  | 44 => ⟨S2x15x66049, .i32⟩
  | 45 => ⟨S2x15x66049, .i32⟩
  | 46 => ⟨S2x15x66049, .i32⟩
  | 47 => ⟨S2x15x1x66049, .i32⟩
  | 48 => ⟨S2x15x66049, .i32⟩
  | 49 => ⟨S_, .i32⟩
  | 50 => ⟨S2x15x66049, .i32⟩
  | 51 => ⟨S2x15x66049, .i32⟩
  | 52 => ⟨S2x15x66049, .i32⟩
  | 53 => ⟨S2x15x1x66049, .i32⟩
  | 54 => ⟨S2x15x66049, .i32⟩
  | 55 => ⟨S_, .i32⟩
  | 56 => ⟨S2x15x66049, .i32⟩
  | 57 => ⟨S2x15x66049, .i32⟩
  | 58 => ⟨S2x15x66049, .i32⟩
  | 59 => ⟨S2x15x1x66049, .i32⟩
  | 60 => ⟨S2x15x66049, .i32⟩
  | 61 => ⟨S_, .i32⟩
  | 62 => ⟨S2x15x66049, .i32⟩
  | 63 => ⟨S2x15x66049, .i32⟩
  | 64 => ⟨S2x15x66049, .i32⟩
  | 65 => ⟨S_, .i32⟩
  | 66 => ⟨S2x15x66049, .i32⟩
  | 67 => ⟨S2x15x66049, .i1⟩
  | 68 => ⟨S_, .i32⟩
  | 69 => ⟨S2x15x66049, .i32⟩
  | 70 => ⟨S2x15x66049, .i32⟩
  | 71 => ⟨S2x15x66049, .i32⟩
  | 72 => ⟨S2x15x66049x1, .i32⟩
  | 73 => ⟨S2x15x66049x8, .f32⟩
  | 74 => ⟨S2x15x8x66049, .f32⟩
  | 75 => ⟨S_, .f32⟩
  | 76 => ⟨S2x15x8x66049, .f32⟩
  | 77 => ⟨S2x15x8x66049, .i1⟩
  | 78 => ⟨S_, .f32⟩
  | 79 => ⟨S_, .f32⟩
  | 80 => ⟨S2x15x8x66049, .f32⟩
  | 81 => ⟨S2x15x8x66049, .f32⟩
  | 82 => ⟨S_, .f32⟩
  | 83 => ⟨S2x15x66049, .f32⟩
  | 84 => ⟨S2x15x66049, .f32⟩
  | 85 => ⟨S_, .f32⟩
  | 86 => ⟨S2x15x66049, .f32⟩
  | 87 => ⟨S2x15x66049, .i1⟩
  | 88 => ⟨S_, .f32⟩
  | 89 => ⟨S_, .f32⟩
  | 90 => ⟨S2x15x66049, .f32⟩
  | 91 => ⟨S2x15x66049, .f32⟩
  | 92 => ⟨S_, .i32⟩
  | 93 => ⟨S2x15x66049, .i32⟩
  | 94 => ⟨S2x15x66049, .i1⟩
  | 95 => ⟨S_, .i32⟩
  | 96 => ⟨S2x15x66049, .i32⟩
  | 97 => ⟨S2x15x66049, .i32⟩
  | 98 => ⟨S2x15x66049, .i32⟩
  | 99 => ⟨S2x15x66049x1, .i32⟩
  | 100 => ⟨S2x15x66049, .f32⟩
  | 101 => ⟨S2x15x66049, .f32⟩
  | 102 => ⟨S2x15x66049, .f32⟩
  | 103 => ⟨S2x15x66049, .i1⟩
  | 104 => ⟨S2x15x66049, .f32⟩
  | 105 => ⟨S2x15x66049, .f32⟩
  | 106 => ⟨S2x15x66049, .f32⟩
  | 107 => ⟨S2x15x1x66049, .f32⟩
  | 108 => ⟨S2x15x8x66049, .f32⟩
  | 109 => ⟨S2x15x8x66049, .f32⟩
  | 110 => ⟨S2x15x8x66049, .f32⟩
  | 111 => ⟨S_, .f32⟩
  | 112 => ⟨S2x15x8x66049, .f32⟩
  | 113 => ⟨S2x15x8x66049, .i1⟩
  | 114 => ⟨S2x15x8x66049, .i32⟩
  | 115 => ⟨S2x15x1x66049, .i32⟩
  | 116 => ⟨S2x15x66049, .i32⟩
  | 117 => ⟨S_, .i32⟩
  | 118 => ⟨S2x15x66049, .i32⟩
  | 119 => ⟨S2x15x66049, .i32⟩
  | 120 => ⟨S_, .i32⟩
  | 121 => ⟨S2x15x66049, .i32⟩
  | 122 => ⟨S2x15x66049, .i32⟩
  | 123 => ⟨S2x15x1x66049, .i32⟩
  | 124 => ⟨S2x15x66049, .i32⟩
  | 125 => ⟨S_, .i32⟩
  | 126 => ⟨S2x15x66049, .i32⟩
  | 127 => ⟨S2x15x66049, .i32⟩
  | _ => ⟨S2x16x256x256, .f32⟩

abbrev hbmTy0_3 (i : Nat) : BufTy := match i % 128 with
  | 0 => ⟨S2x15x66049, .i32⟩
  | 1 => ⟨S2x15x1x66049, .i32⟩
  | 2 => ⟨S2x15x66049, .i32⟩
  | 3 => ⟨S_, .i32⟩
  | 4 => ⟨S2x15x66049, .i32⟩
  | 5 => ⟨S2x15x66049, .i32⟩
  | 6 => ⟨S2x15x66049, .i32⟩
  | 7 => ⟨S2x15x1x66049, .i32⟩
  | 8 => ⟨S2x15x66049, .i32⟩
  | 9 => ⟨S_, .i32⟩
  | 10 => ⟨S2x15x66049, .i32⟩
  | 11 => ⟨S2x15x66049, .i32⟩
  | 12 => ⟨S2x15x66049, .i32⟩
  | 13 => ⟨S2x15x1x66049, .i32⟩
  | 14 => ⟨S2x15x66049, .i32⟩
  | 15 => ⟨S_, .i32⟩
  | 16 => ⟨S2x15x66049, .i32⟩
  | 17 => ⟨S2x15x66049, .i32⟩
  | 18 => ⟨S2x15x66049, .i32⟩
  | 19 => ⟨S2x15x1x66049, .i32⟩
  | 20 => ⟨S2x15x66049, .i32⟩
  | 21 => ⟨S_, .i32⟩
  | 22 => ⟨S2x15x66049, .i32⟩
  | 23 => ⟨S2x15x66049, .i32⟩
  | 24 => ⟨S2x15x66049, .i32⟩
  | 25 => ⟨S2x15x1x66049, .i32⟩
  | 26 => ⟨S2x15x66049, .i32⟩
  | 27 => ⟨S_, .i32⟩
  | 28 => ⟨S2x15x66049, .i32⟩
  | 29 => ⟨S2x15x66049, .i32⟩
  | 30 => ⟨S2x15x66049, .i32⟩
  | 31 => ⟨S2x15x1x66049, .i32⟩
  | 32 => ⟨S2x15x66049, .i32⟩
  | 33 => ⟨S_, .i32⟩
  | 34 => ⟨S2x15x66049, .i32⟩
  | 35 => ⟨S2x15x66049, .i32⟩
  | 36 => ⟨S2x15x66049, .i32⟩
  | 37 => ⟨S_, .i32⟩
  | 38 => ⟨S2x15x66049, .i32⟩
  | 39 => ⟨S2x15x66049, .i1⟩
  | 40 => ⟨S_, .i32⟩
  | 41 => ⟨S2x15x66049, .i32⟩
  | 42 => ⟨S2x15x66049, .i32⟩
  | 43 => ⟨S2x15x66049, .i32⟩
  | 44 => ⟨S2x15x66049x1, .i32⟩
  | 45 => ⟨S2x15x66049x8, .f32⟩
  | 46 => ⟨S2x15x8x66049, .f32⟩
  | 47 => ⟨S_, .f32⟩
  | 48 => ⟨S2x15x8x66049, .f32⟩
  | 49 => ⟨S2x15x8x66049, .i1⟩
  | 50 => ⟨S_, .f32⟩
  | 51 => ⟨S_, .f32⟩
  | 52 => ⟨S2x15x8x66049, .f32⟩
  | 53 => ⟨S2x15x8x66049, .f32⟩
  | 54 => ⟨S_, .f32⟩
  | 55 => ⟨S2x15x66049, .f32⟩
  | 56 => ⟨S2x15x66049, .f32⟩
  | 57 => ⟨S_, .f32⟩
  | 58 => ⟨S2x15x66049, .f32⟩
  | 59 => ⟨S2x15x66049, .i1⟩
  | 60 => ⟨S_, .f32⟩
  | 61 => ⟨S_, .f32⟩
  | 62 => ⟨S2x15x66049, .f32⟩
  | 63 => ⟨S2x15x66049, .f32⟩
  | 64 => ⟨S_, .i32⟩
  | 65 => ⟨S2x15x66049, .i32⟩
  | 66 => ⟨S2x15x66049, .i1⟩
  | 67 => ⟨S_, .i32⟩
  | 68 => ⟨S2x15x66049, .i32⟩
  | 69 => ⟨S2x15x66049, .i32⟩
  | 70 => ⟨S2x15x66049, .i32⟩
  | 71 => ⟨S2x15x66049x1, .i32⟩
  | 72 => ⟨S2x15x66049, .f32⟩
  | 73 => ⟨S2x15x66049, .f32⟩
  | 74 => ⟨S2x15x66049, .f32⟩
  | 75 => ⟨S2x15x66049, .i1⟩
  | 76 => ⟨S2x15x66049, .f32⟩
  | 77 => ⟨S2x15x66049, .f32⟩
  | 78 => ⟨S2x15x66049, .f32⟩
  | 79 => ⟨S2x15x1x66049, .f32⟩
  | 80 => ⟨S2x15x8x66049, .f32⟩
  | 81 => ⟨S2x15x8x66049, .f32⟩
  | 82 => ⟨S2x15x8x66049, .f32⟩
  | 83 => ⟨S_, .f32⟩
  | 84 => ⟨S2x15x8x66049, .f32⟩
  | 85 => ⟨S2x15x8x66049, .i1⟩
  | 86 => ⟨S2x15x8x66049, .i32⟩
  | 87 => ⟨S2x15x1x66049, .i32⟩
  | 88 => ⟨S2x15x66049, .i32⟩
  | 89 => ⟨S_, .i32⟩
  | 90 => ⟨S2x15x66049, .i32⟩
  | 91 => ⟨S2x15x66049, .i32⟩
  | 92 => ⟨S_, .i32⟩
  | 93 => ⟨S2x15x66049, .i32⟩
  | 94 => ⟨S2x15x66049, .i32⟩
  | 95 => ⟨S2x15x1x66049, .i32⟩
  | 96 => ⟨S2x15x66049, .i32⟩
  | 97 => ⟨S_, .i32⟩
  | 98 => ⟨S2x15x66049, .i32⟩
  | 99 => ⟨S2x15x66049, .i32⟩
  | 100 => ⟨S2x15x66049, .i32⟩
  | 101 => ⟨S2x15x1x66049, .i32⟩
  | 102 => ⟨S2x15x66049, .i32⟩
  | 103 => ⟨S_, .i32⟩
  | 104 => ⟨S2x15x66049, .i32⟩
  | 105 => ⟨S2x15x66049, .i32⟩
  | 106 => ⟨S2x15x66049, .i32⟩
  | 107 => ⟨S2x15x1x66049, .i32⟩
  | 108 => ⟨S2x15x66049, .i32⟩
  | 109 => ⟨S_, .i32⟩
  | 110 => ⟨S2x15x66049, .i32⟩
  | 111 => ⟨S2x15x66049, .i32⟩
  | 112 => ⟨S2x15x66049, .i32⟩
  | 113 => ⟨S2x15x1x66049, .i32⟩
  | 114 => ⟨S2x15x66049, .i32⟩
  | 115 => ⟨S_, .i32⟩
  | 116 => ⟨S2x15x66049, .i32⟩
  | 117 => ⟨S2x15x66049, .i32⟩
  | 118 => ⟨S2x15x66049, .i32⟩
  | 119 => ⟨S2x15x1x66049, .i32⟩
  | 120 => ⟨S2x15x66049, .i32⟩
  | 121 => ⟨S_, .i32⟩
  | 122 => ⟨S2x15x66049, .i32⟩
  | 123 => ⟨S2x15x66049, .i32⟩
  | 124 => ⟨S2x15x66049, .i32⟩
  | 125 => ⟨S2x15x1x66049, .i32⟩
  | 126 => ⟨S2x15x66049, .i32⟩
  | 127 => ⟨S_, .i32⟩
  | _ => ⟨S2x16x256x256, .f32⟩

abbrev hbmTy0_4 (i : Nat) : BufTy := match i % 128 with
  | 0 => ⟨S2x15x66049, .i32⟩
  | 1 => ⟨S2x15x66049, .i32⟩
  | 2 => ⟨S2x15x66049, .i32⟩
  | 3 => ⟨S2x15x1x66049, .i32⟩
  | 4 => ⟨S2x15x66049, .i32⟩
  | 5 => ⟨S_, .i32⟩
  | 6 => ⟨S2x15x66049, .i32⟩
  | 7 => ⟨S2x15x66049, .i32⟩
  | 8 => ⟨S2x15x66049, .i32⟩
  | 9 => ⟨S_, .i32⟩
  | 10 => ⟨S2x15x66049, .i32⟩
  | 11 => ⟨S2x15x66049, .i1⟩
  | 12 => ⟨S_, .i32⟩
  | 13 => ⟨S2x15x66049, .i32⟩
  | 14 => ⟨S2x15x66049, .i32⟩
  | 15 => ⟨S2x15x66049, .i32⟩
  | 16 => ⟨S2x15x66049x1, .i32⟩
  | 17 => ⟨S2x15x66049x8, .f32⟩
  | 18 => ⟨S2x15x8x66049, .f32⟩
  | 19 => ⟨S_, .f32⟩
  | 20 => ⟨S2x15x8x66049, .f32⟩
  | 21 => ⟨S2x15x8x66049, .i1⟩
  | 22 => ⟨S_, .f32⟩
  | 23 => ⟨S_, .f32⟩
  | 24 => ⟨S2x15x8x66049, .f32⟩
  | 25 => ⟨S2x15x8x66049, .f32⟩
  | 26 => ⟨S_, .f32⟩
  | 27 => ⟨S2x15x66049, .f32⟩
  | 28 => ⟨S2x15x66049, .f32⟩
  | 29 => ⟨S_, .f32⟩
  | 30 => ⟨S2x15x66049, .f32⟩
  | 31 => ⟨S2x15x66049, .i1⟩
  | 32 => ⟨S_, .f32⟩
  | 33 => ⟨S_, .f32⟩
  | 34 => ⟨S2x15x66049, .f32⟩
  | 35 => ⟨S2x15x66049, .f32⟩
  | 36 => ⟨S_, .i32⟩
  | 37 => ⟨S2x15x66049, .i32⟩
  | 38 => ⟨S2x15x66049, .i1⟩
  | 39 => ⟨S_, .i32⟩
  | 40 => ⟨S2x15x66049, .i32⟩
  | 41 => ⟨S2x15x66049, .i32⟩
  | 42 => ⟨S2x15x66049, .i32⟩
  | 43 => ⟨S2x15x66049x1, .i32⟩
  | 44 => ⟨S2x15x66049, .f32⟩
  | 45 => ⟨S2x15x66049, .f32⟩
  | 46 => ⟨S2x15x66049, .f32⟩
  | 47 => ⟨S2x15x66049, .i1⟩
  | 48 => ⟨S2x15x66049, .f32⟩
  | 49 => ⟨S2x15x66049, .f32⟩
  | 50 => ⟨S2x15x66049, .f32⟩
  | 51 => ⟨S2x15x1x66049, .f32⟩
  | 52 => ⟨S2x15x8x66049, .f32⟩
  | 53 => ⟨S2x15x8x66049, .f32⟩
  | 54 => ⟨S2x15x8x66049, .f32⟩
  | 55 => ⟨S_, .f32⟩
  | 56 => ⟨S2x15x8x66049, .f32⟩
  | 57 => ⟨S2x15x8x66049, .i1⟩
  | 58 => ⟨S2x15x8x66049, .i32⟩
  | 59 => ⟨S2x15x1x66049, .i32⟩
  | 60 => ⟨S2x15x66049, .i32⟩
  | 61 => ⟨S_, .i32⟩
  | 62 => ⟨S2x15x66049, .i32⟩
  | 63 => ⟨S2x15x66049, .i32⟩
  | 64 => ⟨S_, .i32⟩
  | 65 => ⟨S2x15x66049, .i32⟩
  | 66 => ⟨S2x15x66049, .i32⟩
  | 67 => ⟨S2x15x1x66049, .i32⟩
  | 68 => ⟨S2x15x66049, .i32⟩
  | 69 => ⟨S_, .i32⟩
  | 70 => ⟨S2x15x66049, .i32⟩
  | 71 => ⟨S2x15x66049, .i32⟩
  | 72 => ⟨S2x15x66049, .i32⟩
  | 73 => ⟨S2x15x1x66049, .i32⟩
  | 74 => ⟨S2x15x66049, .i32⟩
  | 75 => ⟨S_, .i32⟩
  | 76 => ⟨S2x15x66049, .i32⟩
  | 77 => ⟨S2x15x66049, .i32⟩
  | 78 => ⟨S2x15x66049, .i32⟩
  | 79 => ⟨S2x15x1x66049, .i32⟩
  | 80 => ⟨S2x15x66049, .i32⟩
  | 81 => ⟨S_, .i32⟩
  | 82 => ⟨S2x15x66049, .i32⟩
  | 83 => ⟨S2x15x66049, .i32⟩
  | 84 => ⟨S2x15x66049, .i32⟩
  | 85 => ⟨S2x15x1x66049, .i32⟩
  | 86 => ⟨S2x15x66049, .i32⟩
  | 87 => ⟨S_, .i32⟩
  | 88 => ⟨S2x15x66049, .i32⟩
  | 89 => ⟨S2x15x66049, .i32⟩
  | 90 => ⟨S2x15x66049, .i32⟩
  | 91 => ⟨S2x15x1x66049, .i32⟩
  | 92 => ⟨S2x15x66049, .i32⟩
  | 93 => ⟨S_, .i32⟩
  | 94 => ⟨S2x15x66049, .i32⟩
  | 95 => ⟨S2x15x66049, .i32⟩
  | 96 => ⟨S2x15x66049, .i32⟩
  | 97 => ⟨S2x15x1x66049, .i32⟩
  | 98 => ⟨S2x15x66049, .i32⟩
  | 99 => ⟨S_, .i32⟩
  | 100 => ⟨S2x15x66049, .i32⟩
  | 101 => ⟨S2x15x66049, .i32⟩
  | 102 => ⟨S2x15x66049, .i32⟩
  | 103 => ⟨S2x15x1x66049, .i32⟩
  | 104 => ⟨S2x15x66049, .i32⟩
  | 105 => ⟨S_, .i32⟩
  | 106 => ⟨S2x15x66049, .i32⟩
  | 107 => ⟨S2x15x66049, .i32⟩
  | 108 => ⟨S2x15x66049, .i32⟩
  | 109 => ⟨S_, .i32⟩
  | 110 => ⟨S2x15x66049, .i32⟩
  | 111 => ⟨S2x15x66049, .i1⟩
  | 112 => ⟨S_, .i32⟩
  | 113 => ⟨S2x15x66049, .i32⟩
  | 114 => ⟨S2x15x66049, .i32⟩
  | 115 => ⟨S2x15x66049, .i32⟩
  | 116 => ⟨S2x15x66049x1, .i32⟩
  | 117 => ⟨S2x15x66049x8, .f32⟩
  | 118 => ⟨S2x15x8x66049, .f32⟩
  | 119 => ⟨S_, .f32⟩
  | 120 => ⟨S2x15x8x66049, .f32⟩
  | 121 => ⟨S2x15x8x66049, .i1⟩
  | 122 => ⟨S_, .f32⟩
  | 123 => ⟨S_, .f32⟩
  | 124 => ⟨S2x15x8x66049, .f32⟩
  | 125 => ⟨S2x15x8x66049, .f32⟩
  | 126 => ⟨S_, .f32⟩
  | 127 => ⟨S2x15x66049, .f32⟩
  | _ => ⟨S2x16x256x256, .f32⟩

abbrev hbmTy0_5 (i : Nat) : BufTy := match i % 128 with
  | 0 => ⟨S2x15x66049, .f32⟩
  | 1 => ⟨S_, .f32⟩
  | 2 => ⟨S2x15x66049, .f32⟩
  | 3 => ⟨S2x15x66049, .i1⟩
  | 4 => ⟨S_, .f32⟩
  | 5 => ⟨S_, .f32⟩
  | 6 => ⟨S2x15x66049, .f32⟩
  | 7 => ⟨S2x15x66049, .f32⟩
  | 8 => ⟨S_, .i32⟩
  | 9 => ⟨S2x15x66049, .i32⟩
  | 10 => ⟨S2x15x66049, .i1⟩
  | 11 => ⟨S_, .i32⟩
  | 12 => ⟨S2x15x66049, .i32⟩
  | 13 => ⟨S2x15x66049, .i32⟩
  | 14 => ⟨S2x15x66049, .i32⟩
  | 15 => ⟨S2x15x66049x1, .i32⟩
  | 16 => ⟨S2x15x66049, .f32⟩
  | 17 => ⟨S2x15x66049, .f32⟩
  | 18 => ⟨S2x15x66049, .f32⟩
  | 19 => ⟨S2x15x66049, .i1⟩
  | 20 => ⟨S2x15x66049, .f32⟩
  | 21 => ⟨S2x15x66049, .f32⟩
  | 22 => ⟨S2x15x66049, .f32⟩
  | 23 => ⟨S2x15x1x66049, .f32⟩
  | 24 => ⟨S2x15x8x66049, .f32⟩
  | 25 => ⟨S2x15x8x66049, .f32⟩
  | 26 => ⟨S2x15x8x66049, .f32⟩
  | 27 => ⟨S_, .f32⟩
  | 28 => ⟨S2x15x8x66049, .f32⟩
  | 29 => ⟨S2x15x8x66049, .i1⟩
  | 30 => ⟨S2x15x8x66049, .i32⟩
  | 31 => ⟨S2x15x1x66049, .i32⟩
  | 32 => ⟨S2x15x66049, .i32⟩
  | 33 => ⟨S_, .i32⟩
  | 34 => ⟨S2x15x66049, .i32⟩
  | 35 => ⟨S2x15x66049, .i32⟩
  | 36 => ⟨S_, .i32⟩
  | 37 => ⟨S2x15x66049, .i32⟩
  | 38 => ⟨S2x15x66049, .i32⟩
  | 39 => ⟨S2x15x1x66049, .i32⟩
  | 40 => ⟨S2x15x66049, .i32⟩
  | 41 => ⟨S_, .i32⟩
  | 42 => ⟨S2x15x66049, .i32⟩
  | 43 => ⟨S2x15x66049, .i32⟩
  | 44 => ⟨S2x15x66049, .i32⟩
  | 45 => ⟨S2x15x1x66049, .i32⟩
  | 46 => ⟨S2x15x66049, .i32⟩
  | 47 => ⟨S_, .i32⟩
  | 48 => ⟨S2x15x66049, .i32⟩
  | 49 => ⟨S2x15x66049, .i32⟩
  | 50 => ⟨S2x15x66049, .i32⟩
  | 51 => ⟨S2x15x1x66049, .i32⟩
  | 52 => ⟨S2x15x66049, .i32⟩
  | 53 => ⟨S_, .i32⟩
  | 54 => ⟨S2x15x66049, .i32⟩
  | 55 => ⟨S2x15x66049, .i32⟩
  | 56 => ⟨S2x15x66049, .i32⟩
  | 57 => ⟨S2x15x1x66049, .i32⟩
  | 58 => ⟨S2x15x66049, .i32⟩
  | 59 => ⟨S_, .i32⟩
  | 60 => ⟨S2x15x66049, .i32⟩
  | 61 => ⟨S2x15x66049, .i32⟩
  | 62 => ⟨S2x15x66049, .i32⟩
  | 63 => ⟨S2x15x1x66049, .i32⟩
  | 64 => ⟨S2x15x66049, .i32⟩
  | 65 => ⟨S_, .i32⟩
  | 66 => ⟨S2x15x66049, .i32⟩
  | 67 => ⟨S2x15x66049, .i32⟩
  | 68 => ⟨S2x15x66049, .i32⟩
  | 69 => ⟨S2x15x1x66049, .i32⟩
  | 70 => ⟨S2x15x66049, .i32⟩
  | 71 => ⟨S_, .i32⟩
  | 72 => ⟨S2x15x66049, .i32⟩
  | 73 => ⟨S2x15x66049, .i32⟩
  | 74 => ⟨S2x15x66049, .i32⟩
  | 75 => ⟨S2x15x1x66049, .i32⟩
  | 76 => ⟨S2x15x66049, .i32⟩
  | 77 => ⟨S_, .i32⟩
  | 78 => ⟨S2x15x66049, .i32⟩
  | 79 => ⟨S2x15x66049, .i32⟩
  | 80 => ⟨S2x15x66049, .i32⟩
  | 81 => ⟨S_, .i32⟩
  | 82 => ⟨S2x15x66049, .i32⟩
  | 83 => ⟨S2x15x66049, .i1⟩
  | 84 => ⟨S_, .i32⟩
  | 85 => ⟨S2x15x66049, .i32⟩
  | 86 => ⟨S2x15x66049, .i32⟩
  | 87 => ⟨S2x15x66049, .i32⟩
  | 88 => ⟨S2x15x66049x1, .i32⟩
  | 89 => ⟨S2x15x66049x8, .f32⟩
  | 90 => ⟨S2x15x8x66049, .f32⟩
  | 91 => ⟨S_, .f32⟩
  | 92 => ⟨S2x15x8x66049, .f32⟩
  | 93 => ⟨S2x15x8x66049, .i1⟩
  | 94 => ⟨S_, .f32⟩
  | 95 => ⟨S_, .f32⟩
  | 96 => ⟨S2x15x8x66049, .f32⟩
  | 97 => ⟨S2x15x8x66049, .f32⟩
  | 98 => ⟨S_, .f32⟩
  | 99 => ⟨S2x15x66049, .f32⟩
  | 100 => ⟨S2x15x66049, .f32⟩
  | 101 => ⟨S_, .f32⟩
  | 102 => ⟨S2x15x66049, .f32⟩
  | 103 => ⟨S2x15x66049, .i1⟩
  | 104 => ⟨S_, .f32⟩
  | 105 => ⟨S_, .f32⟩
  | 106 => ⟨S2x15x66049, .f32⟩
  | 107 => ⟨S2x15x66049, .f32⟩
  | 108 => ⟨S_, .i32⟩
  | 109 => ⟨S2x15x66049, .i32⟩
  | 110 => ⟨S2x15x66049, .i1⟩
  | 111 => ⟨S_, .i32⟩
  | 112 => ⟨S2x15x66049, .i32⟩
  | 113 => ⟨S2x15x66049, .i32⟩
  | 114 => ⟨S2x15x66049, .i32⟩
  | 115 => ⟨S2x15x66049x1, .i32⟩
  | 116 => ⟨S2x15x66049, .f32⟩
  | 117 => ⟨S2x15x66049, .f32⟩
  | 118 => ⟨S2x15x66049, .f32⟩
  | 119 => ⟨S2x15x66049, .i1⟩
  | 120 => ⟨S2x15x66049, .f32⟩
  | 121 => ⟨S2x15x66049, .f32⟩
  | 122 => ⟨S2x15x66049, .f32⟩
  | 123 => ⟨S2x15x1x66049, .f32⟩
  | 124 => ⟨S2x15x8x66049, .f32⟩
  | 125 => ⟨S2x15x8x66049, .f32⟩
  | 126 => ⟨S2x15x8x66049, .f32⟩
  | 127 => ⟨S_, .f32⟩
  | _ => ⟨S2x16x256x256, .f32⟩

abbrev hbmTy0_6 (i : Nat) : BufTy := match i % 128 with
  | 0 => ⟨S2x15x8x66049, .f32⟩
  | 1 => ⟨S2x15x8x66049, .i1⟩
  | 2 => ⟨S2x15x8x66049, .i32⟩
  | 3 => ⟨S2x15x1x66049, .i32⟩
  | 4 => ⟨S2x15x66049, .i32⟩
  | 5 => ⟨S_, .i32⟩
  | 6 => ⟨S2x15x66049, .i32⟩
  | 7 => ⟨S2x15x66049, .i32⟩
  | 8 => ⟨S_, .i32⟩
  | 9 => ⟨S2x15x66049, .i32⟩
  | 10 => ⟨S2x15x66049, .i32⟩
  | 11 => ⟨S2x15x1x66049, .i32⟩
  | 12 => ⟨S2x15x66049, .i32⟩
  | 13 => ⟨S_, .i32⟩
  | 14 => ⟨S2x15x66049, .i32⟩
  | 15 => ⟨S2x15x66049, .i32⟩
  | 16 => ⟨S2x15x66049, .i32⟩
  | 17 => ⟨S2x15x1x66049, .i32⟩
  | 18 => ⟨S2x15x66049, .i32⟩
  | 19 => ⟨S_, .i32⟩
  | 20 => ⟨S2x15x66049, .i32⟩
  | 21 => ⟨S2x15x66049, .i32⟩
  | 22 => ⟨S2x15x66049, .i32⟩
  | 23 => ⟨S2x15x1x66049, .i32⟩
  | 24 => ⟨S2x15x66049, .i32⟩
  | 25 => ⟨S_, .i32⟩
  | 26 => ⟨S2x15x66049, .i32⟩
  | 27 => ⟨S2x15x66049, .i32⟩
  | 28 => ⟨S2x15x66049, .i32⟩
  | 29 => ⟨S2x15x1x66049, .i32⟩
  | 30 => ⟨S2x15x66049, .i32⟩
  | 31 => ⟨S_, .i32⟩
  | 32 => ⟨S2x15x66049, .i32⟩
  | 33 => ⟨S2x15x66049, .i32⟩
  | 34 => ⟨S2x15x66049, .i32⟩
  | 35 => ⟨S2x15x1x66049, .i32⟩
  | 36 => ⟨S2x15x66049, .i32⟩
  | 37 => ⟨S_, .i32⟩
  | 38 => ⟨S2x15x66049, .i32⟩
  | 39 => ⟨S2x15x66049, .i32⟩
  | 40 => ⟨S2x15x66049, .i32⟩
  | 41 => ⟨S2x15x1x66049, .i32⟩
  | 42 => ⟨S2x15x66049, .i32⟩
  | 43 => ⟨S_, .i32⟩
  | 44 => ⟨S2x15x66049, .i32⟩
  | 45 => ⟨S2x15x66049, .i32⟩
  | 46 => ⟨S2x15x66049, .i32⟩
  | 47 => ⟨S2x15x1x66049, .i32⟩
  | 48 => ⟨S2x15x66049, .i32⟩
  | 49 => ⟨S_, .i32⟩
  | 50 => ⟨S2x15x66049, .i32⟩
  | 51 => ⟨S2x15x66049, .i32⟩
  | 52 => ⟨S2x15x66049, .i32⟩
  | 53 => ⟨S_, .i32⟩
  | 54 => ⟨S2x15x66049, .i32⟩
  | 55 => ⟨S2x15x66049, .i1⟩
  | 56 => ⟨S_, .i32⟩
  | 57 => ⟨S2x15x66049, .i32⟩
  | 58 => ⟨S2x15x66049, .i32⟩
  | 59 => ⟨S2x15x66049, .i32⟩
  | 60 => ⟨S2x15x66049x1, .i32⟩
  | 61 => ⟨S2x15x66049x8, .f32⟩
  | 62 => ⟨S2x15x8x66049, .f32⟩
  | 63 => ⟨S_, .f32⟩
  | 64 => ⟨S2x15x8x66049, .f32⟩
  | 65 => ⟨S2x15x8x66049, .i1⟩
  | 66 => ⟨S_, .f32⟩
  | 67 => ⟨S_, .f32⟩
  | 68 => ⟨S2x15x8x66049, .f32⟩
  | 69 => ⟨S2x15x8x66049, .f32⟩
  | 70 => ⟨S_, .f32⟩
  | 71 => ⟨S2x15x66049, .f32⟩
  | 72 => ⟨S2x15x66049, .f32⟩
  | 73 => ⟨S_, .f32⟩
  | 74 => ⟨S2x15x66049, .f32⟩
  | 75 => ⟨S2x15x66049, .i1⟩
  | 76 => ⟨S_, .f32⟩
  | 77 => ⟨S_, .f32⟩
  | 78 => ⟨S2x15x66049, .f32⟩
  | 79 => ⟨S2x15x66049, .f32⟩
  | 80 => ⟨S_, .i32⟩
  | 81 => ⟨S2x15x66049, .i32⟩
  | 82 => ⟨S2x15x66049, .i1⟩
  | 83 => ⟨S_, .i32⟩
  | 84 => ⟨S2x15x66049, .i32⟩
  | 85 => ⟨S2x15x66049, .i32⟩
  | 86 => ⟨S2x15x66049, .i32⟩
  | 87 => ⟨S2x15x66049x1, .i32⟩
  | 88 => ⟨S2x15x66049, .f32⟩
  | 89 => ⟨S2x15x66049, .f32⟩
  | 90 => ⟨S2x15x66049, .f32⟩
  | 91 => ⟨S2x15x66049, .i1⟩
  | 92 => ⟨S2x15x66049, .f32⟩
  | 93 => ⟨S2x15x66049, .f32⟩
  | 94 => ⟨S2x15x66049, .f32⟩
  | 95 => ⟨S2x15x1x66049, .f32⟩
  | 96 => ⟨S2x15x8x66049, .f32⟩
  | 97 => ⟨S2x15x8x66049, .f32⟩
  | 98 => ⟨S2x15x8x66049, .f32⟩
  | 99 => ⟨S_, .f32⟩
  | 100 => ⟨S2x15x8x66049, .f32⟩
  | 101 => ⟨S2x15x8x66049, .i1⟩
  | 102 => ⟨S2x15x8x66049, .i32⟩
  | 103 => ⟨S2x15x1x66049, .i32⟩
  | 104 => ⟨S2x15x66049, .i32⟩
  | 105 => ⟨S_, .i32⟩
  | 106 => ⟨S2x15x66049, .i32⟩
  | 107 => ⟨S2x15x66049, .i32⟩
  | 108 => ⟨S_, .i32⟩
  | 109 => ⟨S2x15x66049, .i32⟩
  | 110 => ⟨S2x15x66049, .i32⟩
  | 111 => ⟨S2x15x1x66049, .i32⟩
  | 112 => ⟨S2x15x66049, .i32⟩
  | 113 => ⟨S_, .i32⟩
  | 114 => ⟨S2x15x66049, .i32⟩
  | 115 => ⟨S2x15x66049, .i32⟩
  | 116 => ⟨S2x15x66049, .i32⟩
  | 117 => ⟨S2x15x1x66049, .i32⟩
  | 118 => ⟨S2x15x66049, .i32⟩
  | 119 => ⟨S_, .i32⟩
  | 120 => ⟨S2x15x66049, .i32⟩
  | 121 => ⟨S2x15x66049, .i32⟩
  | 122 => ⟨S2x15x66049, .i32⟩
  | 123 => ⟨S2x15x1x66049, .i32⟩
  | 124 => ⟨S2x15x66049, .i32⟩
  | 125 => ⟨S_, .i32⟩
  | 126 => ⟨S2x15x66049, .i32⟩
  | 127 => ⟨S2x15x66049, .i32⟩
  | _ => ⟨S2x16x256x256, .f32⟩

abbrev hbmTy0_7 (i : Nat) : BufTy := match i % 128 with
  | 0 => ⟨S2x15x66049, .i32⟩
  | 1 => ⟨S2x15x1x66049, .i32⟩
  | 2 => ⟨S2x15x66049, .i32⟩
  | 3 => ⟨S_, .i32⟩
  | 4 => ⟨S2x15x66049, .i32⟩
  | 5 => ⟨S2x15x66049, .i32⟩
  | 6 => ⟨S2x15x66049, .i32⟩
  | 7 => ⟨S2x15x1x66049, .i32⟩
  | 8 => ⟨S2x15x66049, .i32⟩
  | 9 => ⟨S_, .i32⟩
  | 10 => ⟨S2x15x66049, .i32⟩
  | 11 => ⟨S2x15x66049, .i32⟩
  | 12 => ⟨S2x15x66049, .i32⟩
  | 13 => ⟨S2x15x1x66049, .i32⟩
  | 14 => ⟨S2x15x66049, .i32⟩
  | 15 => ⟨S_, .i32⟩
  | 16 => ⟨S2x15x66049, .i32⟩
  | 17 => ⟨S2x15x66049, .i32⟩
  | 18 => ⟨S2x15x66049, .i32⟩
  | 19 => ⟨S2x15x1x66049, .i32⟩
  | 20 => ⟨S2x15x66049, .i32⟩
  | 21 => ⟨S_, .i32⟩
  | 22 => ⟨S2x15x66049, .i32⟩
  | 23 => ⟨S2x15x66049, .i32⟩
  | 24 => ⟨S2x15x66049, .i32⟩
  | 25 => ⟨S_, .i32⟩
  | 26 => ⟨S2x15x66049, .i32⟩
  | 27 => ⟨S2x15x66049, .i1⟩
  | 28 => ⟨S_, .i32⟩
  | 29 => ⟨S2x15x66049, .i32⟩
  | 30 => ⟨S2x15x66049, .i32⟩
  | 31 => ⟨S2x15x66049, .i32⟩
  | 32 => ⟨S2x15x66049x1, .i32⟩
  | 33 => ⟨S2x15x66049x8, .f32⟩
  | 34 => ⟨S2x15x8x66049, .f32⟩
  | 35 => ⟨S_, .f32⟩
  | 36 => ⟨S2x15x8x66049, .f32⟩
  | 37 => ⟨S2x15x8x66049, .i1⟩
  | 38 => ⟨S_, .f32⟩
  | 39 => ⟨S_, .f32⟩
  | 40 => ⟨S2x15x8x66049, .f32⟩
  | 41 => ⟨S2x15x8x66049, .f32⟩
  | 42 => ⟨S_, .f32⟩
  | 43 => ⟨S2x15x66049, .f32⟩
  | 44 => ⟨S2x15x66049, .f32⟩
  | 45 => ⟨S_, .f32⟩
  | 46 => ⟨S2x15x66049, .f32⟩
  | 47 => ⟨S2x15x66049, .i1⟩
  | 48 => ⟨S_, .f32⟩
  | 49 => ⟨S_, .f32⟩
  | 50 => ⟨S2x15x66049, .f32⟩
  | 51 => ⟨S2x15x66049, .f32⟩
  | 52 => ⟨S_, .i32⟩
  | 53 => ⟨S2x15x66049, .i32⟩
  | 54 => ⟨S2x15x66049, .i1⟩
  | 55 => ⟨S_, .i32⟩
  | 56 => ⟨S2x15x66049, .i32⟩
  | 57 => ⟨S2x15x66049, .i32⟩
  | 58 => ⟨S2x15x66049, .i32⟩
  | 59 => ⟨S2x15x66049x1, .i32⟩
  | 60 => ⟨S2x15x66049, .f32⟩
  | 61 => ⟨S2x15x66049, .f32⟩
  | 62 => ⟨S2x15x66049, .f32⟩
  | 63 => ⟨S2x15x66049, .i1⟩
  | 64 => ⟨S2x15x66049, .f32⟩
  | 65 => ⟨S2x15x66049, .f32⟩
  | 66 => ⟨S2x15x66049, .f32⟩
  | 67 => ⟨S2x15x1x66049, .f32⟩
  | 68 => ⟨S2x15x8x66049, .f32⟩
  | 69 => ⟨S2x15x8x66049, .f32⟩
  | 70 => ⟨S2x15x8x66049, .f32⟩
  | 71 => ⟨S_, .f32⟩
  | 72 => ⟨S2x15x8x66049, .f32⟩
  | 73 => ⟨S2x15x8x66049, .i1⟩
  | 74 => ⟨S2x15x8x66049, .i32⟩
  | 75 => ⟨S2x15x1x66049, .i32⟩
  | 76 => ⟨S2x15x66049, .i32⟩
  | 77 => ⟨S_, .i32⟩
  | 78 => ⟨S2x15x66049, .i32⟩
  | 79 => ⟨S2x15x66049, .i32⟩
  | 80 => ⟨S_, .i32⟩
  | 81 => ⟨S2x15x66049, .i32⟩
  | 82 => ⟨S2x15x66049, .i32⟩
  | 83 => ⟨S2x15x1x66049, .i32⟩
  | 84 => ⟨S2x15x66049, .i32⟩
  | 85 => ⟨S_, .i32⟩
  | 86 => ⟨S2x15x66049, .i32⟩
  | 87 => ⟨S2x15x66049, .i32⟩
  | 88 => ⟨S2x15x66049, .i32⟩
  | 89 => ⟨S2x15x1x66049, .i32⟩
  | 90 => ⟨S2x15x66049, .i32⟩
  | 91 => ⟨S_, .i32⟩
  | 92 => ⟨S2x15x66049, .i32⟩
  | 93 => ⟨S2x15x66049, .i32⟩
  | 94 => ⟨S2x15x66049, .i32⟩
  | 95 => ⟨S2x15x1x66049, .i32⟩
  | 96 => ⟨S2x15x66049, .i32⟩
  | 97 => ⟨S_, .i32⟩
  | 98 => ⟨S2x15x66049, .i32⟩
  | 99 => ⟨S2x15x66049, .i32⟩
  | 100 => ⟨S2x15x66049, .i32⟩
  | 101 => ⟨S2x15x1x66049, .i32⟩
  | 102 => ⟨S2x15x66049, .i32⟩
  | 103 => ⟨S_, .i32⟩
  | 104 => ⟨S2x15x66049, .i32⟩
  | 105 => ⟨S2x15x66049, .i32⟩
  | 106 => ⟨S2x15x66049, .i32⟩
  | 107 => ⟨S2x15x1x66049, .i32⟩
  | 108 => ⟨S2x15x66049, .i32⟩
  | 109 => ⟨S_, .i32⟩
  | 110 => ⟨S2x15x66049, .i32⟩
  | 111 => ⟨S2x15x66049, .i32⟩
  | 112 => ⟨S2x15x66049, .i32⟩
  | 113 => ⟨S2x15x1x66049, .i32⟩
  | 114 => ⟨S2x15x66049, .i32⟩
  | 115 => ⟨S_, .i32⟩
  | 116 => ⟨S2x15x66049, .i32⟩
  | 117 => ⟨S2x15x66049, .i32⟩
  | 118 => ⟨S2x15x66049, .i32⟩
  | 119 => ⟨S2x15x1x66049, .i32⟩
  | 120 => ⟨S2x15x66049, .i32⟩
  | 121 => ⟨S_, .i32⟩
  | 122 => ⟨S2x15x66049, .i32⟩
  | 123 => ⟨S2x15x66049, .i32⟩
  | 124 => ⟨S2x15x66049, .i32⟩
  | 125 => ⟨S_, .i32⟩
  | 126 => ⟨S2x15x66049, .i32⟩
  | 127 => ⟨S2x15x66049, .i1⟩
  | _ => ⟨S2x16x256x256, .f32⟩

abbrev hbmTy0_8 (i : Nat) : BufTy := match i % 128 with
  | 0 => ⟨S_, .i32⟩
  | 1 => ⟨S2x15x66049, .i32⟩
  | 2 => ⟨S2x15x66049, .i32⟩
  | 3 => ⟨S2x15x66049, .i32⟩
  | 4 => ⟨S2x15x66049x1, .i32⟩
  | 5 => ⟨S2x15x66049x8, .f32⟩
  | 6 => ⟨S2x15x8x66049, .f32⟩
  | 7 => ⟨S_, .f32⟩
  | 8 => ⟨S2x15x8x66049, .f32⟩
  | 9 => ⟨S2x15x8x66049, .i1⟩
  | 10 => ⟨S_, .f32⟩
  | 11 => ⟨S_, .f32⟩
  | 12 => ⟨S2x15x8x66049, .f32⟩
  | 13 => ⟨S2x15x8x66049, .f32⟩
  | 14 => ⟨S_, .f32⟩
  | 15 => ⟨S2x15x66049, .f32⟩
  | 16 => ⟨S2x15x66049, .f32⟩
  | 17 => ⟨S_, .f32⟩
  | 18 => ⟨S2x15x66049, .f32⟩
  | 19 => ⟨S2x15x66049, .i1⟩
  | 20 => ⟨S_, .f32⟩
  | 21 => ⟨S_, .f32⟩
  | 22 => ⟨S2x15x66049, .f32⟩
  | 23 => ⟨S2x15x66049, .f32⟩
  | 24 => ⟨S_, .i32⟩
  | 25 => ⟨S2x15x66049, .i32⟩
  | 26 => ⟨S2x15x66049, .i1⟩
  | 27 => ⟨S_, .i32⟩
  | 28 => ⟨S2x15x66049, .i32⟩
  | 29 => ⟨S2x15x66049, .i32⟩
  | 30 => ⟨S2x15x66049, .i32⟩
  | 31 => ⟨S2x15x66049x1, .i32⟩
  | 32 => ⟨S2x15x66049, .f32⟩
  | 33 => ⟨S2x15x66049, .f32⟩
  | 34 => ⟨S2x15x66049, .f32⟩
  | 35 => ⟨S2x15x66049, .i1⟩
  | 36 => ⟨S2x15x66049, .f32⟩
  | 37 => ⟨S2x15x66049, .f32⟩
  | 38 => ⟨S2x15x66049, .f32⟩
  | 39 => ⟨S2x15x1x66049, .f32⟩
  | 40 => ⟨S2x15x8x66049, .f32⟩
  | 41 => ⟨S2x15x8x66049, .f32⟩
  | 42 => ⟨S2x15x8x66049, .f32⟩
  | 43 => ⟨S_, .i32⟩
  | 44 => ⟨S2x15x66049, .i32⟩
  | 45 => ⟨S2x15x66049, .i1⟩
  | 46 => ⟨S_, .i32⟩
  | 47 => ⟨S2x15x66049, .i32⟩
  | 48 => ⟨S2x15x66049, .i32⟩
  | 49 => ⟨S2x15x66049, .i32⟩
  | 50 => ⟨S2x15x66049x1, .i32⟩
  | 51 => ⟨S2x15x66049, .f32⟩
  | 52 => ⟨S2x15x66049, .f32⟩
  | 53 => ⟨S_, .f32⟩
  | 54 => ⟨S2x15, .f32⟩
  | 55 => ⟨S_, .f32⟩
  | 56 => ⟨S2x15, .f32⟩
  | 57 => ⟨S2x15, .f32⟩
  | 58 => ⟨S_, .f32⟩
  | 59 => ⟨S2, .f32⟩
  | 60 => ⟨S_, .f32⟩
  | 61 => ⟨S2x15, .f32⟩
  | 62 => ⟨S_, .f32⟩
  | 63 => ⟨S2x15, .f32⟩
  | 64 => ⟨S2x15, .f32⟩
  | 65 => ⟨S_, .f32⟩
  | 66 => ⟨S2, .f32⟩
  | 67 => ⟨S_, .f32⟩
  | 68 => ⟨S2, .f32⟩
  | 69 => ⟨S2, .f32⟩
  | 70 => ⟨S_, .f32⟩
  | 71 => ⟨S2, .f32⟩
  | 72 => ⟨S2, .f32⟩
  | 73 => ⟨S2, .f32⟩
  | 74 => ⟨S_, .f32⟩
  | 75 => ⟨S2, .f32⟩
  | 76 => ⟨S2, .f32⟩
  | 77 => ⟨S_, .f32⟩
  | 78 => ⟨S_, .f32⟩
  | 79 => ⟨S_, .f32⟩
  | 80 => ⟨S_, .f32⟩
  | _ => ⟨S2x16x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x16x256x256, .f32⟩

abbrev bufTy : (tb : Table) → Fin (tcTables nBuf tb) → BufTy
  | .hbm, ⟨i, _⟩ => hbmTy i
  | _, _ => ⟨S2x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c_2 : Ref sig .tc := ⟨.hbm, 69, rfl⟩
abbrev main_call1_v0 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_c_3 : Ref sig .tc := ⟨.hbm, 108, rfl⟩
abbrev main_v98 : Ref sig .tc := ⟨.hbm, 109, rfl⟩
abbrev main_v99 : Ref sig .tc := ⟨.hbm, 110, rfl⟩
abbrev main_c_4 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_c_5 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_c_6 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_c_7 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_c_8 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_c_9 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_c_10 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_c_11 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_cst_12 : Ref sig .tc := ⟨.hbm, 163, rfl⟩
abbrev main_v144 : Ref sig .tc := ⟨.hbm, 164, rfl⟩
abbrev main_cst_13 : Ref sig .tc := ⟨.hbm, 165, rfl⟩
abbrev main_v145 : Ref sig .tc := ⟨.hbm, 166, rfl⟩
abbrev main_cst_14 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_c_15 : Ref sig .tc := ⟨.hbm, 173, rfl⟩
abbrev main_v151 : Ref sig .tc := ⟨.hbm, 174, rfl⟩
abbrev main_v152 : Ref sig .tc := ⟨.hbm, 175, rfl⟩
abbrev main_c_16 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_c_17 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_c_18 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_c_19 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_c_20 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_c_21 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_c_22 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_c_23 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_c_24 : Ref sig .tc := ⟨.hbm, 221, rfl⟩
abbrev main_v190 : Ref sig .tc := ⟨.hbm, 222, rfl⟩
abbrev main_v191 : Ref sig .tc := ⟨.hbm, 223, rfl⟩
abbrev main_c_25 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_cst_26 : Ref sig .tc := ⟨.hbm, 231, rfl⟩
abbrev main_v198 : Ref sig .tc := ⟨.hbm, 232, rfl⟩
abbrev main_v199 : Ref sig .tc := ⟨.hbm, 233, rfl⟩
abbrev main_cst_27 : Ref sig .tc := ⟨.hbm, 234, rfl⟩
abbrev main_call2_v0 : Ref sig .tc := ⟨.hbm, 235, rfl⟩
abbrev main_call2_v1 : Ref sig .tc := ⟨.hbm, 236, rfl⟩
abbrev main_v200 : Ref sig .tc := ⟨.hbm, 237, rfl⟩
abbrev main_cst_28 : Ref sig .tc := ⟨.hbm, 238, rfl⟩
abbrev main_v201 : Ref sig .tc := ⟨.hbm, 239, rfl⟩
abbrev main_call3_v0 : Ref sig .tc := ⟨.hbm, 240, rfl⟩
abbrev main_call3_cst : Ref sig .tc := ⟨.hbm, 241, rfl⟩
abbrev main_call3_v1 : Ref sig .tc := ⟨.hbm, 242, rfl⟩
abbrev main_v202 : Ref sig .tc := ⟨.hbm, 243, rfl⟩
abbrev main_cst_29 : Ref sig .tc := ⟨.hbm, 244, rfl⟩
abbrev main_call4_v0 : Ref sig .tc := ⟨.hbm, 245, rfl⟩
abbrev main_call4_v1 : Ref sig .tc := ⟨.hbm, 246, rfl⟩
abbrev main_v203 : Ref sig .tc := ⟨.hbm, 247, rfl⟩
abbrev main_c_30 : Ref sig .tc := ⟨.hbm, 248, rfl⟩
abbrev main_v204 : Ref sig .tc := ⟨.hbm, 249, rfl⟩
abbrev main_v205 : Ref sig .tc := ⟨.hbm, 250, rfl⟩
abbrev main_c_31 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_cst_32 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_c_33 : Ref sig .tc := ⟨.hbm, 273, rfl⟩
abbrev main_v226 : Ref sig .tc := ⟨.hbm, 274, rfl⟩
abbrev main_v227 : Ref sig .tc := ⟨.hbm, 275, rfl⟩
abbrev main_c_34 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_c_35 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_c_36 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_c_37 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_c_38 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_c_39 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_c_40 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_c_41 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_c_42 : Ref sig .tc := ⟨.hbm, 321, rfl⟩
abbrev main_v265 : Ref sig .tc := ⟨.hbm, 322, rfl⟩
abbrev main_v266 : Ref sig .tc := ⟨.hbm, 323, rfl⟩
abbrev main_c_43 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_cst_44 : Ref sig .tc := ⟨.hbm, 331, rfl⟩
abbrev main_v273 : Ref sig .tc := ⟨.hbm, 332, rfl⟩
abbrev main_v274 : Ref sig .tc := ⟨.hbm, 333, rfl⟩
abbrev main_cst_45 : Ref sig .tc := ⟨.hbm, 334, rfl⟩
abbrev main_call5_v0 : Ref sig .tc := ⟨.hbm, 335, rfl⟩
abbrev main_call5_v1 : Ref sig .tc := ⟨.hbm, 336, rfl⟩
abbrev main_v275 : Ref sig .tc := ⟨.hbm, 337, rfl⟩
abbrev main_cst_46 : Ref sig .tc := ⟨.hbm, 338, rfl⟩
abbrev main_v276 : Ref sig .tc := ⟨.hbm, 339, rfl⟩
abbrev main_call6_v0 : Ref sig .tc := ⟨.hbm, 340, rfl⟩
abbrev main_call6_cst : Ref sig .tc := ⟨.hbm, 341, rfl⟩
abbrev main_call6_v1 : Ref sig .tc := ⟨.hbm, 342, rfl⟩
abbrev main_v277 : Ref sig .tc := ⟨.hbm, 343, rfl⟩
abbrev main_cst_47 : Ref sig .tc := ⟨.hbm, 344, rfl⟩
abbrev main_call7_v0 : Ref sig .tc := ⟨.hbm, 345, rfl⟩
abbrev main_call7_v1 : Ref sig .tc := ⟨.hbm, 346, rfl⟩
abbrev main_v278 : Ref sig .tc := ⟨.hbm, 347, rfl⟩
abbrev main_c_48 : Ref sig .tc := ⟨.hbm, 348, rfl⟩
abbrev main_v279 : Ref sig .tc := ⟨.hbm, 349, rfl⟩
abbrev main_v280 : Ref sig .tc := ⟨.hbm, 350, rfl⟩
abbrev main_c_49 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_cst_50 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_c_51 : Ref sig .tc := ⟨.hbm, 373, rfl⟩
abbrev main_v301 : Ref sig .tc := ⟨.hbm, 374, rfl⟩
abbrev main_v302 : Ref sig .tc := ⟨.hbm, 375, rfl⟩
abbrev main_c_52 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_c_53 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_c_54 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_c_55 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_c_56 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_c_57 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_c_58 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_c_59 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_c_60 : Ref sig .tc := ⟨.hbm, 421, rfl⟩
abbrev main_v340 : Ref sig .tc := ⟨.hbm, 422, rfl⟩
abbrev main_v341 : Ref sig .tc := ⟨.hbm, 423, rfl⟩
abbrev main_c_61 : Ref sig .tc := ⟨.hbm, 424, rfl⟩
abbrev main_v342 : Ref sig .tc := ⟨.hbm, 425, rfl⟩
abbrev main_v343 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_cst_62 : Ref sig .tc := ⟨.hbm, 431, rfl⟩
abbrev main_v348 : Ref sig .tc := ⟨.hbm, 432, rfl⟩
abbrev main_v349 : Ref sig .tc := ⟨.hbm, 433, rfl⟩
abbrev main_cst_63 : Ref sig .tc := ⟨.hbm, 434, rfl⟩
abbrev main_call8_v0 : Ref sig .tc := ⟨.hbm, 435, rfl⟩
abbrev main_call8_v1 : Ref sig .tc := ⟨.hbm, 436, rfl⟩
abbrev main_v350 : Ref sig .tc := ⟨.hbm, 437, rfl⟩
abbrev main_cst_64 : Ref sig .tc := ⟨.hbm, 438, rfl⟩
abbrev main_v351 : Ref sig .tc := ⟨.hbm, 439, rfl⟩
abbrev main_call9_v0 : Ref sig .tc := ⟨.hbm, 440, rfl⟩
abbrev main_call9_cst : Ref sig .tc := ⟨.hbm, 441, rfl⟩
abbrev main_call9_v1 : Ref sig .tc := ⟨.hbm, 442, rfl⟩
abbrev main_v352 : Ref sig .tc := ⟨.hbm, 443, rfl⟩
abbrev main_cst_65 : Ref sig .tc := ⟨.hbm, 444, rfl⟩
abbrev main_call10_v0 : Ref sig .tc := ⟨.hbm, 445, rfl⟩
abbrev main_call10_v1 : Ref sig .tc := ⟨.hbm, 446, rfl⟩
abbrev main_v353 : Ref sig .tc := ⟨.hbm, 447, rfl⟩
abbrev main_c_66 : Ref sig .tc := ⟨.hbm, 448, rfl⟩
abbrev main_v354 : Ref sig .tc := ⟨.hbm, 449, rfl⟩
abbrev main_v355 : Ref sig .tc := ⟨.hbm, 450, rfl⟩
abbrev main_c_67 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_v369 : Ref sig .tc := ⟨.hbm, 465, rfl⟩
abbrev main_v370 : Ref sig .tc := ⟨.hbm, 466, rfl⟩
abbrev main_cst_68 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_v375 : Ref sig .tc := ⟨.hbm, 472, rfl⟩
abbrev main_c_69 : Ref sig .tc := ⟨.hbm, 473, rfl⟩
abbrev main_v376 : Ref sig .tc := ⟨.hbm, 474, rfl⟩
abbrev main_v377 : Ref sig .tc := ⟨.hbm, 475, rfl⟩
abbrev main_c_70 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_c_71 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_c_72 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_c_73 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_c_74 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_c_75 : Ref sig .tc := ⟨.hbm, 505, rfl⟩
abbrev main_v402 : Ref sig .tc := ⟨.hbm, 506, rfl⟩
abbrev main_v403 : Ref sig .tc := ⟨.hbm, 507, rfl⟩
abbrev main_v404 : Ref sig .tc := ⟨.hbm, 508, rfl⟩
abbrev main_v405 : Ref sig .tc := ⟨.hbm, 509, rfl⟩
abbrev main_v406 : Ref sig .tc := ⟨.hbm, 510, rfl⟩
abbrev main_c_76 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_c_77 : Ref sig .tc := ⟨.hbm, 517, rfl⟩
abbrev main_v412 : Ref sig .tc := ⟨.hbm, 518, rfl⟩
abbrev main_v413 : Ref sig .tc := ⟨.hbm, 519, rfl⟩
abbrev main_v414 : Ref sig .tc := ⟨.hbm, 520, rfl⟩
abbrev main_c_78 : Ref sig .tc := ⟨.hbm, 521, rfl⟩
abbrev main_v415 : Ref sig .tc := ⟨.hbm, 522, rfl⟩
abbrev main_v416 : Ref sig .tc := ⟨.hbm, 523, rfl⟩
abbrev main_c_79 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_v420 : Ref sig .tc := ⟨.hbm, 528, rfl⟩
abbrev main_v421 : Ref sig .tc := ⟨.hbm, 529, rfl⟩
abbrev main_v422 : Ref sig .tc := ⟨.hbm, 530, rfl⟩
abbrev main_cst_80 : Ref sig .tc := ⟨.hbm, 531, rfl⟩
abbrev main_v423 : Ref sig .tc := ⟨.hbm, 532, rfl⟩
abbrev main_v424 : Ref sig .tc := ⟨.hbm, 533, rfl⟩
abbrev main_cst_81 : Ref sig .tc := ⟨.hbm, 534, rfl⟩
abbrev main_call11_v0 : Ref sig .tc := ⟨.hbm, 535, rfl⟩
abbrev main_call11_v1 : Ref sig .tc := ⟨.hbm, 536, rfl⟩
abbrev main_v425 : Ref sig .tc := ⟨.hbm, 537, rfl⟩
abbrev main_cst_82 : Ref sig .tc := ⟨.hbm, 538, rfl⟩
abbrev main_v426 : Ref sig .tc := ⟨.hbm, 539, rfl⟩
abbrev main_call12_v0 : Ref sig .tc := ⟨.hbm, 540, rfl⟩
abbrev main_call12_cst : Ref sig .tc := ⟨.hbm, 541, rfl⟩
abbrev main_call12_v1 : Ref sig .tc := ⟨.hbm, 542, rfl⟩
abbrev main_v427 : Ref sig .tc := ⟨.hbm, 543, rfl⟩
abbrev main_cst_83 : Ref sig .tc := ⟨.hbm, 544, rfl⟩
abbrev main_call13_v0 : Ref sig .tc := ⟨.hbm, 545, rfl⟩
abbrev main_call13_v1 : Ref sig .tc := ⟨.hbm, 546, rfl⟩
abbrev main_v428 : Ref sig .tc := ⟨.hbm, 547, rfl⟩
abbrev main_c_84 : Ref sig .tc := ⟨.hbm, 548, rfl⟩
abbrev main_v429 : Ref sig .tc := ⟨.hbm, 549, rfl⟩
abbrev main_v430 : Ref sig .tc := ⟨.hbm, 550, rfl⟩
abbrev main_c_85 : Ref sig .tc := ⟨.hbm, 551, rfl⟩
abbrev main_v431 : Ref sig .tc := ⟨.hbm, 552, rfl⟩
abbrev main_v432 : Ref sig .tc := ⟨.hbm, 553, rfl⟩
abbrev main_v433 : Ref sig .tc := ⟨.hbm, 554, rfl⟩
abbrev main_v434 : Ref sig .tc := ⟨.hbm, 555, rfl⟩
abbrev main_v435 : Ref sig .tc := ⟨.hbm, 556, rfl⟩
abbrev main_v436 : Ref sig .tc := ⟨.hbm, 557, rfl⟩
abbrev main_v437 : Ref sig .tc := ⟨.hbm, 558, rfl⟩
abbrev main_v438 : Ref sig .tc := ⟨.hbm, 559, rfl⟩
abbrev main_v439 : Ref sig .tc := ⟨.hbm, 560, rfl⟩
abbrev main_v440 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_cst_86 : Ref sig .tc := ⟨.hbm, 567, rfl⟩
abbrev main_v446 : Ref sig .tc := ⟨.hbm, 568, rfl⟩
abbrev main_v447 : Ref sig .tc := ⟨.hbm, 569, rfl⟩
abbrev main_v448 : Ref sig .tc := ⟨.hbm, 570, rfl⟩
abbrev main_v449 : Ref sig .tc := ⟨.hbm, 571, rfl⟩
abbrev main_v450 : Ref sig .tc := ⟨.hbm, 572, rfl⟩
abbrev main_c_87 : Ref sig .tc := ⟨.hbm, 573, rfl⟩
abbrev main_v451 : Ref sig .tc := ⟨.hbm, 574, rfl⟩
abbrev main_v452 : Ref sig .tc := ⟨.hbm, 575, rfl⟩
abbrev main_c_88 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_v456 : Ref sig .tc := ⟨.hbm, 580, rfl⟩
abbrev main_c_89 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_v461 : Ref sig .tc := ⟨.hbm, 586, rfl⟩
abbrev main_c_90 : Ref sig .tc := ⟨.hbm, 587, rfl⟩
abbrev main_v462 : Ref sig .tc := ⟨.hbm, 588, rfl⟩
abbrev main_v463 : Ref sig .tc := ⟨.hbm, 589, rfl⟩
abbrev main_v464 : Ref sig .tc := ⟨.hbm, 590, rfl⟩
abbrev main_v465 : Ref sig .tc := ⟨.hbm, 591, rfl⟩
abbrev main_v466 : Ref sig .tc := ⟨.hbm, 592, rfl⟩
abbrev main_c_91 : Ref sig .tc := ⟨.hbm, 593, rfl⟩
abbrev main_v467 : Ref sig .tc := ⟨.hbm, 594, rfl⟩
abbrev main_v468 : Ref sig .tc := ⟨.hbm, 595, rfl⟩
abbrev main_v469 : Ref sig .tc := ⟨.hbm, 596, rfl⟩
abbrev main_v470 : Ref sig .tc := ⟨.hbm, 597, rfl⟩
abbrev main_v471 : Ref sig .tc := ⟨.hbm, 598, rfl⟩
abbrev main_c_92 : Ref sig .tc := ⟨.hbm, 599, rfl⟩
abbrev main_v472 : Ref sig .tc := ⟨.hbm, 600, rfl⟩
abbrev main_v473 : Ref sig .tc := ⟨.hbm, 601, rfl⟩
abbrev main_v474 : Ref sig .tc := ⟨.hbm, 602, rfl⟩
abbrev main_v475 : Ref sig .tc := ⟨.hbm, 603, rfl⟩
abbrev main_v476 : Ref sig .tc := ⟨.hbm, 604, rfl⟩
abbrev main_c_93 : Ref sig .tc := ⟨.hbm, 605, rfl⟩
abbrev main_v477 : Ref sig .tc := ⟨.hbm, 606, rfl⟩
abbrev main_v478 : Ref sig .tc := ⟨.hbm, 607, rfl⟩
abbrev main_v479 : Ref sig .tc := ⟨.hbm, 608, rfl⟩
abbrev main_v480 : Ref sig .tc := ⟨.hbm, 609, rfl⟩
abbrev main_v481 : Ref sig .tc := ⟨.hbm, 610, rfl⟩
abbrev main_c_94 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_v485 : Ref sig .tc := ⟨.hbm, 615, rfl⟩
abbrev main_v486 : Ref sig .tc := ⟨.hbm, 616, rfl⟩
abbrev main_c_95 : Ref sig .tc := ⟨.hbm, 617, rfl⟩
abbrev main_v487 : Ref sig .tc := ⟨.hbm, 618, rfl⟩
abbrev main_v488 : Ref sig .tc := ⟨.hbm, 619, rfl⟩
abbrev main_v489 : Ref sig .tc := ⟨.hbm, 620, rfl⟩
abbrev main_c_96 : Ref sig .tc := ⟨.hbm, 621, rfl⟩
abbrev main_v490 : Ref sig .tc := ⟨.hbm, 622, rfl⟩
abbrev main_v491 : Ref sig .tc := ⟨.hbm, 623, rfl⟩
abbrev main_c_97 : Ref sig .tc := ⟨.hbm, 624, rfl⟩
abbrev main_v492 : Ref sig .tc := ⟨.hbm, 625, rfl⟩
abbrev main_v493 : Ref sig .tc := ⟨.hbm, 626, rfl⟩
abbrev main_v494 : Ref sig .tc := ⟨.hbm, 627, rfl⟩
abbrev main_v495 : Ref sig .tc := ⟨.hbm, 628, rfl⟩
abbrev main_v496 : Ref sig .tc := ⟨.hbm, 629, rfl⟩
abbrev main_v497 : Ref sig .tc := ⟨.hbm, 630, rfl⟩
abbrev main_cst_98 : Ref sig .tc := ⟨.hbm, 631, rfl⟩
abbrev main_v498 : Ref sig .tc := ⟨.hbm, 632, rfl⟩
abbrev main_v499 : Ref sig .tc := ⟨.hbm, 633, rfl⟩
abbrev main_cst_99 : Ref sig .tc := ⟨.hbm, 634, rfl⟩
abbrev main_call14_v0 : Ref sig .tc := ⟨.hbm, 635, rfl⟩
abbrev main_call14_v1 : Ref sig .tc := ⟨.hbm, 636, rfl⟩
abbrev main_v500 : Ref sig .tc := ⟨.hbm, 637, rfl⟩
abbrev main_cst_100 : Ref sig .tc := ⟨.hbm, 638, rfl⟩
abbrev main_v501 : Ref sig .tc := ⟨.hbm, 639, rfl⟩
abbrev main_call15_v0 : Ref sig .tc := ⟨.hbm, 640, rfl⟩
abbrev main_call15_cst : Ref sig .tc := ⟨.hbm, 641, rfl⟩
abbrev main_call15_v1 : Ref sig .tc := ⟨.hbm, 642, rfl⟩
abbrev main_v502 : Ref sig .tc := ⟨.hbm, 643, rfl⟩
abbrev main_cst_101 : Ref sig .tc := ⟨.hbm, 644, rfl⟩
abbrev main_call16_v0 : Ref sig .tc := ⟨.hbm, 645, rfl⟩
abbrev main_call16_v1 : Ref sig .tc := ⟨.hbm, 646, rfl⟩
abbrev main_v503 : Ref sig .tc := ⟨.hbm, 647, rfl⟩
abbrev main_c_102 : Ref sig .tc := ⟨.hbm, 648, rfl⟩
abbrev main_v504 : Ref sig .tc := ⟨.hbm, 649, rfl⟩
abbrev main_v505 : Ref sig .tc := ⟨.hbm, 650, rfl⟩
abbrev main_c_103 : Ref sig .tc := ⟨.hbm, 651, rfl⟩
abbrev main_v506 : Ref sig .tc := ⟨.hbm, 652, rfl⟩
abbrev main_v507 : Ref sig .tc := ⟨.hbm, 653, rfl⟩
abbrev main_v508 : Ref sig .tc := ⟨.hbm, 654, rfl⟩
abbrev main_v509 : Ref sig .tc := ⟨.hbm, 655, rfl⟩
abbrev main_v510 : Ref sig .tc := ⟨.hbm, 656, rfl⟩
abbrev main_v511 : Ref sig .tc := ⟨.hbm, 657, rfl⟩
abbrev main_v512 : Ref sig .tc := ⟨.hbm, 658, rfl⟩
abbrev main_v513 : Ref sig .tc := ⟨.hbm, 659, rfl⟩
abbrev main_v514 : Ref sig .tc := ⟨.hbm, 660, rfl⟩
abbrev main_v515 : Ref sig .tc := ⟨.hbm, 661, rfl⟩
abbrev main_v516 : Ref sig .tc := ⟨.hbm, 662, rfl⟩
abbrev main_v517 : Ref sig .tc := ⟨.hbm, 663, rfl⟩
abbrev main_v518 : Ref sig .tc := ⟨.hbm, 664, rfl⟩
abbrev main_v519 : Ref sig .tc := ⟨.hbm, 665, rfl⟩
abbrev main_v520 : Ref sig .tc := ⟨.hbm, 666, rfl⟩
abbrev main_cst_104 : Ref sig .tc := ⟨.hbm, 667, rfl⟩
abbrev main_v521 : Ref sig .tc := ⟨.hbm, 668, rfl⟩
abbrev main_v522 : Ref sig .tc := ⟨.hbm, 669, rfl⟩
abbrev main_v523 : Ref sig .tc := ⟨.hbm, 670, rfl⟩
abbrev main_v524 : Ref sig .tc := ⟨.hbm, 671, rfl⟩
abbrev main_v525 : Ref sig .tc := ⟨.hbm, 672, rfl⟩
abbrev main_c_105 : Ref sig .tc := ⟨.hbm, 673, rfl⟩
abbrev main_v526 : Ref sig .tc := ⟨.hbm, 674, rfl⟩
abbrev main_v527 : Ref sig .tc := ⟨.hbm, 675, rfl⟩
abbrev main_c_106 : Ref sig .tc := ⟨.hbm, 676, rfl⟩
abbrev main_v528 : Ref sig .tc := ⟨.hbm, 677, rfl⟩
abbrev main_v529 : Ref sig .tc := ⟨.hbm, 678, rfl⟩
abbrev main_v530 : Ref sig .tc := ⟨.hbm, 679, rfl⟩
abbrev main_v531 : Ref sig .tc := ⟨.hbm, 680, rfl⟩
abbrev main_c_107 : Ref sig .tc := ⟨.hbm, 681, rfl⟩
abbrev main_v532 : Ref sig .tc := ⟨.hbm, 682, rfl⟩
abbrev main_v533 : Ref sig .tc := ⟨.hbm, 683, rfl⟩
abbrev main_v534 : Ref sig .tc := ⟨.hbm, 684, rfl⟩
abbrev main_v535 : Ref sig .tc := ⟨.hbm, 685, rfl⟩
abbrev main_v536 : Ref sig .tc := ⟨.hbm, 686, rfl⟩
abbrev main_c_108 : Ref sig .tc := ⟨.hbm, 687, rfl⟩
abbrev main_v537 : Ref sig .tc := ⟨.hbm, 688, rfl⟩
abbrev main_v538 : Ref sig .tc := ⟨.hbm, 689, rfl⟩
abbrev main_v539 : Ref sig .tc := ⟨.hbm, 690, rfl⟩
abbrev main_v540 : Ref sig .tc := ⟨.hbm, 691, rfl⟩
abbrev main_v541 : Ref sig .tc := ⟨.hbm, 692, rfl⟩
abbrev main_c_109 : Ref sig .tc := ⟨.hbm, 693, rfl⟩
abbrev main_v542 : Ref sig .tc := ⟨.hbm, 694, rfl⟩
abbrev main_v543 : Ref sig .tc := ⟨.hbm, 695, rfl⟩
abbrev main_v544 : Ref sig .tc := ⟨.hbm, 696, rfl⟩
abbrev main_v545 : Ref sig .tc := ⟨.hbm, 697, rfl⟩
abbrev main_v546 : Ref sig .tc := ⟨.hbm, 698, rfl⟩
abbrev main_c_110 : Ref sig .tc := ⟨.hbm, 699, rfl⟩
abbrev main_v547 : Ref sig .tc := ⟨.hbm, 700, rfl⟩
abbrev main_v548 : Ref sig .tc := ⟨.hbm, 701, rfl⟩
abbrev main_v549 : Ref sig .tc := ⟨.hbm, 702, rfl⟩
abbrev main_v550 : Ref sig .tc := ⟨.hbm, 703, rfl⟩
abbrev main_v551 : Ref sig .tc := ⟨.hbm, 704, rfl⟩
abbrev main_c_111 : Ref sig .tc := ⟨.hbm, 705, rfl⟩
abbrev main_v552 : Ref sig .tc := ⟨.hbm, 706, rfl⟩
abbrev main_v553 : Ref sig .tc := ⟨.hbm, 707, rfl⟩
abbrev main_v554 : Ref sig .tc := ⟨.hbm, 708, rfl⟩
abbrev main_v555 : Ref sig .tc := ⟨.hbm, 709, rfl⟩
abbrev main_v556 : Ref sig .tc := ⟨.hbm, 710, rfl⟩
abbrev main_c_112 : Ref sig .tc := ⟨.hbm, 711, rfl⟩
abbrev main_v557 : Ref sig .tc := ⟨.hbm, 712, rfl⟩
abbrev main_v558 : Ref sig .tc := ⟨.hbm, 713, rfl⟩
abbrev main_v559 : Ref sig .tc := ⟨.hbm, 714, rfl⟩
abbrev main_v560 : Ref sig .tc := ⟨.hbm, 715, rfl⟩
abbrev main_v561 : Ref sig .tc := ⟨.hbm, 716, rfl⟩
abbrev main_c_113 : Ref sig .tc := ⟨.hbm, 717, rfl⟩
abbrev main_v562 : Ref sig .tc := ⟨.hbm, 718, rfl⟩
abbrev main_v563 : Ref sig .tc := ⟨.hbm, 719, rfl⟩
abbrev main_v564 : Ref sig .tc := ⟨.hbm, 720, rfl⟩
abbrev main_c_114 : Ref sig .tc := ⟨.hbm, 721, rfl⟩
abbrev main_v565 : Ref sig .tc := ⟨.hbm, 722, rfl⟩
abbrev main_v566 : Ref sig .tc := ⟨.hbm, 723, rfl⟩
abbrev main_c_115 : Ref sig .tc := ⟨.hbm, 724, rfl⟩
abbrev main_v567 : Ref sig .tc := ⟨.hbm, 725, rfl⟩
abbrev main_v568 : Ref sig .tc := ⟨.hbm, 726, rfl⟩
abbrev main_v569 : Ref sig .tc := ⟨.hbm, 727, rfl⟩
abbrev main_v570 : Ref sig .tc := ⟨.hbm, 728, rfl⟩
abbrev main_v571 : Ref sig .tc := ⟨.hbm, 729, rfl⟩
abbrev main_v572 : Ref sig .tc := ⟨.hbm, 730, rfl⟩
abbrev main_cst_116 : Ref sig .tc := ⟨.hbm, 731, rfl⟩
abbrev main_v573 : Ref sig .tc := ⟨.hbm, 732, rfl⟩
abbrev main_v574 : Ref sig .tc := ⟨.hbm, 733, rfl⟩
abbrev main_cst_117 : Ref sig .tc := ⟨.hbm, 734, rfl⟩
abbrev main_call17_v0 : Ref sig .tc := ⟨.hbm, 735, rfl⟩
abbrev main_call17_v1 : Ref sig .tc := ⟨.hbm, 736, rfl⟩
abbrev main_v575 : Ref sig .tc := ⟨.hbm, 737, rfl⟩
abbrev main_cst_118 : Ref sig .tc := ⟨.hbm, 738, rfl⟩
abbrev main_v576 : Ref sig .tc := ⟨.hbm, 739, rfl⟩
abbrev main_call18_v0 : Ref sig .tc := ⟨.hbm, 740, rfl⟩
abbrev main_call18_cst : Ref sig .tc := ⟨.hbm, 741, rfl⟩
abbrev main_call18_v1 : Ref sig .tc := ⟨.hbm, 742, rfl⟩
abbrev main_v577 : Ref sig .tc := ⟨.hbm, 743, rfl⟩
abbrev main_cst_119 : Ref sig .tc := ⟨.hbm, 744, rfl⟩
abbrev main_call19_v0 : Ref sig .tc := ⟨.hbm, 745, rfl⟩
abbrev main_call19_v1 : Ref sig .tc := ⟨.hbm, 746, rfl⟩
abbrev main_v578 : Ref sig .tc := ⟨.hbm, 747, rfl⟩
abbrev main_c_120 : Ref sig .tc := ⟨.hbm, 748, rfl⟩
abbrev main_v579 : Ref sig .tc := ⟨.hbm, 749, rfl⟩
abbrev main_v580 : Ref sig .tc := ⟨.hbm, 750, rfl⟩
abbrev main_c_121 : Ref sig .tc := ⟨.hbm, 751, rfl⟩
abbrev main_v581 : Ref sig .tc := ⟨.hbm, 752, rfl⟩
abbrev main_v582 : Ref sig .tc := ⟨.hbm, 753, rfl⟩
abbrev main_v583 : Ref sig .tc := ⟨.hbm, 754, rfl⟩
abbrev main_v584 : Ref sig .tc := ⟨.hbm, 755, rfl⟩
abbrev main_v585 : Ref sig .tc := ⟨.hbm, 756, rfl⟩
abbrev main_v586 : Ref sig .tc := ⟨.hbm, 757, rfl⟩
abbrev main_v587 : Ref sig .tc := ⟨.hbm, 758, rfl⟩
abbrev main_v588 : Ref sig .tc := ⟨.hbm, 759, rfl⟩
abbrev main_v589 : Ref sig .tc := ⟨.hbm, 760, rfl⟩
abbrev main_v590 : Ref sig .tc := ⟨.hbm, 761, rfl⟩
abbrev main_v591 : Ref sig .tc := ⟨.hbm, 762, rfl⟩
abbrev main_v592 : Ref sig .tc := ⟨.hbm, 763, rfl⟩
abbrev main_v593 : Ref sig .tc := ⟨.hbm, 764, rfl⟩
abbrev main_v594 : Ref sig .tc := ⟨.hbm, 765, rfl⟩
abbrev main_v595 : Ref sig .tc := ⟨.hbm, 766, rfl⟩
abbrev main_cst_122 : Ref sig .tc := ⟨.hbm, 767, rfl⟩
abbrev main_v596 : Ref sig .tc := ⟨.hbm, 768, rfl⟩
abbrev main_v597 : Ref sig .tc := ⟨.hbm, 769, rfl⟩
abbrev main_v598 : Ref sig .tc := ⟨.hbm, 770, rfl⟩
abbrev main_v599 : Ref sig .tc := ⟨.hbm, 771, rfl⟩
abbrev main_v600 : Ref sig .tc := ⟨.hbm, 772, rfl⟩
abbrev main_c_123 : Ref sig .tc := ⟨.hbm, 773, rfl⟩
abbrev main_v601 : Ref sig .tc := ⟨.hbm, 774, rfl⟩
abbrev main_v602 : Ref sig .tc := ⟨.hbm, 775, rfl⟩
abbrev main_c_124 : Ref sig .tc := ⟨.hbm, 776, rfl⟩
abbrev main_v603 : Ref sig .tc := ⟨.hbm, 777, rfl⟩
abbrev main_v604 : Ref sig .tc := ⟨.hbm, 778, rfl⟩
abbrev main_v605 : Ref sig .tc := ⟨.hbm, 779, rfl⟩
abbrev main_v606 : Ref sig .tc := ⟨.hbm, 780, rfl⟩
abbrev main_c_125 : Ref sig .tc := ⟨.hbm, 781, rfl⟩
abbrev main_v607 : Ref sig .tc := ⟨.hbm, 782, rfl⟩
abbrev main_v608 : Ref sig .tc := ⟨.hbm, 783, rfl⟩
abbrev main_v609 : Ref sig .tc := ⟨.hbm, 784, rfl⟩
abbrev main_v610 : Ref sig .tc := ⟨.hbm, 785, rfl⟩
abbrev main_v611 : Ref sig .tc := ⟨.hbm, 786, rfl⟩
abbrev main_c_126 : Ref sig .tc := ⟨.hbm, 787, rfl⟩
abbrev main_v612 : Ref sig .tc := ⟨.hbm, 788, rfl⟩
abbrev main_v613 : Ref sig .tc := ⟨.hbm, 789, rfl⟩
abbrev main_v614 : Ref sig .tc := ⟨.hbm, 790, rfl⟩
abbrev main_v615 : Ref sig .tc := ⟨.hbm, 791, rfl⟩
abbrev main_v616 : Ref sig .tc := ⟨.hbm, 792, rfl⟩
abbrev main_c_127 : Ref sig .tc := ⟨.hbm, 793, rfl⟩
abbrev main_v617 : Ref sig .tc := ⟨.hbm, 794, rfl⟩
abbrev main_v618 : Ref sig .tc := ⟨.hbm, 795, rfl⟩
abbrev main_v619 : Ref sig .tc := ⟨.hbm, 796, rfl⟩
abbrev main_v620 : Ref sig .tc := ⟨.hbm, 797, rfl⟩
abbrev main_v621 : Ref sig .tc := ⟨.hbm, 798, rfl⟩
abbrev main_c_128 : Ref sig .tc := ⟨.hbm, 799, rfl⟩
abbrev main_v622 : Ref sig .tc := ⟨.hbm, 800, rfl⟩
abbrev main_v623 : Ref sig .tc := ⟨.hbm, 801, rfl⟩
abbrev main_v624 : Ref sig .tc := ⟨.hbm, 802, rfl⟩
abbrev main_v625 : Ref sig .tc := ⟨.hbm, 803, rfl⟩
abbrev main_v626 : Ref sig .tc := ⟨.hbm, 804, rfl⟩
abbrev main_c_129 : Ref sig .tc := ⟨.hbm, 805, rfl⟩
abbrev main_v627 : Ref sig .tc := ⟨.hbm, 806, rfl⟩
abbrev main_v628 : Ref sig .tc := ⟨.hbm, 807, rfl⟩
abbrev main_v629 : Ref sig .tc := ⟨.hbm, 808, rfl⟩
abbrev main_v630 : Ref sig .tc := ⟨.hbm, 809, rfl⟩
abbrev main_v631 : Ref sig .tc := ⟨.hbm, 810, rfl⟩
abbrev main_c_130 : Ref sig .tc := ⟨.hbm, 811, rfl⟩
abbrev main_v632 : Ref sig .tc := ⟨.hbm, 812, rfl⟩
abbrev main_v633 : Ref sig .tc := ⟨.hbm, 813, rfl⟩
abbrev main_v634 : Ref sig .tc := ⟨.hbm, 814, rfl⟩
abbrev main_v635 : Ref sig .tc := ⟨.hbm, 815, rfl⟩
abbrev main_v636 : Ref sig .tc := ⟨.hbm, 816, rfl⟩
abbrev main_c_131 : Ref sig .tc := ⟨.hbm, 817, rfl⟩
abbrev main_v637 : Ref sig .tc := ⟨.hbm, 818, rfl⟩
abbrev main_v638 : Ref sig .tc := ⟨.hbm, 819, rfl⟩
abbrev main_v639 : Ref sig .tc := ⟨.hbm, 820, rfl⟩
abbrev main_c_132 : Ref sig .tc := ⟨.hbm, 821, rfl⟩
abbrev main_v640 : Ref sig .tc := ⟨.hbm, 822, rfl⟩
abbrev main_v641 : Ref sig .tc := ⟨.hbm, 823, rfl⟩
abbrev main_c_133 : Ref sig .tc := ⟨.hbm, 824, rfl⟩
abbrev main_v642 : Ref sig .tc := ⟨.hbm, 825, rfl⟩
abbrev main_v643 : Ref sig .tc := ⟨.hbm, 826, rfl⟩
abbrev main_v644 : Ref sig .tc := ⟨.hbm, 827, rfl⟩
abbrev main_v645 : Ref sig .tc := ⟨.hbm, 828, rfl⟩
abbrev main_v646 : Ref sig .tc := ⟨.hbm, 829, rfl⟩
abbrev main_v647 : Ref sig .tc := ⟨.hbm, 830, rfl⟩
abbrev main_cst_134 : Ref sig .tc := ⟨.hbm, 831, rfl⟩
abbrev main_v648 : Ref sig .tc := ⟨.hbm, 832, rfl⟩
abbrev main_v649 : Ref sig .tc := ⟨.hbm, 833, rfl⟩
abbrev main_cst_135 : Ref sig .tc := ⟨.hbm, 834, rfl⟩
abbrev main_call20_v0 : Ref sig .tc := ⟨.hbm, 835, rfl⟩
abbrev main_call20_v1 : Ref sig .tc := ⟨.hbm, 836, rfl⟩
abbrev main_v650 : Ref sig .tc := ⟨.hbm, 837, rfl⟩
abbrev main_cst_136 : Ref sig .tc := ⟨.hbm, 838, rfl⟩
abbrev main_v651 : Ref sig .tc := ⟨.hbm, 839, rfl⟩
abbrev main_call21_v0 : Ref sig .tc := ⟨.hbm, 840, rfl⟩
abbrev main_call21_cst : Ref sig .tc := ⟨.hbm, 841, rfl⟩
abbrev main_call21_v1 : Ref sig .tc := ⟨.hbm, 842, rfl⟩
abbrev main_v652 : Ref sig .tc := ⟨.hbm, 843, rfl⟩
abbrev main_cst_137 : Ref sig .tc := ⟨.hbm, 844, rfl⟩
abbrev main_call22_v0 : Ref sig .tc := ⟨.hbm, 845, rfl⟩
abbrev main_call22_v1 : Ref sig .tc := ⟨.hbm, 846, rfl⟩
abbrev main_v653 : Ref sig .tc := ⟨.hbm, 847, rfl⟩
abbrev main_c_138 : Ref sig .tc := ⟨.hbm, 848, rfl⟩
abbrev main_v654 : Ref sig .tc := ⟨.hbm, 849, rfl⟩
abbrev main_v655 : Ref sig .tc := ⟨.hbm, 850, rfl⟩
abbrev main_c_139 : Ref sig .tc := ⟨.hbm, 851, rfl⟩
abbrev main_v656 : Ref sig .tc := ⟨.hbm, 852, rfl⟩
abbrev main_v657 : Ref sig .tc := ⟨.hbm, 853, rfl⟩
abbrev main_v658 : Ref sig .tc := ⟨.hbm, 854, rfl⟩
abbrev main_v659 : Ref sig .tc := ⟨.hbm, 855, rfl⟩
abbrev main_v660 : Ref sig .tc := ⟨.hbm, 856, rfl⟩
abbrev main_v661 : Ref sig .tc := ⟨.hbm, 857, rfl⟩
abbrev main_v662 : Ref sig .tc := ⟨.hbm, 858, rfl⟩
abbrev main_v663 : Ref sig .tc := ⟨.hbm, 859, rfl⟩
abbrev main_v664 : Ref sig .tc := ⟨.hbm, 860, rfl⟩
abbrev main_v665 : Ref sig .tc := ⟨.hbm, 861, rfl⟩
abbrev main_v666 : Ref sig .tc := ⟨.hbm, 862, rfl⟩
abbrev main_v667 : Ref sig .tc := ⟨.hbm, 863, rfl⟩
abbrev main_v668 : Ref sig .tc := ⟨.hbm, 864, rfl⟩
abbrev main_v669 : Ref sig .tc := ⟨.hbm, 865, rfl⟩
abbrev main_v670 : Ref sig .tc := ⟨.hbm, 866, rfl⟩
abbrev main_cst_140 : Ref sig .tc := ⟨.hbm, 867, rfl⟩
abbrev main_v671 : Ref sig .tc := ⟨.hbm, 868, rfl⟩
abbrev main_v672 : Ref sig .tc := ⟨.hbm, 869, rfl⟩
abbrev main_v673 : Ref sig .tc := ⟨.hbm, 870, rfl⟩
abbrev main_v674 : Ref sig .tc := ⟨.hbm, 871, rfl⟩
abbrev main_v675 : Ref sig .tc := ⟨.hbm, 872, rfl⟩
abbrev main_c_141 : Ref sig .tc := ⟨.hbm, 873, rfl⟩
abbrev main_v676 : Ref sig .tc := ⟨.hbm, 874, rfl⟩
abbrev main_v677 : Ref sig .tc := ⟨.hbm, 875, rfl⟩
abbrev main_c_142 : Ref sig .tc := ⟨.hbm, 876, rfl⟩
abbrev main_v678 : Ref sig .tc := ⟨.hbm, 877, rfl⟩
abbrev main_v679 : Ref sig .tc := ⟨.hbm, 878, rfl⟩
abbrev main_v680 : Ref sig .tc := ⟨.hbm, 879, rfl⟩
abbrev main_v681 : Ref sig .tc := ⟨.hbm, 880, rfl⟩
abbrev main_c_143 : Ref sig .tc := ⟨.hbm, 881, rfl⟩
abbrev main_v682 : Ref sig .tc := ⟨.hbm, 882, rfl⟩
abbrev main_v683 : Ref sig .tc := ⟨.hbm, 883, rfl⟩
abbrev main_v684 : Ref sig .tc := ⟨.hbm, 884, rfl⟩
abbrev main_v685 : Ref sig .tc := ⟨.hbm, 885, rfl⟩
abbrev main_v686 : Ref sig .tc := ⟨.hbm, 886, rfl⟩
abbrev main_c_144 : Ref sig .tc := ⟨.hbm, 887, rfl⟩
abbrev main_v687 : Ref sig .tc := ⟨.hbm, 888, rfl⟩
abbrev main_v688 : Ref sig .tc := ⟨.hbm, 889, rfl⟩
abbrev main_v689 : Ref sig .tc := ⟨.hbm, 890, rfl⟩
abbrev main_v690 : Ref sig .tc := ⟨.hbm, 891, rfl⟩
abbrev main_v691 : Ref sig .tc := ⟨.hbm, 892, rfl⟩
abbrev main_c_145 : Ref sig .tc := ⟨.hbm, 893, rfl⟩
abbrev main_v692 : Ref sig .tc := ⟨.hbm, 894, rfl⟩
abbrev main_v693 : Ref sig .tc := ⟨.hbm, 895, rfl⟩
abbrev main_v694 : Ref sig .tc := ⟨.hbm, 896, rfl⟩
abbrev main_v695 : Ref sig .tc := ⟨.hbm, 897, rfl⟩
abbrev main_v696 : Ref sig .tc := ⟨.hbm, 898, rfl⟩
abbrev main_c_146 : Ref sig .tc := ⟨.hbm, 899, rfl⟩
abbrev main_v697 : Ref sig .tc := ⟨.hbm, 900, rfl⟩
abbrev main_v698 : Ref sig .tc := ⟨.hbm, 901, rfl⟩
abbrev main_v699 : Ref sig .tc := ⟨.hbm, 902, rfl⟩
abbrev main_v700 : Ref sig .tc := ⟨.hbm, 903, rfl⟩
abbrev main_v701 : Ref sig .tc := ⟨.hbm, 904, rfl⟩
abbrev main_c_147 : Ref sig .tc := ⟨.hbm, 905, rfl⟩
abbrev main_v702 : Ref sig .tc := ⟨.hbm, 906, rfl⟩
abbrev main_v703 : Ref sig .tc := ⟨.hbm, 907, rfl⟩
abbrev main_v704 : Ref sig .tc := ⟨.hbm, 908, rfl⟩
abbrev main_v705 : Ref sig .tc := ⟨.hbm, 909, rfl⟩
abbrev main_v706 : Ref sig .tc := ⟨.hbm, 910, rfl⟩
abbrev main_c_148 : Ref sig .tc := ⟨.hbm, 911, rfl⟩
abbrev main_v707 : Ref sig .tc := ⟨.hbm, 912, rfl⟩
abbrev main_v708 : Ref sig .tc := ⟨.hbm, 913, rfl⟩
abbrev main_v709 : Ref sig .tc := ⟨.hbm, 914, rfl⟩
abbrev main_v710 : Ref sig .tc := ⟨.hbm, 915, rfl⟩
abbrev main_v711 : Ref sig .tc := ⟨.hbm, 916, rfl⟩
abbrev main_c_149 : Ref sig .tc := ⟨.hbm, 917, rfl⟩
abbrev main_v712 : Ref sig .tc := ⟨.hbm, 918, rfl⟩
abbrev main_v713 : Ref sig .tc := ⟨.hbm, 919, rfl⟩
abbrev main_v714 : Ref sig .tc := ⟨.hbm, 920, rfl⟩
abbrev main_c_150 : Ref sig .tc := ⟨.hbm, 921, rfl⟩
abbrev main_v715 : Ref sig .tc := ⟨.hbm, 922, rfl⟩
abbrev main_v716 : Ref sig .tc := ⟨.hbm, 923, rfl⟩
abbrev main_c_151 : Ref sig .tc := ⟨.hbm, 924, rfl⟩
abbrev main_v717 : Ref sig .tc := ⟨.hbm, 925, rfl⟩
abbrev main_v718 : Ref sig .tc := ⟨.hbm, 926, rfl⟩
abbrev main_v719 : Ref sig .tc := ⟨.hbm, 927, rfl⟩
abbrev main_v720 : Ref sig .tc := ⟨.hbm, 928, rfl⟩
abbrev main_v721 : Ref sig .tc := ⟨.hbm, 929, rfl⟩
abbrev main_v722 : Ref sig .tc := ⟨.hbm, 930, rfl⟩
abbrev main_cst_152 : Ref sig .tc := ⟨.hbm, 931, rfl⟩
abbrev main_v723 : Ref sig .tc := ⟨.hbm, 932, rfl⟩
abbrev main_v724 : Ref sig .tc := ⟨.hbm, 933, rfl⟩
abbrev main_cst_153 : Ref sig .tc := ⟨.hbm, 934, rfl⟩
abbrev main_call23_v0 : Ref sig .tc := ⟨.hbm, 935, rfl⟩
abbrev main_call23_v1 : Ref sig .tc := ⟨.hbm, 936, rfl⟩
abbrev main_v725 : Ref sig .tc := ⟨.hbm, 937, rfl⟩
abbrev main_cst_154 : Ref sig .tc := ⟨.hbm, 938, rfl⟩
abbrev main_v726 : Ref sig .tc := ⟨.hbm, 939, rfl⟩
abbrev main_call24_v0 : Ref sig .tc := ⟨.hbm, 940, rfl⟩
abbrev main_call24_cst : Ref sig .tc := ⟨.hbm, 941, rfl⟩
abbrev main_call24_v1 : Ref sig .tc := ⟨.hbm, 942, rfl⟩
abbrev main_v727 : Ref sig .tc := ⟨.hbm, 943, rfl⟩
abbrev main_cst_155 : Ref sig .tc := ⟨.hbm, 944, rfl⟩
abbrev main_call25_v0 : Ref sig .tc := ⟨.hbm, 945, rfl⟩
abbrev main_call25_v1 : Ref sig .tc := ⟨.hbm, 946, rfl⟩
abbrev main_v728 : Ref sig .tc := ⟨.hbm, 947, rfl⟩
abbrev main_c_156 : Ref sig .tc := ⟨.hbm, 948, rfl⟩
abbrev main_v729 : Ref sig .tc := ⟨.hbm, 949, rfl⟩
abbrev main_v730 : Ref sig .tc := ⟨.hbm, 950, rfl⟩
abbrev main_c_157 : Ref sig .tc := ⟨.hbm, 951, rfl⟩
abbrev main_v731 : Ref sig .tc := ⟨.hbm, 952, rfl⟩
abbrev main_v732 : Ref sig .tc := ⟨.hbm, 953, rfl⟩
abbrev main_v733 : Ref sig .tc := ⟨.hbm, 954, rfl⟩
abbrev main_v734 : Ref sig .tc := ⟨.hbm, 955, rfl⟩
abbrev main_v735 : Ref sig .tc := ⟨.hbm, 956, rfl⟩
abbrev main_v736 : Ref sig .tc := ⟨.hbm, 957, rfl⟩
abbrev main_v737 : Ref sig .tc := ⟨.hbm, 958, rfl⟩
abbrev main_v738 : Ref sig .tc := ⟨.hbm, 959, rfl⟩
abbrev main_v739 : Ref sig .tc := ⟨.hbm, 960, rfl⟩
abbrev main_v740 : Ref sig .tc := ⟨.hbm, 961, rfl⟩
abbrev main_v741 : Ref sig .tc := ⟨.hbm, 962, rfl⟩
abbrev main_v742 : Ref sig .tc := ⟨.hbm, 963, rfl⟩
abbrev main_v743 : Ref sig .tc := ⟨.hbm, 964, rfl⟩
abbrev main_v744 : Ref sig .tc := ⟨.hbm, 965, rfl⟩
abbrev main_v745 : Ref sig .tc := ⟨.hbm, 966, rfl⟩
abbrev main_cst_158 : Ref sig .tc := ⟨.hbm, 967, rfl⟩
abbrev main_v746 : Ref sig .tc := ⟨.hbm, 968, rfl⟩
abbrev main_v747 : Ref sig .tc := ⟨.hbm, 969, rfl⟩
abbrev main_v748 : Ref sig .tc := ⟨.hbm, 970, rfl⟩
abbrev main_v749 : Ref sig .tc := ⟨.hbm, 971, rfl⟩
abbrev main_v750 : Ref sig .tc := ⟨.hbm, 972, rfl⟩
abbrev main_c_159 : Ref sig .tc := ⟨.hbm, 973, rfl⟩
abbrev main_v751 : Ref sig .tc := ⟨.hbm, 974, rfl⟩
abbrev main_v752 : Ref sig .tc := ⟨.hbm, 975, rfl⟩
abbrev main_c_160 : Ref sig .tc := ⟨.hbm, 976, rfl⟩
abbrev main_v753 : Ref sig .tc := ⟨.hbm, 977, rfl⟩
abbrev main_v754 : Ref sig .tc := ⟨.hbm, 978, rfl⟩
abbrev main_v755 : Ref sig .tc := ⟨.hbm, 979, rfl⟩
abbrev main_v756 : Ref sig .tc := ⟨.hbm, 980, rfl⟩
abbrev main_c_161 : Ref sig .tc := ⟨.hbm, 981, rfl⟩
abbrev main_v757 : Ref sig .tc := ⟨.hbm, 982, rfl⟩
abbrev main_v758 : Ref sig .tc := ⟨.hbm, 983, rfl⟩
abbrev main_v759 : Ref sig .tc := ⟨.hbm, 984, rfl⟩
abbrev main_v760 : Ref sig .tc := ⟨.hbm, 985, rfl⟩
abbrev main_v761 : Ref sig .tc := ⟨.hbm, 986, rfl⟩
abbrev main_c_162 : Ref sig .tc := ⟨.hbm, 987, rfl⟩
abbrev main_v762 : Ref sig .tc := ⟨.hbm, 988, rfl⟩
abbrev main_v763 : Ref sig .tc := ⟨.hbm, 989, rfl⟩
abbrev main_v764 : Ref sig .tc := ⟨.hbm, 990, rfl⟩
abbrev main_v765 : Ref sig .tc := ⟨.hbm, 991, rfl⟩
abbrev main_v766 : Ref sig .tc := ⟨.hbm, 992, rfl⟩
abbrev main_c_163 : Ref sig .tc := ⟨.hbm, 993, rfl⟩
abbrev main_v767 : Ref sig .tc := ⟨.hbm, 994, rfl⟩
abbrev main_v768 : Ref sig .tc := ⟨.hbm, 995, rfl⟩
abbrev main_v769 : Ref sig .tc := ⟨.hbm, 996, rfl⟩
abbrev main_v770 : Ref sig .tc := ⟨.hbm, 997, rfl⟩
abbrev main_v771 : Ref sig .tc := ⟨.hbm, 998, rfl⟩
abbrev main_c_164 : Ref sig .tc := ⟨.hbm, 999, rfl⟩
abbrev main_v772 : Ref sig .tc := ⟨.hbm, 1000, rfl⟩
abbrev main_v773 : Ref sig .tc := ⟨.hbm, 1001, rfl⟩
abbrev main_v774 : Ref sig .tc := ⟨.hbm, 1002, rfl⟩
abbrev main_v775 : Ref sig .tc := ⟨.hbm, 1003, rfl⟩
abbrev main_v776 : Ref sig .tc := ⟨.hbm, 1004, rfl⟩
abbrev main_c_165 : Ref sig .tc := ⟨.hbm, 1005, rfl⟩
abbrev main_v777 : Ref sig .tc := ⟨.hbm, 1006, rfl⟩
abbrev main_v778 : Ref sig .tc := ⟨.hbm, 1007, rfl⟩
abbrev main_v779 : Ref sig .tc := ⟨.hbm, 1008, rfl⟩
abbrev main_v780 : Ref sig .tc := ⟨.hbm, 1009, rfl⟩
abbrev main_v781 : Ref sig .tc := ⟨.hbm, 1010, rfl⟩
abbrev main_c_166 : Ref sig .tc := ⟨.hbm, 1011, rfl⟩
abbrev main_v782 : Ref sig .tc := ⟨.hbm, 1012, rfl⟩
abbrev main_v783 : Ref sig .tc := ⟨.hbm, 1013, rfl⟩
abbrev main_v784 : Ref sig .tc := ⟨.hbm, 1014, rfl⟩
abbrev main_v785 : Ref sig .tc := ⟨.hbm, 1015, rfl⟩
abbrev main_v786 : Ref sig .tc := ⟨.hbm, 1016, rfl⟩
abbrev main_c_167 : Ref sig .tc := ⟨.hbm, 1017, rfl⟩
abbrev main_v787 : Ref sig .tc := ⟨.hbm, 1018, rfl⟩
abbrev main_v788 : Ref sig .tc := ⟨.hbm, 1019, rfl⟩
abbrev main_v789 : Ref sig .tc := ⟨.hbm, 1020, rfl⟩
abbrev main_c_168 : Ref sig .tc := ⟨.hbm, 1021, rfl⟩
abbrev main_v790 : Ref sig .tc := ⟨.hbm, 1022, rfl⟩
abbrev main_v791 : Ref sig .tc := ⟨.hbm, 1023, rfl⟩
abbrev main_c_169 : Ref sig .tc := ⟨.hbm, 1024, rfl⟩
abbrev main_v792 : Ref sig .tc := ⟨.hbm, 1025, rfl⟩
abbrev main_v793 : Ref sig .tc := ⟨.hbm, 1026, rfl⟩
abbrev main_v794 : Ref sig .tc := ⟨.hbm, 1027, rfl⟩
abbrev main_v795 : Ref sig .tc := ⟨.hbm, 1028, rfl⟩
abbrev main_v796 : Ref sig .tc := ⟨.hbm, 1029, rfl⟩
abbrev main_v797 : Ref sig .tc := ⟨.hbm, 1030, rfl⟩
abbrev main_cst_170 : Ref sig .tc := ⟨.hbm, 1031, rfl⟩
abbrev main_v798 : Ref sig .tc := ⟨.hbm, 1032, rfl⟩
abbrev main_v799 : Ref sig .tc := ⟨.hbm, 1033, rfl⟩
abbrev main_cst_171 : Ref sig .tc := ⟨.hbm, 1034, rfl⟩
abbrev main_call26_v0 : Ref sig .tc := ⟨.hbm, 1035, rfl⟩
abbrev main_call26_v1 : Ref sig .tc := ⟨.hbm, 1036, rfl⟩
abbrev main_v800 : Ref sig .tc := ⟨.hbm, 1037, rfl⟩
abbrev main_cst_172 : Ref sig .tc := ⟨.hbm, 1038, rfl⟩
abbrev main_v801 : Ref sig .tc := ⟨.hbm, 1039, rfl⟩
abbrev main_call27_v0 : Ref sig .tc := ⟨.hbm, 1040, rfl⟩
abbrev main_call27_cst : Ref sig .tc := ⟨.hbm, 1041, rfl⟩
abbrev main_call27_v1 : Ref sig .tc := ⟨.hbm, 1042, rfl⟩
abbrev main_v802 : Ref sig .tc := ⟨.hbm, 1043, rfl⟩
abbrev main_cst_173 : Ref sig .tc := ⟨.hbm, 1044, rfl⟩
abbrev main_call28_v0 : Ref sig .tc := ⟨.hbm, 1045, rfl⟩
abbrev main_call28_v1 : Ref sig .tc := ⟨.hbm, 1046, rfl⟩
abbrev main_v803 : Ref sig .tc := ⟨.hbm, 1047, rfl⟩
abbrev main_c_174 : Ref sig .tc := ⟨.hbm, 1048, rfl⟩
abbrev main_v804 : Ref sig .tc := ⟨.hbm, 1049, rfl⟩
abbrev main_v805 : Ref sig .tc := ⟨.hbm, 1050, rfl⟩
abbrev main_c_175 : Ref sig .tc := ⟨.hbm, 1051, rfl⟩
abbrev main_v806 : Ref sig .tc := ⟨.hbm, 1052, rfl⟩
abbrev main_v807 : Ref sig .tc := ⟨.hbm, 1053, rfl⟩
abbrev main_v808 : Ref sig .tc := ⟨.hbm, 1054, rfl⟩
abbrev main_v809 : Ref sig .tc := ⟨.hbm, 1055, rfl⟩
abbrev main_v810 : Ref sig .tc := ⟨.hbm, 1056, rfl⟩
abbrev main_v811 : Ref sig .tc := ⟨.hbm, 1057, rfl⟩
abbrev main_v812 : Ref sig .tc := ⟨.hbm, 1058, rfl⟩
abbrev main_v813 : Ref sig .tc := ⟨.hbm, 1059, rfl⟩
abbrev main_v814 : Ref sig .tc := ⟨.hbm, 1060, rfl⟩
abbrev main_v815 : Ref sig .tc := ⟨.hbm, 1061, rfl⟩
abbrev main_v816 : Ref sig .tc := ⟨.hbm, 1062, rfl⟩
abbrev main_v817 : Ref sig .tc := ⟨.hbm, 1063, rfl⟩
abbrev main_v818 : Ref sig .tc := ⟨.hbm, 1064, rfl⟩
abbrev main_v819 : Ref sig .tc := ⟨.hbm, 1065, rfl⟩
abbrev main_v820 : Ref sig .tc := ⟨.hbm, 1066, rfl⟩
abbrev main_c_176 : Ref sig .tc := ⟨.hbm, 1067, rfl⟩
abbrev main_v821 : Ref sig .tc := ⟨.hbm, 1068, rfl⟩
abbrev main_v822 : Ref sig .tc := ⟨.hbm, 1069, rfl⟩
abbrev main_c_177 : Ref sig .tc := ⟨.hbm, 1070, rfl⟩
abbrev main_v823 : Ref sig .tc := ⟨.hbm, 1071, rfl⟩
abbrev main_v824 : Ref sig .tc := ⟨.hbm, 1072, rfl⟩
abbrev main_v825 : Ref sig .tc := ⟨.hbm, 1073, rfl⟩
abbrev main_v826 : Ref sig .tc := ⟨.hbm, 1074, rfl⟩
abbrev main_v827 : Ref sig .tc := ⟨.hbm, 1075, rfl⟩
abbrev main_v828 : Ref sig .tc := ⟨.hbm, 1076, rfl⟩
abbrev main_cst_178 : Ref sig .tc := ⟨.hbm, 1077, rfl⟩
abbrev main_v829 : Ref sig .tc := ⟨.hbm, 1078, rfl⟩
abbrev main_cst_179 : Ref sig .tc := ⟨.hbm, 1079, rfl⟩
abbrev main_v830 : Ref sig .tc := ⟨.hbm, 1080, rfl⟩
abbrev main_v831 : Ref sig .tc := ⟨.hbm, 1081, rfl⟩
abbrev main_cst_180 : Ref sig .tc := ⟨.hbm, 1082, rfl⟩
abbrev main_v832 : Ref sig .tc := ⟨.hbm, 1083, rfl⟩
abbrev main_cst_181 : Ref sig .tc := ⟨.hbm, 1084, rfl⟩
abbrev main_v833 : Ref sig .tc := ⟨.hbm, 1085, rfl⟩
abbrev main_cst_182 : Ref sig .tc := ⟨.hbm, 1086, rfl⟩
abbrev main_v834 : Ref sig .tc := ⟨.hbm, 1087, rfl⟩
abbrev main_v835 : Ref sig .tc := ⟨.hbm, 1088, rfl⟩
abbrev main_cst_183 : Ref sig .tc := ⟨.hbm, 1089, rfl⟩
abbrev main_v836 : Ref sig .tc := ⟨.hbm, 1090, rfl⟩
abbrev main_cst_184 : Ref sig .tc := ⟨.hbm, 1091, rfl⟩
abbrev main_v837 : Ref sig .tc := ⟨.hbm, 1092, rfl⟩
abbrev main_v838 : Ref sig .tc := ⟨.hbm, 1093, rfl⟩
abbrev main_cst_185 : Ref sig .tc := ⟨.hbm, 1094, rfl⟩
abbrev main_v839 : Ref sig .tc := ⟨.hbm, 1095, rfl⟩
abbrev main_v840 : Ref sig .tc := ⟨.hbm, 1096, rfl⟩
abbrev main_v841 : Ref sig .tc := ⟨.hbm, 1097, rfl⟩
abbrev main_cst_186 : Ref sig .tc := ⟨.hbm, 1098, rfl⟩
abbrev main_v842 : Ref sig .tc := ⟨.hbm, 1099, rfl⟩
abbrev main_v843 : Ref sig .tc := ⟨.hbm, 1100, rfl⟩
abbrev main_cst_187 : Ref sig .tc := ⟨.hbm, 1101, rfl⟩
abbrev main_v844 : Ref sig .tc := ⟨.hbm, 1102, rfl⟩
abbrev main_cst_188 : Ref sig .tc := ⟨.hbm, 1103, rfl⟩
abbrev main_v845 : Ref sig .tc := ⟨.hbm, 1104, rfl⟩

abbrev nD : Nat := 1
abbrev τ : Topo := Topo.v7x

variable {F : FTy → Type} [FloatOps F]
-- ==== Proof.Frames.lean ====
/-
  The frame claims of the three programs, in the form the certificate states them: each program ends, its three
  arguments are as they were, and every semaphore counter is zero.
-/
module

public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Dice

open Idealize.ShloMosaic Idealize.ShloMosaic.TcCoe Idealize.SL.Sem

/-- The reference ends with its arguments untouched; it has no semaphores at all. -/
theorem reference_frame {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F)))
      ⟨m, fun _ => 0, ρ⟩ fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2))
        ∧ r.2.sem = fun _ => 0 :=
  (θ_run _ _ _).mono (fun r h => ⟨fun c => (h c).2, sem_eq_zero_of_no_sems rfl r.2⟩) (Cert.ReferenceIdeal.Value.run m ρ)

end Cert.Dice

end
-- ==== Proof.Greedy.lean ====
/- The greedy walk over the eight corners of one window, on extended reals: at each step the smallest
   positive corner is taken off every positive corner. Corners lie between zero and one; every step makes
   at least one more of them zero, so that after eight steps nothing is left. -/
module

public import Idealize.ShloMosaic.PureOps.Ideal.Laws
public import Idealize.ShloMosaic.Lib.Pointwise

@[expose] public section

noncomputable section

namespace Cert.Dice

open scoped BigOperators

/-- One at a positive number, zero elsewhere. -/
def nz (x : EReal) : EReal := if 0 < x then 1 else 0

/-- A positive number itself, and the top elsewhere. -/
def msk (x : EReal) : EReal := if 0 < x then x else ⊤

/-- The smallest positive corner, the top if there is none. -/
def gmin (c : Fin 8 → EReal) : EReal := Finset.univ.inf fun k => msk (c k)

/-- The weight of a step: the smallest positive corner, zero if there is none. -/
def gsw (c : Fin 8 → EReal) : EReal := if gmin c = ⊤ then 0 else gmin c

/-- The corners after a step. -/
def gnext (c : Fin 8 → EReal) : Fin 8 → EReal := fun k => c k - gsw c * nz (c k)

/-- The corners after `t` steps. -/
def gst (c : Fin 8 → EReal) : ℕ → Fin 8 → EReal
  | 0 => c
  | t + 1 => gnext (gst c t)

/-- Corners between zero and one. -/
def Unit8 (c : Fin 8 → EReal) : Prop := ∀ k, 0 ≤ c k ∧ c k ≤ 1

/-- How many corners are positive. -/
def npos (c : Fin 8 → EReal) : ℕ := (Finset.univ.filter fun k => 0 < c k).card

/-- An infimum over eight corners as the tree of minima that pairs neighbours. -/
theorem inf8 (f : Fin 8 → EReal) :
    Finset.univ.inf f = min (min (min (f 0) (f 1)) (min (f 2) (f 3))) (min (min (f 4) (f 5)) (min (f 6) (f 7))) := by
  apply le_antisymm
  · simp only [le_min_iff]
    refine ⟨⟨⟨?_, ?_⟩, ?_, ?_⟩, ⟨?_, ?_⟩, ?_, ?_⟩ <;> exact Finset.inf_le (Finset.mem_univ _)
  · refine Finset.le_inf fun k _ => ?_
    fin_cases k <;> simp

theorem gmin_le (c : Fin 8 → EReal) {k : Fin 8} (h : 0 < c k) : gmin c ≤ c k := by
  refine (Finset.inf_le (Finset.mem_univ k)).trans ?_
  simp [msk, h]

theorem gmin_pos (c : Fin 8 → EReal) : 0 < gmin c := by
  unfold gmin
  rw [Finset.lt_inf_iff (by simp)]
  intro k _
  unfold msk; split_ifs with h
  · exact h
  · simp

theorem gmin_top (c : Fin 8 → EReal) (h : ∀ k, ¬ 0 < c k) : gmin c = ⊤ := by
  unfold gmin; simp [msk, h]

theorem gmin_attained (c : Fin 8 → EReal) (h : ∃ k, 0 < c k) : ∃ k, 0 < c k ∧ gmin c = c k := by
  obtain ⟨k, -, hk⟩ := Finset.exists_mem_eq_inf (Finset.univ : Finset (Fin 8)) Finset.univ_nonempty (fun k => msk (c k))
  obtain ⟨k', hk'⟩ := h
  have hk2 : gmin c = msk (c k) := hk
  by_cases hp : 0 < c k
  · exact ⟨k, hp, by rw [hk2]; simp [msk, hp]⟩
  · have ht : gmin c = ⊤ := by rw [hk2]; simp [msk, hp]
    have := gmin_le c hk'
    rw [ht, top_le_iff] at this
    exact ⟨k', hk', by rw [ht, this]⟩

theorem gsw_of_pos {c : Fin 8 → EReal} (hc : Unit8 c) {k : Fin 8} (h : 0 < c k) : gsw c = gmin c := by
  unfold gsw
  rw [if_neg]
  intro ht
  have := (gmin_le c h).trans (hc k).2
  rw [ht, top_le_iff] at this
  exact absurd this (EReal.coe_ne_top 1)

theorem gsw_of_none {c : Fin 8 → EReal} (h : ∀ k, ¬ 0 < c k) : gsw c = 0 := by
  unfold gsw; rw [if_pos (gmin_top c h)]

theorem gsw_nonneg (c : Fin 8 → EReal) : 0 ≤ gsw c := by
  unfold gsw; split_ifs
  · exact le_rfl
  · exact (gmin_pos c).le

theorem gsw_le {c : Fin 8 → EReal} (hc : Unit8 c) {k : Fin 8} (h : 0 < c k) : gsw c ≤ c k := by
  rw [gsw_of_pos hc h]; exact gmin_le c h

theorem gsw_le_one {c : Fin 8 → EReal} (hc : Unit8 c) : gsw c ≤ 1 := by
  by_cases h : ∃ k, 0 < c k
  · obtain ⟨k, hk⟩ := h
    exact (gsw_le hc hk).trans (hc k).2
  · rw [gsw_of_none (not_exists.mp h)]; exact zero_le_one

/-- A number between zero and one is a real one. -/
theorem unit_coe {x : EReal} (h : 0 ≤ x ∧ x ≤ 1) : ∃ r : ℝ, x = (r : EReal) ∧ 0 ≤ r ∧ r ≤ 1 := by
  induction x using EReal.rec with
  | bot => exact absurd h.1 (by simp)
  | top => exact absurd h.2 (by rw [top_le_iff]; exact EReal.coe_ne_top 1)
  | coe r => exact ⟨r, rfl, by exact_mod_cast h.1, by exact_mod_cast h.2⟩

theorem nz_pos {x : EReal} (h : 0 < x) : nz x = 1 := by simp [nz, h]
theorem nz_not {x : EReal} (h : ¬ 0 < x) : nz x = 0 := by simp [nz, h]

theorem gnext_unit {c : Fin 8 → EReal} (hc : Unit8 c) : Unit8 (gnext c) := by
  intro k
  obtain ⟨s, hs, hs0, hs1⟩ := unit_coe ⟨gsw_nonneg c, gsw_le_one hc⟩
  obtain ⟨r, hr, hr0, hr1⟩ := unit_coe (hc k)
  unfold gnext
  by_cases h : 0 < c k
  · have hle := gsw_le hc h
    rw [nz_pos h, mul_one]
    rw [hr, hs] at hle ⊢
    have hle' : s ≤ r := by exact_mod_cast hle
    constructor
    · exact_mod_cast sub_nonneg.mpr hle'
    · have : r - s ≤ 1 := by linarith
      exact_mod_cast this
  · rw [nz_not h, mul_zero, sub_zero]; exact hc k

theorem gst_unit {c : Fin 8 → EReal} (hc : Unit8 c) (t : ℕ) : Unit8 (gst c t) := by
  induction t with
  | zero => exact hc
  | succ t ih => exact gnext_unit ih

/-- A step leaves no new positive corner, and one fewer if there was one. -/
theorem npos_gnext {c : Fin 8 → EReal} (hc : Unit8 c) : npos (gnext c) ≤ npos c - 1 := by
  have hsub : ∀ k, 0 < gnext c k → 0 < c k := by
    intro k hk
    by_contra h
    unfold gnext at hk
    rw [nz_not h, mul_zero, sub_zero] at hk
    exact h hk
  by_cases h : ∃ k, 0 < c k
  · obtain ⟨k, hk, hg⟩ := gmin_attained c h
    have hz : ¬ 0 < gnext c k := by
      unfold gnext
      rw [nz_pos hk, mul_one, gsw_of_pos hc hk, hg]
      obtain ⟨r, hr, -, -⟩ := unit_coe (hc k)
      rw [hr, ← EReal.coe_sub, sub_self]; simp
    have : npos (gnext c) < npos c := by
      unfold npos
      refine Finset.card_lt_card (Finset.ssubset_iff_of_subset ?_ |>.mpr ⟨k, by simp [hk], by simpa using hz⟩)
      intro j hj
      simp only [Finset.mem_filter, Finset.mem_univ, true_and] at hj ⊢
      exact hsub j hj
    omega
  · have : npos (gnext c) = 0 := by
      unfold npos
      rw [Finset.card_eq_zero, Finset.filter_eq_empty_iff]
      intro k _ hk
      exact h ⟨k, hsub k hk⟩
    omega

theorem npos_gst {c : Fin 8 → EReal} (hc : Unit8 c) (t : ℕ) : npos (gst c t) ≤ 8 - t := by
  induction t with
  | zero => unfold npos; exact (Finset.card_le_univ _).trans (by simp)
  | succ t ih => have := npos_gnext (gst_unit hc t); simp only [gst]; omega

/-- After eight steps the weight is zero. -/
theorem gsw_eight {c : Fin 8 → EReal} (hc : Unit8 c) : gsw (gst c 8) = 0 := by
  have h := npos_gst hc 8
  refine gsw_of_none fun k hk => ?_
  have : npos (gst c 8) = 0 := by omega
  unfold npos at this
  rw [Finset.card_eq_zero, Finset.filter_eq_empty_iff] at this
  exact this (Finset.mem_univ k) hk

/-- The kernel's spelling of a step's weight: a number `B` above one stands for "no corner", and a minimum
    that is not below a number `D` between one and `B` counts as none. -/
theorem gsw_kernel {c : Fin 8 → EReal} (hc : Unit8 c) {B D : EReal} (hD : 1 < D) (hB : D ≤ B) :
    (if (Finset.univ.inf fun k => if 0 < c k then c k else B) < D
      then (Finset.univ.inf fun k => if 0 < c k then c k else B) else 0) = gsw c := by
  by_cases h : ∃ k, 0 < c k
  · have he : (Finset.univ.inf fun k => if 0 < c k then c k else B) = gmin c := by
      apply le_antisymm
      · obtain ⟨k, hk, hg⟩ := gmin_attained c h
        rw [hg]
        refine (Finset.inf_le (Finset.mem_univ k)).trans ?_
        simp [hk]
      · refine Finset.le_inf fun k _ => ?_
        by_cases hk : 0 < c k
        · simpa [hk] using gmin_le c hk
        · obtain ⟨k', hk'⟩ := h
          simpa [hk] using (gmin_le c hk').trans ((hc k').2.trans (hD.le.trans hB))
    obtain ⟨k, hk⟩ := h
    rw [he, if_pos (lt_of_le_of_lt ((gmin_le c hk).trans (hc k).2) hD), gsw_of_pos hc hk]
  · have h' := not_exists.mp h
    rw [gsw_of_none h', if_neg]
    simp [h', hB]

/-- The reference's spelling: the infinite minimum counts as none. -/
theorem gsw_abs (c : Fin 8 → EReal) : (if max (gmin c) (-gmin c) = ⊤ then 0 else gmin c) = gsw c := by
  unfold gsw
  have h := gmin_pos c
  have : max (gmin c) (-gmin c) = gmin c := max_eq_left ((EReal.neg_le_zero.mpr h.le).trans h.le)
  rw [this]

/-! ## Codes and a window's sums -/

/-- The byte that says which corners are positive. -/
def code (c : Fin 8 → EReal) : ℕ := ∑ k : Fin 8, if 0 < c k then 2 ^ (k : ℕ) else 0

theorem code_lt (c : Fin 8 → EReal) : code c < 256 := by
  have : code c ≤ ∑ k : Fin 8, 2 ^ (k : ℕ) := Finset.sum_le_sum fun k _ => by split_ifs <;> simp
  have h : (∑ k : Fin 8, 2 ^ (k : ℕ)) = 255 := by decide
  omega

end Cert.Dice

end
-- ==== Proof.Body.lean ====
/- The vector operations of one step of the walk, on eight corner blocks of one shape, as both calls of the kernel
   spell them, and what they are at one window over the extended reals. -/
module

public import proofs.«01_k».proof.Proof.Greedy
public import Idealize.ShloMosaic.Lib.Pointwise

@[expose] public section

noncomputable section

namespace Cert.Dice

open Idealize.ShloMosaic

section Vec

variable {F : FTy → Type} [FloatOps F] {S : Shape}

/-- A block of one number. -/
def bc (S : Shape) (w : BitVec 32) : FVec F S .f32 := broadcast S (Scalar.ofBits .f32 w)

/-- Where corner `k` is positive. -/
def vpos (c : Fin 8 → FVec F S .f32) (k : Fin 8) : IVec S 1 := cmpf .ogt (c k) (bc S 0x00000000#32)

/-- One where corner `k` is positive, zero elsewhere. -/
def vnz (c : Fin 8 → FVec F S .f32) (k : Fin 8) : FVec F S .f32 :=
  select (vpos c k) (bc S 0x3F800000#32) (bc S 0x00000000#32)

/-- Corner `k` where it is positive, a large number elsewhere. -/
def vmsk (c : Fin 8 → FVec F S .f32) (k : Fin 8) : FVec F S .f32 := select (vpos c k) (c k) (bc S 0x7149F2CA#32)

/-- The least of the masked corners. -/
def vmin (c : Fin 8 → FVec F S .f32) : FVec F S .f32 :=
  minimumf (minimumf (minimumf (vmsk c 0) (vmsk c 1)) (minimumf (vmsk c 2) (vmsk c 3)))
    (minimumf (minimumf (vmsk c 4) (vmsk c 5)) (minimumf (vmsk c 6) (vmsk c 7)))

/-- The weight of a step. -/
def vsw (c : Fin 8 → FVec F S .f32) : FVec F S .f32 :=
  select (cmpf .olt (vmin c) (bc S 0x6FA18F08#32)) (vmin c) (bc S 0x00000000#32)

/-- Four digits as a number below sixteen. -/
def vcode (a b c d : FVec F S .f32) : FVec F S .f32 :=
  addf (addf (addf a (mulf (bc S 0x40000000#32) b)) (mulf (bc S 0x40800000#32) c)) (mulf (bc S 0x41000000#32) d)

/-- The lower and the upper half of the byte of positive corners. -/
def vlo (c : Fin 8 → FVec F S .f32) : FVec F S .f32 := vcode (vnz c 0) (vnz c 1) (vnz c 2) (vnz c 3)
def vhi (c : Fin 8 → FVec F S .f32) : FVec F S .f32 := vcode (vnz c 4) (vnz c 5) (vnz c 6) (vnz c 7)

/-- The corners after a step of weight `sw`. -/
def vnext (c : Fin 8 → FVec F S .f32) (sw : FVec F S .f32) : Fin 8 → FVec F S .f32 :=
  fun k => subf (c k) (mulf sw (vnz c k))

/-- The corners after `t` steps, `sw` the weight of a step. -/
def vst (sw : (Fin 8 → FVec F S .f32) → FVec F S .f32) (c : Fin 8 → FVec F S .f32) (t : ℕ) : Fin 8 → FVec F S .f32 :=
  Nat.rec c (fun _ d => vnext d (sw d)) t

/-- The weight where the byte of positive corners is the label's, summed over the first `t` steps. -/
def vpw (sw : (Fin 8 → FVec F S .f32) → FVec F S .f32) (c : Fin 8 → FVec F S .f32) (llo lhi : FVec F S .f32) (t : ℕ) :
    FVec F S .f32 :=
  Nat.rec (bc S 0x00000000#32) (fun t p => addf p (select
    (andi (cmpf .oeq (vlo (vst sw c t)) llo) (cmpf .oeq (vhi (vst sw c t)) lhi)) (sw (vst sw c t)) (bc S 0x00000000#32))) t

end Vec

section AtIdeal
variable {S : Shape}

/-- The large numbers of the kernel's minimum, as extended reals. -/
theorem big_lt : (1 : EReal) < Ideal.ofBits .f32 0x6FA18F08#32 ∧
    Ideal.ofBits .f32 0x6FA18F08#32 ≤ Ideal.ofBits .f32 0x7149F2CA#32 := by
  have e1 : Ideal.ofBits .f32 0x6FA18F08#32 = (((10587912 : ℝ) * 2 ^ 73 : ℝ) : EReal) := by
    simp [Ideal.ofBits, Ideal.ieee, -EReal.coe_mul]
  have e2 : Ideal.ofBits .f32 0x7149F2CA#32 = (((13234890 : ℝ) * 2 ^ 76 : ℝ) : EReal) := by
    simp [Ideal.ofBits, Ideal.ieee, -EReal.coe_mul]
  rw [e1, e2]
  constructor
  · have : (1 : ℝ) < (10587912 : ℝ) * 2 ^ 73 := by norm_num
    exact_mod_cast this
  · have : (10587912 : ℝ) * 2 ^ 73 ≤ (13234890 : ℝ) * 2 ^ 76 := by norm_num
    exact_mod_cast this

/-- Two, four and eight. -/
theorem two_bits : Ideal.ofBits .f32 0x40000000#32 = (2 : EReal) := by
  have : Ideal.ofBits .f32 0x40000000#32 = ((2 : ℝ) : EReal) := by simp [Ideal.ofBits, Ideal.ieee, -EReal.coe_mul]; norm_num
  rw [this]; rfl

theorem four_bits : Ideal.ofBits .f32 0x40800000#32 = (4 : EReal) := by
  have : Ideal.ofBits .f32 0x40800000#32 = ((4 : ℝ) : EReal) := by simp [Ideal.ofBits, Ideal.ieee, -EReal.coe_mul]; norm_num
  rw [this]; rfl

theorem eight_bits : Ideal.ofBits .f32 0x41000000#32 = (8 : EReal) := by
  have : Ideal.ofBits .f32 0x41000000#32 = ((8 : ℝ) : EReal) := by simp [Ideal.ofBits, Ideal.ieee, -EReal.coe_mul]; norm_num
  rw [this]; rfl

theorem vnz_apply (c : Fin 8 → FVec Ideal S .f32) (k : Fin 8) (i : S.Idx) : vnz c k i = nz (c k i) := by
  unfold vnz vpos bc
  pointwise
  rfl

theorem vsw_apply (c : Fin 8 → FVec Ideal S .f32) (i : S.Idx) (h : Unit8 fun k => c k i) :
    vsw c i = gsw fun k => c k i := by
  rw [← gsw_kernel h big_lt.1 big_lt.2, inf8]
  unfold vsw vmin vmsk vpos bc
  pointwise

theorem vnext_apply (c : Fin 8 → FVec Ideal S .f32) (sw : FVec Ideal S .f32) (k : Fin 8) (i : S.Idx) :
    vnext c sw k i = c k i - sw i * nz (c k i) := by
  unfold vnext
  rw [← vnz_apply]
  pointwise

/-- The corners of a window after `t` steps. -/
theorem vst_apply (c : Fin 8 → FVec Ideal S .f32) (i : S.Idx) (h : Unit8 fun k => c k i) (t : ℕ) :
    (fun k => vst vsw c t k i) = gst (fun k => c k i) t := by
  induction t with
  | zero => rfl
  | succ t ih =>
    funext k
    show vnext (vst vsw c t) (vsw (vst vsw c t)) k i = gnext (gst (fun k => c k i) t) k
    have h2 : Unit8 fun k => vst vsw c t k i := by rw [ih]; exact gst_unit h t
    rw [vnext_apply, vsw_apply _ _ h2, ih]
    rw [show vst vsw c t k i = gst (fun k => c k i) t k from congrFun ih k]; rfl

/-- A number of four digits, each zero or one. -/
def four (a b c d : EReal) : EReal := a + 2 * b + 4 * c + 8 * d

theorem vcode_apply (a b c d : FVec Ideal S .f32) (i : S.Idx) : vcode a b c d i = four (a i) (b i) (c i) (d i) := by
  unfold vcode bc
  pointwise
  rw [two_bits, four_bits, eight_bits]; rfl

end AtIdeal

end Cert.Dice

end
-- ==== Proof.MainBody.lean ====
/- The body of the main call as a function of its four input blocks: the three histograms that one grid point adds to
   the output block, each in the vector operations of one step of the walk. -/
module

public import proofs.«01_k».proof.Proof.Body
public import proofs.«01_k».proof.Proof.Gen.KernelIdeal.Frame

@[expose] public section

noncomputable section

namespace Cert.Dice.Main

open Idealize.ShloMosaic Idealize.SL.Sem Cert.KernelIdeal Cert.KernelIdeal.Gen

variable {F : FTy → Type} [FloatOps F]

/-- An input block as a matrix. -/
def raw (x : Vec F S1x1x264x256 .f32) : FVec F S264x256 .f32 := shapeCast S264x256 x shapeCasts_S1x1x264x256_S264x256

/-- The first column. -/
def lane0 : IVec S264x256 1 :=
  broadcastTo S264x256 (shapeCast S1x256 (cmpi .eq (iota .tc S1x256 32 [1] iota_S1x256_d1_w32) (broadcast S1x256 0#32))
    shapeCasts_S1x256_S1x256) broadcasts_S1x256_S264x256

/-- The matrix moved up one row, the first row coming last. -/
def down (x : FVec F S264x256 .f32) : FVec F S264x256 .f32 :=
  concatenate S264x256 0 [⟨S263x256, extractStridedSlice S263x256 ![1, 0] x slices_S264x256_o1_0_S263x256⟩,
    ⟨S1x256, extractStridedSlice S1x256 ![0, 0] x slices_S264x256_o0_0_S1x256⟩] concatenates_S263x256_S1x256_S264x256_d0

/-- The matrix moved right one column, zeros coming first. -/
def right (x : FVec F S264x256 .f32) : FVec F S264x256 .f32 :=
  select lane0 (bc S264x256 0x00000000#32)
    (concatenate S264x256 1 [⟨S264x1, extractStridedSlice S264x1 ![0, 255] x slices_S264x256_o0_255_S264x1⟩,
      ⟨S264x255, extractStridedSlice S264x255 ![0, 0] x slices_S264x256_o0_0_S264x255⟩] concatenates_S264x1_S264x255_S264x256_d1)

/-- The eight corners of every window: four of one slice, four of the next. -/
def corners (x y : FVec F S264x256 .f32) : Fin 8 → FVec F S264x256 .f32 :=
  ![right x, x, right (down x), down x, right y, y, right (down y), down y]

/-- The corners of the predictions. -/
def cp (x y : Vec F S1x1x264x256 .f32) : Fin 8 → FVec F S264x256 .f32 := corners (logistic (raw x)) (logistic (raw y))

/-- The halves of the labels' byte. -/
def llo (x : Vec F S1x1x264x256 .f32) : FVec F S264x256 .f32 :=
  vcode (right (raw x)) (raw x) (right (down (raw x))) (down (raw x))

/-- The sixteen digits down the rows. -/
def digits : FVec F S16x67584 .bf16 := sitofp .bf16 (iota .tc S16x67584 32 [0] iota_S16x67584_d0_w32)

/-- A matrix as one row. -/
def flat (x : FVec F S264x256 .bf16) : FVec F S1x67584 .bf16 := shapeCast S1x67584 x shapeCasts_S264x256_S1x67584

/-- Where a window's digit is the row's. -/
def hot (x : FVec F S264x256 .f32) : IVec S16x67584 1 :=
  cmpf .oeq (broadcastTo S16x67584 (flat (truncf .bf16 x bitsLt_bf16_f32)) broadcasts_S1x67584_S16x67584) digits

/-- The histogram of the weights `w` by the two digits `hi` and `lo`: a product of a weighted and a plain indicator. -/
def hist (hi lo : FVec F S264x256 .f32) (w : FVec F S264x256 .bf16) : FVec F S16x16 .f32 :=
  matmul dot_S16x67584_S16x67584_S16x16_1_1_0_0_n_n none
    (select (hot hi) (broadcastTo S16x67584 (shapeCast S1x67584 (flat w) shapeCasts_S1x67584_S1x67584)
      broadcasts_S1x67584_S16x67584) (broadcast S16x67584 (Scalar.ofBits .bf16 0x0000#16)))
    (select (hot lo) (broadcast S16x67584 (Scalar.ofBits .bf16 0x3F80#16)) (broadcast S16x67584 (Scalar.ofBits .bf16 0x0000#16)))
    (constant S16x16 .f32 0x00000000#32)

/-- One cell of the histogram: row and column `v`. -/
def cell (v : BitVec 32) : FVec F S16x16 .f32 :=
  sitofp .f32 (extui 32 (andi
    (broadcastTo S16x16 (cmpi .eq (iota .tc S16x1 32 [0] iota_S16x1_d0_w32) (broadcast S16x1 v)) broadcasts_S16x1_S16x16)
    (broadcastTo S16x16 (cmpi .eq (iota .tc S1x16 32 [1] iota_S1x16_d1_w32) (broadcast S1x16 v)) broadcasts_S1x16_S16x16))
    natLt_1_32)

/-- A row's first number. -/
def head (x : FVec F S1x256 .f32) : FVec F S1x1 .f32 := extractStridedSlice S1x1 ![0, 0] x slices_S1x256_o0_0_S1x1

/-- A row's weights in two cells: the first column's in cell `v`, the other columns' in cell `u`. -/
def region (x : FVec F S1x256 .f32) (u v : BitVec 32) : FVec F S16x16 .f32 :=
  addf (mulf (broadcastTo S16x16 (subf (subf (shapeCast S1x1 (multiReduction .add [1] S1 x 0x00000000#32 reduces_S1x256_S1 (.inl rfl) rfl)
      shapeCasts_S1_S1x1) (head x)) (broadcast S1x1 (Scalar.ofBits .f32 0x00000000#32))) broadcasts_S1x1_S16x16) (cell u))
    (mulf (broadcastTo S16x16 (head x) broadcasts_S1x1_S16x16) (cell v))

/-- The first row of the windows, and the last. -/
def top (w : FVec F S264x256 .f32) : FVec F S1x256 .f32 := extractStridedSlice S1x256 ![0, 0] w slices_S264x256_o0_0_S1x256
def bottom (w : FVec F S264x256 .f32) : FVec F S1x256 .f32 := extractStridedSlice S1x256 ![256, 0] w slices_S264x256_o256_0_S1x256

/-- The column sums of the rows between. -/
def middle (w : FVec F S264x256 .f32) : FVec F S1x256 .f32 :=
  subf (subf (shapeCast S1x256 (multiReduction .add [0] S256 w 0x00000000#32 reduces_S264x256_S256 (.inl rfl) rfl) shapeCasts_S256_S1x256)
    (top w)) (bottom w)

/-- The first step's histogram: where a window lies tells its byte. -/
def first (w : FVec F S264x256 .f32) : FVec F S16x16 .f32 :=
  addf (addf (addf (broadcast S16x16 (Scalar.ofBits .f32 0x00000000#32)) (region (middle w) 15#32 10#32))
    (region (top w) 12#32 8#32)) (region (bottom w) 3#32 2#32)

/-- The histogram of the weights by the byte of positive corners, over the first step and `t` more. -/
def hp (c : Fin 8 → FVec F S264x256 .f32) (t : ℕ) : FVec F S16x16 .f32 :=
  Nat.rec (first (vsw c)) (fun t h => addf h (hist (vhi (vst vsw c (t + 1))) (vlo (vst vsw c (t + 1)))
    (truncf .bf16 (vsw (vst vsw c (t + 1))) bitsLt_bf16_f32))) t

/-- One on the windows that exist. -/
def valid : FVec F S264x256 .bf16 :=
  mulf (broadcastTo S264x256 (truncf .bf16 (sitofp .f32 (extui 32 (cmpi .slt (iota .tc S264x1 32 [0] iota_S264x1_d0_w32)
      (broadcast S264x1 257#32)) natLt_1_32)) bitsLt_bf16_f32) broadcasts_S264x1_S264x256)
    (broadcastTo S264x256 (truncf .bf16 (sitofp .f32 (extui 32 (cmpi .slt (iota .tc S1x256 32 [1] iota_S1x256_d1_w32)
      (broadcast S1x256 256#32)) natLt_1_32)) bitsLt_bf16_f32) broadcasts_S1x256_S264x256)

/-- The three histograms of one grid point. -/
def histP (x0 x1 : Vec F S1x1x264x256 .f32) : FVec F S16x16 .f32 := hp (cp x0 x1) 7
def histL (x2 x3 : Vec F S1x1x264x256 .f32) : FVec F S16x16 .f32 := hist (llo x3) (llo x2) valid
def histI (x0 x1 x2 x3 : Vec F S1x1x264x256 .f32) : FVec F S16x16 .f32 :=
  hist (llo x3) (llo x2) (truncf .bf16 (vpw vsw (cp x0 x1) (llo x2) (llo x3) 8) bitsLt_bf16_f32)

/-- A histogram added to one that the output block held. -/
def plus (h : FVec F S16x16 .f32) (v : Vec F S1x1x16x16 .f32) : FVec F S1x1x16x16 .f32 :=
  shapeCast S1x1x16x16 (addf (shapeCast S16x16 v shapeCasts_S1x1x16x16_S16x16) h) shapeCasts_S16x16_S1x1x16x16

/-- What a load of a whole input block reads. -/
abbrev ldIn (a : Memref Cert.KernelIdeal.sig .tc .vmem S1x1x264x256 .f32) (ha : a.IsWhole) (x : Vec F S1x1x264x256 .f32) :
    Vec F S1x1x264x256 .f32 :=
  View.readAt (Elt F) a.view (Rect.unit ![0, 0, 0, 0] S1x1x264x256.size inb_S1x1x264x256_S1x1x264x256_0_0_0_0).toLoadRect (ha.unread x)

theorem ldIn_eq (a : Memref Cert.KernelIdeal.sig .tc .vmem S1x1x264x256 .f32) (ha : a.IsWhole) (x : Vec F S1x1x264x256 .f32) :
    ldIn a ha x = x := by
  have hz : (![0, 0, 0, 0] : Fin 4 → Nat) = fun _ => 0 := funext fun a => by fin_cases a <;> rfl
  unfold ldIn
  rw [View.readAt_eq_ld, ha.read_unread, View.ld_unit_zero (S := S1x1x264x256) hz]

/-- The three slices of the output block. -/
abbrev sl0 : Rect S1x3x16x16 := Rect.unit ![0, 0, 0, 0] ![1, 1, 16, 16] inb_S1x3x16x16_S1x1x16x16_0_0_0_0
abbrev sl1 : Rect S1x3x16x16 := Rect.unit ![0, 1, 0, 0] ![1, 1, 16, 16] inb_S1x3x16x16_S1x1x16x16_0_1_0_0
abbrev sl2 : Rect S1x3x16x16 := Rect.unit ![0, 2, 0, 0] ![1, 1, 16, 16] inb_S1x3x16x16_S1x1x16x16_0_2_0_0

/-- What a later point of a row of the grid stores: each histogram added to what the output block held. -/
theorem runB (c : Dev Cert.KernelIdeal.nD) (i : grid0.Coords) (arg2 : Memref Cert.KernelIdeal.sig .tc .vmem S1x1x264x256 .f32) (harg2 : arg2.IsWhole) (arg3 : Memref Cert.KernelIdeal.sig .tc .vmem S1x1x264x256 .f32) (harg3 : arg3.IsWhole) (arg4 : Memref Cert.KernelIdeal.sig .tc .vmem S1x1x264x256 .f32) (harg4 : arg4.IsWhole) (arg5 : Memref Cert.KernelIdeal.sig .tc .vmem S1x1x264x256 .f32) (harg5 : arg5.IsWhole) (arg6 : Memref Cert.KernelIdeal.sig .tc .vmem S1x3x16x16 .f32) (harg6 : arg6.IsWhole) (hc0 : ¬cond0_0 i)
    (x0 : Vec F S1x1x264x256 .f32) (x1 : Vec F S1x1x264x256 .f32) (x2 : Vec F S1x1x264x256 .f32) (x3 : Vec F S1x1x264x256 .f32) (xo4 : Vec F S1x3x16x16 .f32) :
    (kernelRun0_B c i arg2 harg2 arg3 harg3 arg4 harg4 arg5 harg5 arg6 harg6 hc0 x0 x1 x2 x3 xo4).1 =
      [⟨sl2, plus (histI (ldIn arg2 harg2 x0) (ldIn arg3 harg3 x1) (ldIn arg4 harg4 x2) (ldIn arg5 harg5 x3))
          (View.readAt (Elt F) arg6.view sl2.toLoadRect (harg6.unread xo4))⟩,
       ⟨sl1, plus (histL (ldIn arg4 harg4 x2) (ldIn arg5 harg5 x3))
          (View.readAt (Elt F) arg6.view sl1.toLoadRect (harg6.unread xo4))⟩,
       ⟨sl0, plus (histP (ldIn arg2 harg2 x0) (ldIn arg3 harg3 x1))
          (View.readAt (Elt F) arg6.view sl0.toLoadRect (harg6.unread xo4))⟩] := by
  sl_kernel_rfl

end Cert.Dice.Main

end
-- ==== Proof.Digits.lean ====
/- The byte of a window's positive corners as two digits below sixteen, and the cell of a histogram that a window
   counts in. -/
module

public import proofs.«01_k».proof.Proof.Body

@[expose] public section

noncomputable section

namespace Cert.Dice

open Idealize.ShloMosaic

/-- One at a positive number, zero elsewhere, as a natural number. -/
def bit (x : EReal) : ℕ := if 0 < x then 1 else 0

theorem bit_le (x : EReal) : bit x ≤ 1 := by unfold bit; split_ifs <;> omega

theorem nz_eq_bit (x : EReal) : nz x = ((bit x : ℝ) : EReal) := by
  unfold nz bit; split_ifs <;> simp

/-- The lower digit and the upper digit of a window's byte. -/
def lo (c : Fin 8 → EReal) : ℕ := bit (c 0) + 2 * bit (c 1) + 4 * bit (c 2) + 8 * bit (c 3)
def hi (c : Fin 8 → EReal) : ℕ := bit (c 4) + 2 * bit (c 5) + 4 * bit (c 6) + 8 * bit (c 7)

theorem lo_lt (c : Fin 8 → EReal) : lo c < 16 := by
  have h := fun k => bit_le (c k)
  have := h 0; have := h 1; have := h 2; have := h 3
  unfold lo; omega

theorem hi_lt (c : Fin 8 → EReal) : hi c < 16 := by
  have h := fun k => bit_le (c k)
  have := h 4; have := h 5; have := h 6; have := h 7
  unfold hi; omega

theorem code_eq (c : Fin 8 → EReal) : code c = lo c + 16 * hi c := by
  unfold code lo hi bit
  rw [Fin.sum_univ_eight]
  have e : ∀ (p : Prop) [Decidable p] (n : ℕ), (if p then n else 0) = n * (if p then 1 else 0) := by
    intro p _ n; split_ifs <;> simp
  rw [e _ (2 ^ ((0 : Fin 8) : ℕ)), e _ (2 ^ ((1 : Fin 8) : ℕ)), e _ (2 ^ ((2 : Fin 8) : ℕ)), e _ (2 ^ ((3 : Fin 8) : ℕ)),
    e _ (2 ^ ((4 : Fin 8) : ℕ)), e _ (2 ^ ((5 : Fin 8) : ℕ)), e _ (2 ^ ((6 : Fin 8) : ℕ)), e _ (2 ^ ((7 : Fin 8) : ℕ))]
  simp only [Fin.val_zero, Fin.val_one, Fin.val_two, show ((3 : Fin 8) : ℕ) = 3 from rfl, show ((4 : Fin 8) : ℕ) = 4 from rfl,
    show ((5 : Fin 8) : ℕ) = 5 from rfl, show ((6 : Fin 8) : ℕ) = 6 from rfl, show ((7 : Fin 8) : ℕ) = 7 from rfl]
  omega

theorem four_bits_eq (a b c d : ℕ) :
    four ((a : ℝ) : EReal) ((b : ℝ) : EReal) ((c : ℝ) : EReal) ((d : ℝ) : EReal) = (((a + 2 * b + 4 * c + 8 * d : ℕ) : ℝ) : EReal) := by
  unfold four
  have h2 : (2 : EReal) = ((2 : ℝ) : EReal) := rfl
  have h4 : (4 : EReal) = ((4 : ℝ) : EReal) := rfl
  have h8 : (8 : EReal) = ((8 : ℝ) : EReal) := rfl
  rw [h2, h4, h8]
  push_cast
  rfl

/-- The digits as the kernel computes them. -/
theorem four_lo (c : Fin 8 → EReal) : four (nz (c 0)) (nz (c 1)) (nz (c 2)) (nz (c 3)) = ((lo c : ℝ) : EReal) := by
  simp only [nz_eq_bit, four_bits_eq]; rfl

theorem four_hi (c : Fin 8 → EReal) : four (nz (c 4)) (nz (c 5)) (nz (c 6)) (nz (c 7)) = ((hi c : ℝ) : EReal) := by
  simp only [nz_eq_bit, four_bits_eq]; rfl

theorem nat_coe_inj (m n : ℕ) : (((m : ℝ) : EReal) = ((n : ℝ) : EReal)) ↔ m = n := by
  rw [EReal.coe_eq_coe_iff]; exact Nat.cast_inj

/-- A window whose byte has upper digit `h` and lower digit `l`. -/
def Bin (c : Fin 8 → EReal) (h l : ℕ) : Prop := hi c = h ∧ lo c = l

instance (c : Fin 8 → EReal) (h l : ℕ) : Decidable (Bin c h l) := by unfold Bin; infer_instance

/-- Two windows with the same byte. -/
def Same (c d : Fin 8 → EReal) : Prop := lo c = lo d ∧ hi c = hi d

instance (c d : Fin 8 → EReal) : Decidable (Same c d) := by unfold Same; infer_instance

theorem same_iff (c d : Fin 8 → EReal) : Same c d ↔ code c = code d := by
  have := lo_lt c; have := lo_lt d
  rw [code_eq, code_eq]; unfold Same; omega

/-- Corners that are zero or one, as a label's are. -/
def Flag8 (c : Fin 8 → EReal) : Prop := ∀ k, c k = 0 ∨ c k = 1

theorem nz_flag {x : EReal} (h : x = 0 ∨ x = 1) : nz x = x := by
  rcases h with h | h <;> rw [h]
  · simp [nz]
  · exact nz_pos zero_lt_one

/-- A choice on two tests. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

section AtIdeal
variable {S : Shape}

theorem vlo_apply (c : Fin 8 → FVec Ideal S .f32) (i : S.Idx) : vlo c i = ((lo fun k => c k i : ℝ) : EReal) := by
  unfold vlo; rw [vcode_apply]; simp only [vnz_apply]; exact four_lo fun k => c k i

theorem vhi_apply (c : Fin 8 → FVec Ideal S .f32) (i : S.Idx) : vhi c i = ((hi fun k => c k i : ℝ) : EReal) := by
  unfold vhi; rw [vcode_apply]; simp only [vnz_apply]; exact four_hi fun k => c k i

/-- The weight of the steps whose byte is the label's. -/
def match8 (c d : Fin 8 → EReal) (t : ℕ) : EReal :=
  Nat.rec 0 (fun t p => p + if Same (gst c t) d then gsw (gst c t) else 0) t

theorem vpw_apply (c : Fin 8 → FVec Ideal S .f32) (llo lhi : FVec Ideal S .f32) (i : S.Idx) (d : Fin 8 → EReal)
    (h : Unit8 fun k => c k i) (hl : llo i = ((lo d : ℝ) : EReal)) (hh : lhi i = ((hi d : ℝ) : EReal)) (t : ℕ) :
    vpw vsw c llo lhi t i = match8 (fun k => c k i) d t := by
  induction t with
  | zero =>
    show bc S 0x00000000#32 i = 0
    unfold bc; pointwise
  | succ t ih =>
    have e := vst_apply c i h t
    have h2 : Unit8 fun k => vst vsw c t k i := by rw [e]; exact gst_unit h t
    show addf (vpw vsw c llo lhi t) (select (andi (cmpf .oeq (vlo (vst vsw c t)) llo) (cmpf .oeq (vhi (vst vsw c t)) lhi))
      (vsw (vst vsw c t)) (bc S 0x00000000#32)) i = match8 (fun k => c k i) d t + if Same (gst (fun k => c k i) t) d then gsw (gst (fun k => c k i) t) else 0
    rw [← ih, ← e, ← vsw_apply _ _ h2]
    unfold bc
    pointwise
    rw [vlo_apply, vhi_apply, hl, hh]
    simp only [nat_coe_inj]
    rw [select_and]; rfl

end AtIdeal

/-! ## Small integers as words -/

theorem toInt_small {n : ℕ} (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_cond, e, if_pos (by omega)]

theorem sitofp_small (φ : FTy) {n : ℕ} (h : n < 2 ^ 31) :
    (FloatOps.sitofp (F := Ideal) φ (BitVec.ofNat 32 n) : Ideal φ) = ((n : ℝ) : EReal) := by
  show (((BitVec.ofNat 32 n).toInt : ℝ) : EReal) = _
  rw [toInt_small h]; norm_cast

theorem cmpi_eq_small {m n : ℕ} (hm : m < 2 ^ 31) (hn : n < 2 ^ 31) :
    IntOp.cmpi CmpIPredicate.eq (BitVec.ofNat 32 m) (BitVec.ofNat 32 n) = BitVec.ofBool (decide (m = n)) := by
  show BitVec.ofBool (BitVec.ofNat 32 m == BitVec.ofNat 32 n) = _
  congr 1
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem cmpi_slt_small {m n : ℕ} (hm : m < 2 ^ 31) (hn : n < 2 ^ 31) :
    IntOp.cmpi CmpIPredicate.slt (BitVec.ofNat 32 m) (BitVec.ofNat 32 n) = BitVec.ofBool (decide (m < n)) := by
  show BitVec.ofBool ((BitVec.ofNat 32 m).slt (BitVec.ofNat 32 n)) = _
  congr 1
  rw [BitVec.slt_eq_decide, toInt_small hm, toInt_small hn]
  simp

theorem sitofp_test (φ : FTy) (p : Prop) [Decidable p] :
    (FloatOps.sitofp (F := Ideal) φ (BitVec.setWidth 32 (BitVec.ofBool (decide p))) : Ideal φ) = if p then 1 else 0 := by
  show (((BitVec.setWidth 32 (BitVec.ofBool (decide p))).toInt : ℝ) : EReal) = _
  by_cases h : p <;> simp [h]

theorem andi_test (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_test {α : Type} (p : Prop) [Decidable p] (a b : α) :
    Scalar.select (BitVec.ofBool (decide p)) a b = if p then a else b := by
  by_cases hp : p <;> simp [hp, Scalar.select]

/-- An image over zero padding: the entry at row `a - 1` and column `b - 1`. -/
def img (s : Fin 256 → Fin 256 → EReal) (a b : ℕ) : EReal :=
  if h : (1 ≤ a ∧ a ≤ 256) ∧ 1 ≤ b ∧ b ≤ 256 then s ⟨a - 1, by omega⟩ ⟨b - 1, by omega⟩ else 0

/-- The corners of the window at row `a` and column `b` of two images. -/
def win (s s' : Fin 256 → Fin 256 → EReal) (a b : ℕ) : Fin 8 → EReal :=
  ![img s a b, img s a (b + 1), img s (a + 1) b, img s (a + 1) (b + 1),
    img s' a b, img s' a (b + 1), img s' (a + 1) b, img s' (a + 1) (b + 1)]

theorem img_out (s : Fin 256 → Fin 256 → EReal) {a b : ℕ} (h : a = 0 ∨ 256 < a ∨ b = 0 ∨ 256 < b) : img s a b = 0 := by
  unfold img; rw [dif_neg]; omega

/-- An image whose numbers are positive and at most one. -/
def Pos (s : Fin 256 → Fin 256 → EReal) : Prop := ∀ a b, 0 < s a b ∧ s a b ≤ 1

/-- An image whose numbers are zero or one. -/
def Flag (s : Fin 256 → Fin 256 → EReal) : Prop := ∀ a b, s a b = 0 ∨ s a b = 1

theorem img_unit {s : Fin 256 → Fin 256 → EReal} (h : Pos s) (a b : ℕ) : 0 ≤ img s a b ∧ img s a b ≤ 1 := by
  unfold img; split_ifs
  · exact ⟨(h _ _).1.le, (h _ _).2⟩
  · exact ⟨le_rfl, zero_le_one⟩

theorem img_flag {s : Fin 256 → Fin 256 → EReal} (h : Flag s) (a b : ℕ) : img s a b = 0 ∨ img s a b = 1 := by
  unfold img; split_ifs
  · exact h _ _
  · exact Or.inl rfl

theorem win_unit {s s' : Fin 256 → Fin 256 → EReal} (h : Pos s) (h' : Pos s') (a b : ℕ) : Unit8 (win s s' a b) := by
  intro k; fin_cases k
  · exact img_unit h _ _
  · exact img_unit h _ _
  · exact img_unit h _ _
  · exact img_unit h _ _
  · exact img_unit h' _ _
  · exact img_unit h' _ _
  · exact img_unit h' _ _
  · exact img_unit h' _ _

theorem win_flag {s s' : Fin 256 → Fin 256 → EReal} (h : Flag s) (h' : Flag s') (a b : ℕ) : Flag8 (win s s' a b) := by
  intro k; fin_cases k
  · exact img_flag h _ _
  · exact img_flag h _ _
  · exact img_flag h _ _
  · exact img_flag h _ _
  · exact img_flag h' _ _
  · exact img_flag h' _ _
  · exact img_flag h' _ _
  · exact img_flag h' _ _

/-- The positive corners of an image of positive numbers are those inside it. -/
theorem bit_img {s : Fin 256 → Fin 256 → EReal} (h : Pos s) (a b : ℕ) :
    bit (img s a b) = if (1 ≤ a ∧ a ≤ 256) ∧ 1 ≤ b ∧ b ≤ 256 then 1 else 0 := by
  unfold bit img
  by_cases h1 : (1 ≤ a ∧ a ≤ 256) ∧ 1 ≤ b ∧ b ≤ 256
  · rw [dif_pos h1, if_pos h1, if_pos (h _ _).1]
  · rw [dif_neg h1, if_neg h1, if_neg (lt_irrefl _)]

/-- Beyond the last row or column of windows nothing is left of an image. -/
theorem win_out (s s' : Fin 256 → Fin 256 → EReal) {a b : ℕ} (h : 256 < a) : win s s' a b = fun _ => 0 := by
  funext k; fin_cases k <;> exact img_out _ (by omega)

theorem gsw_zero : gsw (fun _ => 0) = 0 := gsw_of_none fun _ => lt_irrefl _

theorem gst_zero (t : ℕ) : gst (fun _ => 0) t = fun _ => 0 := by
  induction t with
  | zero => rfl
  | succ t ih =>
    show gnext (gst (fun _ => 0) t) = _
    rw [ih]; funext k; unfold gnext; rw [gsw_zero, zero_mul, sub_zero]

/-- The weight of the first `t` steps that a window counts in the cell at row `h` and column `l`. -/
def weigh (c : Fin 8 → EReal) (h l : ℕ) (t : ℕ) : EReal :=
  Nat.rec 0 (fun t p => p + if Bin (gst c t) h l then gsw (gst c t) else 0) t

end Cert.Dice

end
-- ==== Proof.MainValue.lean ====
/- What the body of the main call computes over the extended reals: each of its three histograms as a sum over the
   windows of one pair of slices. -/
module

public import proofs.«01_k».proof.Proof.MainBody
public import proofs.«01_k».proof.Proof.Digits

@[expose] public section

noncomputable section

namespace Cert.Dice.Main

open Idealize.ShloMosaic Idealize.SL.Sem Cert.KernelIdeal Cert.KernelIdeal.Gen

theorem hist_apply (hi lo : FVec Ideal S264x256 .f32) (w : FVec Ideal S264x256 .bf16) (h l : Fin 16) :
    hist hi lo w (ix2 h l) = ∑ r : Fin 264, ∑ c : Fin 256,
      if hi (ix2 r c) = ((h.val : ℝ) : EReal) ∧ lo (ix2 r c) = ((l.val : ℝ) : EReal) then w (ix2 r c) else 0 := by
  unfold hist hot digits flat
  pointwise
  rw [sitofp_small _ (by omega), sitofp_small _ (by omega), Fin.sum_univ_tiles 264 256 rfl]
  refine Finset.sum_congr rfl fun r _ => Finset.sum_congr rfl fun c _ => ?_
  have e1 : (r.val * 256 + c.val) / 256 = r.val := by omega
  have e2 : (r.val * 256 + c.val) % 256 = c.val := by omega
  simp only [e1, e2, Fin.eta]
  split_ifs <;> simp_all

theorem cell_apply (v : ℕ) (hv : v < 2 ^ 31) (h l : Fin 16) :
    cell (F := Ideal) (BitVec.ofNat 32 v) (ix2 h l) = if h.val = v ∧ l.val = v then 1 else 0 := by
  unfold cell
  pointwise
  rw [cmpi_eq_small (by omega) hv, cmpi_eq_small (by omega) hv, andi_test, sitofp_test]

theorem valid_apply (r : Fin 264) (l : Fin 256) :
    valid (F := Ideal) (ix2 r l) = if r.val < 257 then 1 else 0 := by
  unfold valid
  pointwise
  rw [cmpi_slt_small (by omega) (by omega), cmpi_slt_small (by omega) (by omega), sitofp_test, sitofp_test, if_pos l.isLt, mul_one]

theorem right_apply (x : FVec Ideal S264x256 .f32) (f : ℕ → ℕ → EReal) (h0 : ∀ a, f a 0 = 0)
    (hx : ∀ (r : Fin 264) (c : Fin 256), x (ix2 r c) = f r.val (c.val + 1)) (r : Fin 264) (c : Fin 256) :
    right x (ix2 r c) = f r.val c.val := by
  unfold right lane0 bc
  pointwise
  rw [cmpi_eq_small (by omega) (by omega), select_test]
  split_ifs with h1 h2 h3
  · rw [h1, h0]
  · omega
  · rw [hx]; congr 1; show c.val - 1 + 1 = c.val; omega
  · exact absurd rfl h3

theorem down_apply (x : FVec Ideal S264x256 .f32) (f : ℕ → ℕ → EReal) (h0 : ∀ b, f 264 b = f 0 b)
    (hx : ∀ (r : Fin 264) (c : Fin 256), x (ix2 r c) = f r.val (c.val + 1)) (r : Fin 264) (c : Fin 256) :
    down x (ix2 r c) = f (r.val + 1) (c.val + 1) := by
  unfold down
  pointwise
  split_ifs with h1 h2
  · rw [hx]; congr 1; show 1 + r.val = r.val + 1; omega
  · rw [hx]
    have : r.val = 263 := by omega
    show f (r.val - 263) (c.val + 1) = _
    rw [this]; exact (h0 _).symm
  · exact absurd rfl h2

/-- The corners that the kernel cuts out of two padded blocks are the windows' corners. -/
theorem corners_apply (x y : FVec Ideal S264x256 .f32) (s s' : Fin 256 → Fin 256 → EReal)
    (hx : ∀ (r : Fin 264) (c : Fin 256), x (ix2 r c) = img s r.val (c.val + 1))
    (hy : ∀ (r : Fin 264) (c : Fin 256), y (ix2 r c) = img s' r.val (c.val + 1)) (r : Fin 264) (c : Fin 256) :
    (fun k => corners x y k (ix2 r c)) = win s s' r.val c.val := by
  have hz : ∀ (t : Fin 256 → Fin 256 → EReal) a, img t a 0 = 0 := fun t a => img_out t (by omega)
  have hw : ∀ (t : Fin 256 → Fin 256 → EReal) b, img t 264 b = img t 0 b := fun t b => by
    rw [img_out t (by omega), img_out t (by omega)]
  have d := down_apply x (img s) (hw s) hx
  have d' := down_apply y (img s') (hw s') hy
  funext k
  fin_cases k
  · exact right_apply x (img s) (hz s) hx r c
  · exact hx r c
  · exact right_apply (down x) (fun a b => img s (a + 1) b) (fun a => hz s _) d r c
  · exact d r c
  · exact right_apply y (img s') (hz s') hy r c
  · exact hy r c
  · exact right_apply (down y) (fun a b => img s' (a + 1) b) (fun a => hz s' _) d' r c
  · exact d' r c

/-- A sum of real numbers. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The digit (upper and lower alike) of the first step's byte, told from where a window lies. -/
def place (r c : ℕ) : ℕ :=
  if r = 0 then (if c = 0 then 8 else 12) else if r = 256 then (if c = 0 then 2 else 3) else if c = 0 then 10 else 15

theorem first_real (f : Fin 264 → Fin 256 → ℝ) (K : ℕ → ℝ) :
    ((∑ c, ((∑ r, f r c) - f 0 c - f 256 c)) - ((∑ r, f r 0) - f 0 0 - f 256 0)) * K 15
      + ((∑ r, f r 0) - f 0 0 - f 256 0) * K 10 + (((∑ c, f 0 c) - f 0 0) * K 12 + f 0 0 * K 8)
      + (((∑ c, f 256 c) - f 256 0) * K 3 + f 256 0 * K 2)
    = ∑ r : Fin 264, ∑ c : Fin 256, f r c * K (place r.val c.val) := by
  have e : ∀ (r : Fin 264) (c : Fin 256), f r c * K (place r.val c.val) = f r c * K 15
      + (if c = 0 then f r c * (K 10 - K 15) else 0)
      + (if r = 0 then f r c * (K 12 - K 15) else 0)
      + (if r = 0 then (if c = 0 then f r c * (K 8 - K 12 - K 10 + K 15) else 0) else 0)
      + (if r = 256 then f r c * (K 3 - K 15) else 0)
      + (if r = 256 then (if c = 0 then f r c * (K 2 - K 3 - K 10 + K 15) else 0) else 0) := by
    intro r c
    have hr0 : r = 0 ↔ r.val = 0 := Fin.ext_iff
    have hr1 : r = 256 ↔ r.val = 256 := Fin.ext_iff
    have hc0 : c = 0 ↔ c.val = 0 := Fin.ext_iff
    unfold place
    simp only [hr0, hr1, hc0]
    split_ifs <;> first | omega | ring
  simp only [e, Finset.sum_add_distrib, Finset.sum_ite_eq', Finset.sum_ite_irrel, Finset.sum_const_zero, Finset.mem_univ,
    if_true, Finset.sum_sub_distrib, ← Finset.sum_mul]
  rw [Finset.sum_comm]
  ring

theorem first_apply (w : FVec Ideal S264x256 .f32) (f : Fin 264 → Fin 256 → ℝ)
    (hw : ∀ r c, w (ix2 r c) = ((f r c : ℝ) : EReal)) (h l : Fin 16) :
    first w (ix2 h l) = ∑ r : Fin 264, ∑ c : Fin 256,
      if h.val = place r.val c.val ∧ l.val = place r.val c.val then w (ix2 r c) else 0 := by
  have hc : ∀ v : ℕ, v < 2 ^ 31 → cell (F := Ideal) (BitVec.ofNat 32 v) (ix2 h l) = (((if h.val = v ∧ l.val = v then 1 else 0 : ℝ)) : EReal) := by
    intro v hv; rw [cell_apply v hv]; split_ifs <;> simp
  unfold first region middle head top bottom
  pointwise
  rw [hc 15 (by omega), hc 10 (by omega), hc 12 (by omega), hc 8 (by omega), hc 3 (by omega), hc 2 (by omega)]
  simp only [hw]
  simp only [sum_coe, ← EReal.coe_sub, ← EReal.coe_mul, ← EReal.coe_add]
  rw [first_real f fun v => if h.val = v ∧ l.val = v then 1 else 0, ← sum_coe]
  refine Finset.sum_congr rfl fun r _ => ?_
  rw [← sum_coe]
  refine Finset.sum_congr rfl fun c _ => ?_
  split_ifs <;> simp

theorem win_place {s s' : Fin 256 → Fin 256 → EReal} (h : Pos s) (h' : Pos s') {r c : ℕ} (hr : r ≤ 256) (hc : c < 256) :
    hi (win s s' r c) = place r c ∧ lo (win s s' r c) = place r c := by
  have e0 : ∀ a b, bit (img s a b) = if (1 ≤ a ∧ a ≤ 256) ∧ 1 ≤ b ∧ b ≤ 256 then 1 else 0 := bit_img h
  have e1 : ∀ a b, bit (img s' a b) = if (1 ≤ a ∧ a ≤ 256) ∧ 1 ≤ b ∧ b ≤ 256 then 1 else 0 := bit_img h'
  constructor
  · show bit (img s' r c) + 2 * bit (img s' r (c + 1)) + 4 * bit (img s' (r + 1) c) + 8 * bit (img s' (r + 1) (c + 1)) = _
    simp only [e1, place]
    split_ifs <;> omega
  · show bit (img s r c) + 2 * bit (img s r (c + 1)) + 4 * bit (img s (r + 1) c) + 8 * bit (img s (r + 1) (c + 1)) = _
    simp only [e0, place]
    split_ifs <;> omega

section Point

variable {x0 x1 x2 x3 : Vec Ideal S1x1x264x256 .f32} {s s' u u' : Fin 256 → Fin 256 → EReal}

theorem hp_apply {c : Fin 8 → FVec Ideal S264x256 .f32} (hs : Pos s) (hs' : Pos s')
    (hc : ∀ (r : Fin 264) (q : Fin 256), (fun k => c k (ix2 r q)) = win s s' r.val q.val) (h l : Fin 16) (t : ℕ) :
    hp c t (ix2 h l) = ∑ r : Fin 264, ∑ q : Fin 256, weigh (win s s' r.val q.val) h.val l.val (t + 1) := by
  have hu : ∀ (r : Fin 264) (q : Fin 256), Unit8 fun k => c k (ix2 r q) := fun r q => by rw [hc]; exact win_unit hs hs' _ _
  induction t with
  | zero =>
    have hw : ∀ (r : Fin 264) (q : Fin 256), vsw c (ix2 r q) = gsw (win s s' r.val q.val) := fun r q => by
      rw [vsw_apply _ _ (hu r q), hc]
    have hr : ∀ (r : Fin 264) (q : Fin 256), ∃ v : ℝ, vsw c (ix2 r q) = (v : EReal) := fun r q => by
      obtain ⟨v, hv, -⟩ := unit_coe ⟨gsw_nonneg _, gsw_le_one (win_unit hs hs' r.val q.val)⟩
      exact ⟨v, (hw r q).trans hv⟩
    choose f hf using hr
    show first (vsw c) (ix2 h l) = _
    rw [first_apply _ f hf]
    refine Finset.sum_congr rfl fun r _ => Finset.sum_congr rfl fun q _ => ?_
    show _ = 0 + if Bin (win s s' r.val q.val) h.val l.val then gsw (win s s' r.val q.val) else 0
    rw [zero_add, hw]
    by_cases h256 : r.val ≤ 256
    · obtain ⟨e1, e2⟩ := win_place hs hs' h256 q.isLt
      exact if_congr (by unfold Bin; rw [e1, e2]; exact and_congr eq_comm eq_comm) rfl rfl
    · rw [win_out s s' (by omega), gsw_zero]; simp
  | succ t ih =>
    show addf (hp c t) (hist (vhi (vst vsw c (t + 1))) (vlo (vst vsw c (t + 1)))
      (truncf .bf16 (vsw (vst vsw c (t + 1))) bitsLt_bf16_f32)) (ix2 h l) = _
    have e : addf (hp c t) (hist (vhi (vst vsw c (t + 1))) (vlo (vst vsw c (t + 1)))
      (truncf .bf16 (vsw (vst vsw c (t + 1))) bitsLt_bf16_f32)) (ix2 h l) = hp c t (ix2 h l) + (hist (vhi (vst vsw c (t + 1))) (vlo (vst vsw c (t + 1)))
      (truncf .bf16 (vsw (vst vsw c (t + 1))) bitsLt_bf16_f32)) (ix2 h l) := by pointwise
    rw [e, ih, hist_apply, ← Finset.sum_add_distrib]
    refine Finset.sum_congr rfl fun r _ => ?_
    rw [← Finset.sum_add_distrib]
    refine Finset.sum_congr rfl fun q _ => ?_
    have e2 := vst_apply c (ix2 r q) (hu r q) (t + 1)
    have h2 : Unit8 fun k => vst vsw c (t + 1) k (ix2 r q) := by rw [e2]; exact gst_unit (hu r q) _
    show _ = weigh (win s s' r.val q.val) h.val l.val (t + 1) + if Bin (gst (win s s' r.val q.val) (t + 1)) h.val l.val then gsw (gst (win s s' r.val q.val) (t + 1)) else 0
    congr 1
    rw [vlo_apply, vhi_apply]
    have e3 : truncf .bf16 (vsw (vst vsw c (t + 1))) bitsLt_bf16_f32 (ix2 r q) = vsw (vst vsw c (t + 1)) (ix2 r q) := by pointwise
    rw [e3, vsw_apply _ _ h2, e2, hc]
    exact if_congr (and_congr (nat_coe_inj _ _) (nat_coe_inj _ _)) rfl rfl

/-- The histogram of the weights at one grid point. -/
theorem histP_apply (hs : Pos s) (hs' : Pos s')
    (h0 : ∀ (r : Fin 264) (q : Fin 256), logistic (raw x0) (ix2 r q) = img s r.val (q.val + 1))
    (h1 : ∀ (r : Fin 264) (q : Fin 256), logistic (raw x1) (ix2 r q) = img s' r.val (q.val + 1)) (h l : Fin 16) :
    histP x0 x1 (ix2 h l) = ∑ r : Fin 264, ∑ q : Fin 256, weigh (win s s' r.val q.val) h.val l.val 8 :=
  hp_apply hs hs' (corners_apply _ _ s s' h0 h1) h l 7

theorem llo_apply {x : Vec Ideal S1x1x264x256 .f32} {u : Fin 256 → Fin 256 → EReal}
    (hx : ∀ (r : Fin 264) (q : Fin 256), raw x (ix2 r q) = img u r.val (q.val + 1)) (r : Fin 264) (q : Fin 256) :
    llo x (ix2 r q) = four (img u r.val q.val) (img u r.val (q.val + 1)) (img u (r.val + 1) q.val) (img u (r.val + 1) (q.val + 1)) := by
  have e := corners_apply (raw x) (raw x) u u hx hx r q
  unfold llo
  rw [vcode_apply]
  have e0 := congrFun e 0; have e1 := congrFun e 1; have e2 := congrFun e 2; have e3 := congrFun e 3
  exact congr (congr (congr (congrArg four e0) e1) e2) e3

theorem labels_apply (hu : Flag u) (hu' : Flag u')
    (h2 : ∀ (r : Fin 264) (q : Fin 256), raw x2 (ix2 r q) = img u r.val (q.val + 1))
    (h3 : ∀ (r : Fin 264) (q : Fin 256), raw x3 (ix2 r q) = img u' r.val (q.val + 1)) (r : Fin 264) (q : Fin 256) :
    llo x2 (ix2 r q) = ((lo (win u u' r.val q.val) : ℝ) : EReal) ∧ llo x3 (ix2 r q) = ((hi (win u u' r.val q.val) : ℝ) : EReal) := by
  have f := win_flag hu hu' r.val q.val
  rw [llo_apply h2, llo_apply h3, ← four_lo, ← four_hi]
  simp only [nz_flag (f _)]
  exact ⟨rfl, rfl⟩

/-- The histogram of the windows that exist at one grid point. -/
theorem histL_apply (hu : Flag u) (hu' : Flag u')
    (h2 : ∀ (r : Fin 264) (q : Fin 256), raw x2 (ix2 r q) = img u r.val (q.val + 1))
    (h3 : ∀ (r : Fin 264) (q : Fin 256), raw x3 (ix2 r q) = img u' r.val (q.val + 1)) (h l : Fin 16) :
    histL x2 x3 (ix2 h l) = ∑ r : Fin 264, ∑ q : Fin 256,
      if Bin (win u u' r.val q.val) h.val l.val then (if r.val < 257 then 1 else 0) else 0 := by
  unfold histL
  rw [hist_apply]
  refine Finset.sum_congr rfl fun r _ => Finset.sum_congr rfl fun q _ => ?_
  obtain ⟨e1, e2⟩ := labels_apply hu hu' h2 h3 r q
  rw [e1, e2, valid_apply]
  exact if_congr (and_congr (nat_coe_inj _ _) (nat_coe_inj _ _)) rfl rfl

/-- The histogram of the weights of the steps whose byte is the label's, at one grid point. -/
theorem histI_apply (hs : Pos s) (hs' : Pos s') (hu : Flag u) (hu' : Flag u')
    (h0 : ∀ (r : Fin 264) (q : Fin 256), logistic (raw x0) (ix2 r q) = img s r.val (q.val + 1))
    (h1 : ∀ (r : Fin 264) (q : Fin 256), logistic (raw x1) (ix2 r q) = img s' r.val (q.val + 1))
    (h2 : ∀ (r : Fin 264) (q : Fin 256), raw x2 (ix2 r q) = img u r.val (q.val + 1))
    (h3 : ∀ (r : Fin 264) (q : Fin 256), raw x3 (ix2 r q) = img u' r.val (q.val + 1)) (h l : Fin 16) :
    histI x0 x1 x2 x3 (ix2 h l) = ∑ r : Fin 264, ∑ q : Fin 256,
      if Bin (win u u' r.val q.val) h.val l.val then match8 (win s s' r.val q.val) (win u u' r.val q.val) 8 else 0 := by
  unfold histI
  rw [hist_apply]
  refine Finset.sum_congr rfl fun r _ => Finset.sum_congr rfl fun q _ => ?_
  obtain ⟨e1, e2⟩ := labels_apply hu hu' h2 h3 r q
  have e3 : truncf .bf16 (vpw vsw (cp x0 x1) (llo x2) (llo x3) 8) bitsLt_bf16_f32 (ix2 r q)
      = vpw vsw (cp x0 x1) (llo x2) (llo x3) 8 (ix2 r q) := by pointwise
  have ec : (fun k => cp x0 x1 k (ix2 r q)) = win s s' r.val q.val := corners_apply _ _ s s' h0 h1 r q
  rw [e3, vpw_apply _ _ _ _ (win u u' r.val q.val) (by rw [ec]; exact win_unit hs hs' _ _) e1 e2, ec, e1, e2]
  exact if_congr (and_congr (nat_coe_inj _ _) (nat_coe_inj _ _)) rfl rfl

end Point

end Cert.Dice.Main

end
-- ==== Proof.MainPoint.lean ====
/- What one grid point of the main call leaves in the output block: each of the three histograms added to what the
   block held, or, at the first point of a row of the grid, to zero. -/
module

public import proofs.«01_k».proof.Proof.MainValue

@[expose] public section

noncomputable section

namespace Cert.Dice.Main

open Idealize.ShloMosaic Idealize.SL.Sem Cert.KernelIdeal Cert.KernelIdeal.Gen

variable {F : FTy → Type} [FloatOps F]

/-- The zeros that the first point of a row of the grid stores. -/
abbrev wipe : View.Piece (Elt F) S1x3x16x16 .f32 :=
  ⟨Rect.unit ![0, 0, 0, 0] S1x3x16x16.size inb_S1x3x16x16_S1x3x16x16_0_0_0_0, broadcast S1x3x16x16 (Scalar.ofBits .f32 0x00000000#32)⟩

/-- What the first point of a row of the grid stores. -/
theorem runA (c : Dev Cert.KernelIdeal.nD) (i : grid0.Coords) (arg2 : Memref Cert.KernelIdeal.sig .tc .vmem S1x1x264x256 .f32) (harg2 : arg2.IsWhole) (arg3 : Memref Cert.KernelIdeal.sig .tc .vmem S1x1x264x256 .f32) (harg3 : arg3.IsWhole) (arg4 : Memref Cert.KernelIdeal.sig .tc .vmem S1x1x264x256 .f32) (harg4 : arg4.IsWhole) (arg5 : Memref Cert.KernelIdeal.sig .tc .vmem S1x1x264x256 .f32) (harg5 : arg5.IsWhole) (arg6 : Memref Cert.KernelIdeal.sig .tc .vmem S1x3x16x16 .f32) (harg6 : arg6.IsWhole) (hc0 : cond0_0 i)
    (x0 : Vec F S1x1x264x256 .f32) (x1 : Vec F S1x1x264x256 .f32) (x2 : Vec F S1x1x264x256 .f32) (x3 : Vec F S1x1x264x256 .f32) :
    (kernelRun0_A c i arg2 harg2 arg3 harg3 arg4 harg4 arg5 harg5 arg6 harg6 hc0 x0 x1 x2 x3).1 =
      (let p0 : View.Piece (Elt F) S1x3x16x16 .f32 := ⟨sl0, plus (histP (ldIn arg2 harg2 x0) (ldIn arg3 harg3 x1)) (arg6.view.readCov [wipe] sl0.toLoadRect)⟩
       let p1 : View.Piece (Elt F) S1x3x16x16 .f32 := ⟨sl1, plus (histL (ldIn arg4 harg4 x2) (ldIn arg5 harg5 x3)) (arg6.view.readCov [p0, wipe] sl1.toLoadRect)⟩
       let p2 : View.Piece (Elt F) S1x3x16x16 .f32 := ⟨sl2, plus (histI (ldIn arg2 harg2 x0) (ldIn arg3 harg3 x1) (ldIn arg4 harg4 x2) (ldIn arg5 harg5 x3)) (arg6.view.readCov [p1, p0, wipe] sl2.toLoadRect)⟩
       [p2, p1, p0, wipe]) := by
  sl_kernel_rfl

/-- An index of the output block's slice `k`, and no index of another slice. -/
theorem slice_emb (k : Fin 3) (off : Fin 4 → ℕ) (ho : off = ![0, k.val, 0, 0]) (inb) (h l : Fin 16) :
    (Rect.unit (s := S1x3x16x16) off ![1, 1, 16, 16] inb).emb (ix4 (0 : Fin 1) (0 : Fin 1) h l) = ix4 (0 : Fin 1) k h l := by
  subst ho
  funext a; apply Fin.ext
  fin_cases a
  · rfl
  · show k.val + 1 * 0 = k.val; omega
  · show 0 + 1 * h.val = h.val; omega
  · show 0 + 1 * l.val = l.val; omega

theorem slice_not_mem (k j : Fin 3) (hk : j ≠ k) (off : Fin 4 → ℕ) (ho : off = ![0, j.val, 0, 0]) (inb) (h l : Fin 16) :
    ix4 (0 : Fin 1) k h l ∉ (Rect.unit (s := S1x3x16x16) off ![1, 1, 16, 16] inb).set := by
  subst ho
  rw [Rect.mem_set_unit]
  intro hm
  have h1 := hm 1
  have e : ((ix4 (0 : Fin 1) k h l : S1x3x16x16.Idx) 1 : ℕ) = k.val := rfl
  have h2 : j.val ≤ k.val ∧ k.val < j.val + 1 := h1
  exact hk (Fin.ext (by omega))

section Canon

variable {Val : EltTy → Type} [∀ e, Nonempty (Val e)]

theorem canon_at (k : Fin 3) (off : Fin 4 → ℕ) (ho : off = ![0, k.val, 0, 0]) (inb)
    (w : (Rect.unit (s := S1x3x16x16) off ![1, 1, 16, 16] inb).shape.Idx → Val .f32) (L : List (View.Piece Val S1x3x16x16 .f32)) (h l : Fin 16) :
    View.canon ((⟨Rect.unit (s := S1x3x16x16) off ![1, 1, 16, 16] inb, w⟩ : View.Piece Val S1x3x16x16 .f32) :: L) (ix4 (0 : Fin 1) k h l)
      = w (ix4 (0 : Fin 1) (0 : Fin 1) h l) := by
  rw [← slice_emb k off ho inb h l]
  exact View.canon_cons_emb (Val := Val) _ w L (ix4 (0 : Fin 1) (0 : Fin 1) h l)

theorem canon_off (k j : Fin 3) (hk : j ≠ k) (off : Fin 4 → ℕ) (ho : off = ![0, j.val, 0, 0]) (inb)
    (w : (Rect.unit (s := S1x3x16x16) off ![1, 1, 16, 16] inb).shape.Idx → Val .f32) (L : List (View.Piece Val S1x3x16x16 .f32)) (h l : Fin 16) :
    View.canon ((⟨Rect.unit (s := S1x3x16x16) off ![1, 1, 16, 16] inb, w⟩ : View.Piece Val S1x3x16x16 .f32) :: L) (ix4 (0 : Fin 1) k h l)
      = View.canon L (ix4 (0 : Fin 1) k h l) :=
  View.canon_cons_of_not_mem _ _ (slice_not_mem k j hk off ho inb h l)

/-- What three stores, one to each slice, leave. -/
theorem canon_slices (w0 w1 w2 : S1x1x16x16.Idx → Val .f32) (L : List (View.Piece Val S1x3x16x16 .f32)) (k : Fin 3) (h l : Fin 16) :
    View.canon ((⟨sl2, w2⟩ : View.Piece Val S1x3x16x16 .f32) :: ⟨sl1, w1⟩ :: ⟨sl0, w0⟩ :: L) (ix4 (0 : Fin 1) k h l)
      = (![w0, w1, w2] : Fin 3 → S1x1x16x16.Idx → Val .f32) k (ix4 (0 : Fin 1) (0 : Fin 1) h l) := by
  match k with
  | 0 => exact (canon_off 0 2 (by decide) _ rfl _ w2 _ h l).trans ((canon_off 0 1 (by decide) _ rfl _ w1 _ h l).trans (canon_at 0 _ rfl _ w0 L h l))
  | 1 => exact (canon_off 1 2 (by decide) _ rfl _ w2 _ h l).trans (canon_at 1 _ rfl _ w1 _ h l)
  | 2 => exact canon_at 2 _ rfl _ w2 _ h l

end Canon

/-- The three histograms of a grid point, by slice. -/
def tri (x0 x1 x2 x3 : Vec F S1x1x264x256 .f32) : Fin 3 → FVec F S16x16 .f32 :=
  ![histP x0 x1, histL x2 x3, histI x0 x1 x2 x3]

theorem plus_apply (g : FVec Ideal S16x16 .f32) (v : Vec Ideal S1x1x16x16 .f32) (h l : Fin 16) :
    plus g v (ix4 (0 : Fin 1) (0 : Fin 1) h l) = v (ix4 (0 : Fin 1) (0 : Fin 1) h l) + g (ix2 h l) := by
  unfold plus
  pointwise

/-- A later point of a row of the grid adds its histograms to what the output block held. -/
theorem out_B (c : Dev Cert.KernelIdeal.nD) (i : grid0.Coords) (arg2 : Memref Cert.KernelIdeal.sig .tc .vmem S1x1x264x256 .f32) (harg2 : arg2.IsWhole) (arg3 : Memref Cert.KernelIdeal.sig .tc .vmem S1x1x264x256 .f32) (harg3 : arg3.IsWhole) (arg4 : Memref Cert.KernelIdeal.sig .tc .vmem S1x1x264x256 .f32) (harg4 : arg4.IsWhole) (arg5 : Memref Cert.KernelIdeal.sig .tc .vmem S1x1x264x256 .f32) (harg5 : arg5.IsWhole) (arg6 : Memref Cert.KernelIdeal.sig .tc .vmem S1x3x16x16 .f32) (harg6 : arg6.IsWhole) (hc0 : ¬cond0_0 i)
    (x0 : Vec Ideal S1x1x264x256 .f32) (x1 : Vec Ideal S1x1x264x256 .f32) (x2 : Vec Ideal S1x1x264x256 .f32) (x3 : Vec Ideal S1x1x264x256 .f32) (xo4 : Vec Ideal S1x3x16x16 .f32)
    (k : Fin 3) (h l : Fin 16) :
    out0_B_4 c i arg2 harg2 arg3 harg3 arg4 harg4 arg5 harg5 arg6 harg6 hc0 x0 x1 x2 x3 xo4 (ix4 (0 : Fin 1) k h l)
      = xo4 (ix4 (0 : Fin 1) k h l) + tri x0 x1 x2 x3 k (ix2 h l) := by
  unfold out0_B_4
  rw [View.read_writes_eq_canon _ _ _ (cover0_B_4 c i arg2 harg2 arg3 harg3 arg4 harg4 arg5 harg5 arg6 harg6 hc0 x0 x1 x2 x3 xo4),
    runB]
  simp only [ldIn_eq]
  refine (canon_slices _ _ _ _ k h l).trans ?_
  fin_cases k
  · refine (plus_apply _ _ h l).trans ?_
    congr 1
    rw [View.readAt_eq_ld, harg6.read_unread]
    exact congrArg xo4 (slice_emb 0 _ rfl inb_S1x3x16x16_S1x1x16x16_0_0_0_0 h l)
  · refine (plus_apply _ _ h l).trans ?_
    congr 1
    rw [View.readAt_eq_ld, harg6.read_unread]
    exact congrArg xo4 (slice_emb 1 _ rfl inb_S1x3x16x16_S1x1x16x16_0_1_0_0 h l)
  · refine (plus_apply _ _ h l).trans ?_
    congr 1
    rw [View.readAt_eq_ld, harg6.read_unread]
    exact congrArg xo4 (slice_emb 2 _ rfl inb_S1x3x16x16_S1x1x16x16_0_2_0_0 h l)

theorem wipe_mem (y : S1x3x16x16.Idx) : y ∈ (wipe (F := F)).1.set :=
  View.mem_set_unit_zero (S := S1x3x16x16) (funext fun a => by fin_cases a <;> rfl) inb_S1x3x16x16_S1x3x16x16_0_0_0_0 y

theorem wipe_apply (y : S1x3x16x16.Idx) : View.canon [wipe (F := Ideal)] y = 0 := by
  have hz : (![0, 0, 0, 0] : Fin 4 → Nat) = fun _ => 0 := funext fun a => by fin_cases a <;> rfl
  rw [View.canon_unit_zero (S := S1x3x16x16) hz]
  pointwise

theorem cov_slice {Val : EltTy → Type} [∀ e, Nonempty (Val e)] (a : Memref Cert.KernelIdeal.sig .tc .vmem S1x3x16x16 .f32)
    (L : List (View.Piece Val S1x3x16x16 .f32)) (hL : ∀ y, ∃ p ∈ L, y ∈ p.1.set) (k : Fin 3) (off : Fin 4 → ℕ) (ho : off = ![0, k.val, 0, 0]) (inb) (h l : Fin 16) :
    a.view.readCov L (Rect.unit (s := S1x3x16x16) off ![1, 1, 16, 16] inb).toLoadRect (ix4 (0 : Fin 1) (0 : Fin 1) h l)
      = View.canon L (ix4 (0 : Fin 1) k h l) := by
  rw [View.readCov_eq_canon_ld _ _ _ hL, ← slice_emb k off ho inb h l]
  rfl

/-- What the stores of the first point leave, whatever the histograms are. -/
theorem stores_A (a : Memref Cert.KernelIdeal.sig .tc .vmem S1x3x16x16 .f32) (g0 g1 g2 : FVec Ideal S16x16 .f32) (k : Fin 3) (h l : Fin 16) :
    (let p0 : View.Piece (Elt Ideal) S1x3x16x16 .f32 := ⟨sl0, plus g0 (a.view.readCov [wipe] sl0.toLoadRect)⟩
     let p1 : View.Piece (Elt Ideal) S1x3x16x16 .f32 := ⟨sl1, plus g1 (a.view.readCov [p0, wipe] sl1.toLoadRect)⟩
     let p2 : View.Piece (Elt Ideal) S1x3x16x16 .f32 := ⟨sl2, plus g2 (a.view.readCov [p1, p0, wipe] sl2.toLoadRect)⟩
     View.canon [p2, p1, p0, wipe] (ix4 (0 : Fin 1) k h l)) = (![g0, g1, g2] : Fin 3 → FVec Ideal S16x16 .f32) k (ix2 h l) := by
  have hw : ∀ L : List (View.Piece (Elt Ideal) S1x3x16x16 .f32), wipe ∈ L → ∀ y : S1x3x16x16.Idx, ∃ p ∈ L, y ∈ p.1.set :=
    fun L hL y => ⟨wipe, hL, wipe_mem y⟩
  extract_lets p0 p1 p2
  refine (canon_slices _ _ _ _ k h l).trans ?_
  match k with
  | 0 =>
    refine (plus_apply _ _ h l).trans ?_
    have e := cov_slice a _ (hw [wipe] (by simp)) 0 _ rfl inb_S1x3x16x16_S1x1x16x16_0_0_0_0 h l
    exact (congrArg (· + _) (e.trans (wipe_apply _))).trans (zero_add _)
  | 1 =>
    refine (plus_apply _ _ h l).trans ?_
    have e := cov_slice a _ (hw [p0, wipe] (by simp)) 1 _ rfl inb_S1x3x16x16_S1x1x16x16_0_1_0_0 h l
    have e2 := canon_off (Val := Elt Ideal) 1 0 (by decide) _ rfl inb_S1x3x16x16_S1x1x16x16_0_0_0_0 p0.2 [wipe] h l
    exact (congrArg (· + _) (e.trans (e2.trans (wipe_apply _)))).trans (zero_add _)
  | 2 =>
    refine (plus_apply _ _ h l).trans ?_
    have e := cov_slice a _ (hw [p1, p0, wipe] (by simp)) 2 _ rfl inb_S1x3x16x16_S1x1x16x16_0_2_0_0 h l
    have e1 := canon_off (Val := Elt Ideal) 2 1 (by decide) _ rfl inb_S1x3x16x16_S1x1x16x16_0_1_0_0 p1.2 [p0, wipe] h l
    have e2 := canon_off (Val := Elt Ideal) 2 0 (by decide) _ rfl inb_S1x3x16x16_S1x1x16x16_0_0_0_0 p0.2 [wipe] h l
    exact (congrArg (· + _) (e.trans (e1.trans (e2.trans (wipe_apply _))))).trans (zero_add _)

/-- The first point of a row of the grid leaves its histograms. -/
theorem out_A (c : Dev Cert.KernelIdeal.nD) (i : grid0.Coords) (arg2 : Memref Cert.KernelIdeal.sig .tc .vmem S1x1x264x256 .f32) (harg2 : arg2.IsWhole) (arg3 : Memref Cert.KernelIdeal.sig .tc .vmem S1x1x264x256 .f32) (harg3 : arg3.IsWhole) (arg4 : Memref Cert.KernelIdeal.sig .tc .vmem S1x1x264x256 .f32) (harg4 : arg4.IsWhole) (arg5 : Memref Cert.KernelIdeal.sig .tc .vmem S1x1x264x256 .f32) (harg5 : arg5.IsWhole) (arg6 : Memref Cert.KernelIdeal.sig .tc .vmem S1x3x16x16 .f32) (harg6 : arg6.IsWhole) (hc0 : cond0_0 i)
    (x0 : Vec Ideal S1x1x264x256 .f32) (x1 : Vec Ideal S1x1x264x256 .f32) (x2 : Vec Ideal S1x1x264x256 .f32) (x3 : Vec Ideal S1x1x264x256 .f32)
    (k : Fin 3) (h l : Fin 16) :
    out0_A_4 c i arg2 harg2 arg3 harg3 arg4 harg4 arg5 harg5 arg6 harg6 hc0 x0 x1 x2 x3 (ix4 (0 : Fin 1) k h l)
      = tri x0 x1 x2 x3 k (ix2 h l) := by
  unfold out0_A_4
  rw [View.read_writes_eq_canon _ _ _ (cover0_A_4 c i arg2 harg2 arg3 harg3 arg4 harg4 arg5 harg5 arg6 harg6 hc0 x0 x1 x2 x3), runA]
  simp only [ldIn_eq]
  exact stores_A arg6 _ _ _ k h l

end Cert.Dice.Main

end
-- ==== Proof.Entry.lean ====
/- What one window counts in one cell of the three histograms. -/
module

public import proofs.«01_k».proof.Proof.Digits

@[expose] public section

noncomputable section

namespace Cert.Dice

open Idealize.ShloMosaic

/-- The corners `c` of the scores and `d` of the labels of a window in row `r`, in the cell at row `h` and column `l`:
    the weights of the steps with that byte, one if the label has it, and the weights of the steps that agree with the label. -/
def entry (c d : Fin 8 → EReal) (r h l : ℕ) : Fin 3 → EReal :=
  ![weigh c h l 8, if Bin d h l then (if r < 257 then 1 else 0) else 0, if Bin d h l then match8 c d 8 else 0]

theorem weigh_zero (h l t : ℕ) : weigh (fun _ => 0) h l t = 0 := by
  induction t with
  | zero => rfl
  | succ t ih =>
    show weigh (fun _ => 0) h l t + (if Bin (gst (fun _ => 0) t) h l then gsw (gst (fun _ => 0) t) else 0) = 0
    rw [ih, gst_zero, gsw_zero, ite_self, zero_add]

theorem match8_zero (d : Fin 8 → EReal) (t : ℕ) : match8 (fun _ => 0) d t = 0 := by
  induction t with
  | zero => rfl
  | succ t ih =>
    show match8 (fun _ => 0) d t + (if Same (gst (fun _ => 0) t) d then gsw (gst (fun _ => 0) t) else 0) = 0
    rw [ih, gst_zero, gsw_zero, ite_self, zero_add]

/-- A window beyond the last row counts nothing. -/
theorem entry_out (s s' u u' : Fin 256 → Fin 256 → EReal) {r : ℕ} (hr : 256 < r) (q h l : ℕ) (k : Fin 3) :
    entry (win s s' r q) (win u u' r q) r h l k = 0 := by
  unfold entry
  rw [win_out s s' hr, win_out u u' hr]
  match k with
  | 0 => exact weigh_zero h l 8
  | 1 => have e : ¬ r < 257 := by omega
         show (if Bin (fun _ => 0) h l then (if r < 257 then (1 : EReal) else 0) else 0) = 0; rw [if_neg e, ite_self]
  | 2 => show (if Bin (fun _ => 0) h l then match8 (fun _ => 0) (fun _ => 0) 8 else 0) = (0 : EReal); rw [match8_zero, ite_self]

/-- Only 257 rows of windows count. -/
theorem rows (f : ℕ → EReal) (hf : ∀ r, 256 < r → f r = 0) : (∑ r : Fin 264, f r.val) = ∑ r : Fin 257, f r.val := by
  rw [show (264 : ℕ) = 257 + 7 from rfl, Fin.sum_univ_add]
  have e : (∑ i : Fin 7, f (Fin.natAdd 257 i).val) = 0 :=
    Finset.sum_eq_zero fun i _ => hf _ (by rw [Fin.val_natAdd]; omega)
  rw [e, add_zero]
  rfl

/-- The windows of a pair, in one row. -/
theorem windows (f : ℕ → ℕ → EReal) (hf : ∀ r q, 256 < r → f r q = 0) :
    (∑ r : Fin 264, ∑ q : Fin 256, f r.val q.val) + (∑ r : Fin 264, f r.val 256) = ∑ w : Fin 66049, f (w.val / 257) (w.val % 257) := by
  rw [← Finset.sum_add_distrib]
  have e : ∀ r : ℕ, (∑ q : Fin 256, f r q.val) + f r 256 = ∑ q : Fin 257, f r q.val := fun r => by
    exact (Fin.sum_univ_castSucc fun q : Fin 257 => f r q.val).symm
  simp only [e]
  rw [rows (fun r => ∑ q : Fin 257, f r q.val) fun r hr => Finset.sum_eq_zero fun q _ => hf r _ hr,
    Fin.sum_univ_tiles 257 257 rfl]
  refine Finset.sum_congr rfl fun r _ => Finset.sum_congr rfl fun q _ => ?_
  have e1 : (r.val * 257 + q.val) / 257 = r.val := by omega
  have e2 : (r.val * 257 + q.val) % 257 = q.val := by omega
  simp only [e1, e2]

end Cert.Dice

end
-- ==== Proof.MainArray.lean ====
/- The arrays of the main call: what its inputs hold when it starts, its blocks, and what its output array holds at its end. -/
module

public import proofs.«01_k».proof.Proof.MainPoint
public import proofs.«01_k».proof.Proof.Entry
public import Idealize.ShloMosaic.Lib.Pipeline.Value

@[expose] public section

noncomputable section

namespace Cert.Dice.Main

open Idealize.ShloMosaic Idealize.ShloMosaic.TcCoe Idealize.SL.Sem Cert.KernelIdeal Cert.KernelIdeal.Gen
open Idealize.ShloMosaic.Pipeline (Dat)

variable (V : (c : Dev Cert.KernelIdeal.nD) → (b : Ref Cert.KernelIdeal.sig .tc) → Buf (Elt Ideal) ((c : Thread Cert.KernelIdeal.nD Cert.KernelIdeal.τ).loc b)) (c : Dev Cert.KernelIdeal.nD)

/-- A grid point: batch `n`, pair `z`. -/
theorem lt_points {n z : ℕ} (hn : n < 2) (hz : z < 15) : n * 15 + z < cfg0.N := by
  rw [show cfg0.N = 30 from N_0]; omega

/-- The histograms of one point. -/
def part (t : Fin cfg0.N) : Fin 3 → FVec Ideal S16x16 .f32 :=
  tri (iblk0 V c 0 t) (iblk0 V c 1 t) (iblk0 V c 2 t) (iblk0 V c 3 t)

/-- After pair `z` the output block holds the sum of the histograms of the pairs up to `z`. -/
theorem outs_sum (n : ℕ) (hn : n < 2) (k : Fin 3) (h l : Fin 16) : ∀ (z : ℕ) (hz : z < 15),
    outsAt0 V c (n * 15 + z) (lt_points hn hz) (ix4 (0 : Fin 1) k h l)
      = ∑ p : Fin (z + 1), part V c ⟨n * 15 + p.val, lt_points hn (by omega)⟩ k (ix2 h l)
  | 0, hz => by
    rw [Fin.sum_univ_one]
    have e := outsAt0_A V c ⟨n * 15 + 0, lt_points hn hz⟩ (by show (n * 15 + 0) % 15 = 0; omega)
    exact (congrFun e _).trans (out_A ..)
  | z + 1, hz => by
    have hB : ¬ (⟨n * 15 + (z + 1), lt_points hn hz⟩ : Fin cfg0.N).val % 15 = 0 := by dsimp only; omega
    rw [Fin.sum_univ_castSucc]
    have e := outsAt0_B V c ⟨n * 15 + (z + 1), lt_points hn hz⟩ hB
    refine (congrFun e _).trans ((out_B ..).trans ?_)
    exact congrArg (· + _) (outs_sum n hn k h l z (by omega))

/-- What the output array ends holding. -/
def result : FVec Ideal S2x3x16x16 .f32 := fun i =>
  ∑ p : Fin 15, part V c ⟨(i 0).val * 15 + p.val, lt_points (i 0).isLt p.isLt⟩ (i 1) (ix2 (i 2) (i 3))

theorem coords_eq (t : Fin cfg0.N) : (grid0.coords t 0 : ℕ) = t.val / 15 ∧ (grid0.coords t 1 : ℕ) = t.val % 15 := by
  revert t; decide +kernel

theorem index4 (t : Fin cfg0.N) : win0_4.index t 0 = t.val / 15 ∧ win0_4.index t 1 = 0 ∧ win0_4.index t 2 = 0 ∧ win0_4.index t 3 = 0 := by
  revert t; decide +kernel

theorem index0 (t : Fin cfg0.N) : win0_0.index t 0 = t.val / 15 ∧ win0_0.index t 1 = t.val % 15 ∧ win0_0.index t 2 = 0 ∧ win0_0.index t 3 = 0 := by
  revert t; decide +kernel

theorem index1 (t : Fin cfg0.N) : win0_1.index t 0 = t.val / 15 ∧ win0_1.index t 1 = t.val % 15 + 1 ∧ win0_1.index t 2 = 0 ∧ win0_1.index t 3 = 0 := by
  revert t; decide +kernel

theorem index2 (t : Fin cfg0.N) : win0_2.index t 0 = t.val / 15 ∧ win0_2.index t 1 = t.val % 15 ∧ win0_2.index t 2 = 0 ∧ win0_2.index t 3 = 0 := by
  revert t; decide +kernel

theorem index3 (t : Fin cfg0.N) : win0_3.index t 0 = t.val / 15 ∧ win0_3.index t 1 = t.val % 15 + 1 ∧ win0_3.index t 2 = 0 ∧ win0_3.index t 3 = 0 := by
  revert t; decide +kernel

/-- The write-back of batch `n`. -/
theorem flushed_eq (t : Fin cfg0.N) (hf : (cfg0.win 4).flush t = true) :
    (dat0 V c).flushed 4 t = ((cfg0.win 4).blk t).view.read (Elt Ideal) (result V c) := by
  have h14 := (flush0_4 t).mp hf
  have hN : t.val < 30 := lt_of_lt_of_eq t.isLt N_0
  show (cfg0.win 4).cut (grid0.coords t) ((dat0 V c).after 4 t) = _
  rw [after0_4]
  funext j
  obtain ⟨i0, i1, i2, i3⟩ := index4 t
  have hj0 : (j 0 : ℕ) < 1 := (j 0).isLt
  have ht : t = ⟨t.val / 15 * 15 + 14, lt_points (by omega) (by omega)⟩ := Fin.ext (by dsimp only; omega)
  have hj : j = ix4 (0 : Fin 1) (j 1) (j 2) (j 3) := by
    funext a
    match a with
    | ⟨0, _⟩ => exact Fin.ext (by show (j 0 : ℕ) = 0; omega)
    | ⟨1, _⟩ => rfl
    | ⟨2, _⟩ => rfl
    | ⟨3, _⟩ => rfl
  have e := outs_sum V c (t.val / 15) (by omega) (j 1) (j 2) (j 3) 14 (by omega)
  rw [View.read_apply]
  have hr : ((cfg0.win 4).blk t).view.emb j = ix4 ⟨t.val / 15, by omega⟩ (j 1) (j 2) (j 3) := by
    funext a
    apply Fin.ext
    match a with
    | ⟨0, _⟩ => show win0_4.index t 0 * 1 + 1 * (j 0 : ℕ) = t.val / 15; omega
    | ⟨1, _⟩ => show win0_4.index t 1 * 3 + 1 * (j 1 : ℕ) = (j 1 : ℕ); omega
    | ⟨2, _⟩ => show win0_4.index t 2 * 16 + 1 * (j 2 : ℕ) = (j 2 : ℕ); omega
    | ⟨3, _⟩ => show win0_4.index t 3 * 16 + 1 * (j 3 : ℕ) = (j 3 : ℕ); omega
  rw [hr]
  have hsame : ∀ (a b : ℕ) (ha : a < cfg0.N) (hb : b < cfg0.N), a = b → outsAt0 V c a ha = outsAt0 V c b hb := by
    rintro a b ha hb rfl; rfl
  have e2 := hsame t.val _ t.isLt (lt_points (by omega) (by omega)) (congrArg Fin.val ht)
  show outsAt0 V c t.val t.isLt j = result V c (ix4 ⟨t.val / 15, by omega⟩ (j 1) (j 2) (j 3))
  rw [e2]
  exact (congrArg _ hj).trans e

/-- The output array at the end of the call. -/
theorem final : (dat0 V c).arrAt 4 cfg0.N = result V c :=
  (dat0 V c).arrAt_eq_of_cover 4 (result V c) (flushed_eq V c) fun i => by
    have h0 : (i 0 : ℕ) < 2 := (i 0).isLt
    have h1 : (i 1 : ℕ) < 3 := (i 1).isLt
    have h2 : (i 2 : ℕ) < 16 := (i 2).isLt
    have h3 : (i 3 : ℕ) < 16 := (i 3).isLt
    have hN : (i 0 : ℕ) * 15 + 14 < cfg0.N := lt_points h0 (by omega)
    refine ⟨⟨(i 0 : ℕ) * 15 + 14, hN⟩, (flush0_4 _).mpr (by dsimp only; omega), ?_⟩
    obtain ⟨i0, i1, i2, i3⟩ := index4 ⟨(i 0 : ℕ) * 15 + 14, hN⟩
    show i ∈ ((View.whole main_v3).slice (win0_4.rect ⟨(i 0 : ℕ) * 15 + 14, hN⟩)).set
    rw [View.set_slice_whole, Rect.mem_set_unit]
    intro a
    match a with
    | ⟨0, _⟩ =>
      show win0_4.index ⟨(i 0 : ℕ) * 15 + 14, hN⟩ 0 * 1 ≤ (i 0 : ℕ) ∧ (i 0 : ℕ) < win0_4.index ⟨(i 0 : ℕ) * 15 + 14, hN⟩ 0 * 1 + 1
      dsimp only at i0; omega
    | ⟨1, _⟩ =>
      show win0_4.index ⟨(i 0 : ℕ) * 15 + 14, hN⟩ 1 * 3 ≤ (i 1 : ℕ) ∧ (i 1 : ℕ) < win0_4.index ⟨(i 0 : ℕ) * 15 + 14, hN⟩ 1 * 3 + 3
      omega
    | ⟨2, _⟩ =>
      show win0_4.index ⟨(i 0 : ℕ) * 15 + 14, hN⟩ 2 * 16 ≤ (i 2 : ℕ) ∧ (i 2 : ℕ) < win0_4.index ⟨(i 0 : ℕ) * 15 + 14, hN⟩ 2 * 16 + 16
      omega
    | ⟨3, _⟩ =>
      show win0_4.index ⟨(i 0 : ℕ) * 15 + 14, hN⟩ 3 * 16 ≤ (i 3 : ℕ) ∧ (i 3 : ℕ) < win0_4.index ⟨(i 0 : ℕ) * 15 + 14, hN⟩ 3 * 16 + 16
      omega

/-! ## The input blocks -/

theorem block0 (n : Fin 2) (z : Fin 15) (r : Fin 264) (q : Fin 256) :
    iblk0 V c 0 ⟨n.val * 15 + z.val, lt_points n.isLt z.isLt⟩ (ix4 (0 : Fin 1) (0 : Fin 1) r q) = V c main_v0 (ix4 n z.castSucc r q) := by
  obtain ⟨i0, i1, i2, i3⟩ := index0 ⟨n.val * 15 + z.val, lt_points n.isLt z.isLt⟩
  unfold iblk0
  rw [View.read_apply]
  show V c main_v0 _ = _
  congr 1
  funext a; apply Fin.ext
  match a with
  | ⟨0, _⟩ => show win0_0.index _ 0 * 1 + 1 * 0 = n.val; rw [i0]; dsimp only; omega
  | ⟨1, _⟩ => show win0_0.index _ 1 * 1 + 1 * 0 = z.val; rw [i1]; dsimp only; omega
  | ⟨2, _⟩ => show win0_0.index _ 2 * 264 + 1 * r.val = r.val; rw [i2]; omega
  | ⟨3, _⟩ => show win0_0.index _ 3 * 256 + 1 * q.val = q.val; rw [i3]; omega

theorem block1 (n : Fin 2) (z : Fin 15) (r : Fin 264) (q : Fin 256) :
    iblk0 V c 1 ⟨n.val * 15 + z.val, lt_points n.isLt z.isLt⟩ (ix4 (0 : Fin 1) (0 : Fin 1) r q) = V c main_v0 (ix4 n z.succ r q) := by
  obtain ⟨i0, i1, i2, i3⟩ := index1 ⟨n.val * 15 + z.val, lt_points n.isLt z.isLt⟩
  unfold iblk0
  rw [View.read_apply]
  show V c main_v0 _ = _
  congr 1
  funext a; apply Fin.ext
  match a with
  | ⟨0, _⟩ => show win0_1.index _ 0 * 1 + 1 * 0 = n.val; rw [i0]; dsimp only; omega
  | ⟨1, _⟩ => show win0_1.index _ 1 * 1 + 1 * 0 = z.val + 1; rw [i1]; dsimp only; omega
  | ⟨2, _⟩ => show win0_1.index _ 2 * 264 + 1 * r.val = r.val; rw [i2]; omega
  | ⟨3, _⟩ => show win0_1.index _ 3 * 256 + 1 * q.val = q.val; rw [i3]; omega

theorem block2 (n : Fin 2) (z : Fin 15) (r : Fin 264) (q : Fin 256) :
    iblk0 V c 2 ⟨n.val * 15 + z.val, lt_points n.isLt z.isLt⟩ (ix4 (0 : Fin 1) (0 : Fin 1) r q) = V c main_v2 (ix4 n z.castSucc r q) := by
  obtain ⟨i0, i1, i2, i3⟩ := index2 ⟨n.val * 15 + z.val, lt_points n.isLt z.isLt⟩
  unfold iblk0
  rw [View.read_apply]
  show V c main_v2 _ = _
  congr 1
  funext a; apply Fin.ext
  match a with
  | ⟨0, _⟩ => show win0_2.index _ 0 * 1 + 1 * 0 = n.val; rw [i0]; dsimp only; omega
  | ⟨1, _⟩ => show win0_2.index _ 1 * 1 + 1 * 0 = z.val; rw [i1]; dsimp only; omega
  | ⟨2, _⟩ => show win0_2.index _ 2 * 264 + 1 * r.val = r.val; rw [i2]; omega
  | ⟨3, _⟩ => show win0_2.index _ 3 * 256 + 1 * q.val = q.val; rw [i3]; omega

theorem block3 (n : Fin 2) (z : Fin 15) (r : Fin 264) (q : Fin 256) :
    iblk0 V c 3 ⟨n.val * 15 + z.val, lt_points n.isLt z.isLt⟩ (ix4 (0 : Fin 1) (0 : Fin 1) r q) = V c main_v2 (ix4 n z.succ r q) := by
  obtain ⟨i0, i1, i2, i3⟩ := index3 ⟨n.val * 15 + z.val, lt_points n.isLt z.isLt⟩
  unfold iblk0
  rw [View.read_apply]
  show V c main_v2 _ = _
  congr 1
  funext a; apply Fin.ext
  match a with
  | ⟨0, _⟩ => show win0_3.index _ 0 * 1 + 1 * 0 = n.val; rw [i0]; dsimp only; omega
  | ⟨1, _⟩ => show win0_3.index _ 1 * 1 + 1 * 0 = z.val + 1; rw [i1]; dsimp only; omega
  | ⟨2, _⟩ => show win0_3.index _ 2 * 264 + 1 * r.val = r.val; rw [i2]; omega
  | ⟨3, _⟩ => show win0_3.index _ 3 * 256 + 1 * q.val = q.val; rw [i3]; omega

/-! ## The histograms of a point, as sums over windows -/

/-- What the arrays hold: the scores and the labels over a row of padding above and seven below. -/
structure Holds (S U : Fin 2 → Fin 16 → Fin 256 → Fin 256 → EReal) : Prop where
  pos : ∀ n z, Pos (S n z)
  flag : ∀ n z, Flag (U n z)
  score : ∀ (n : Fin 2) (z : Fin 16) (r : Fin 264) (q : Fin 256), Ideal.logistic (V c main_v0 (ix4 n z r q)) = img (S n z) r.val (q.val + 1)
  label : ∀ (n : Fin 2) (z : Fin 16) (r : Fin 264) (q : Fin 256), V c main_v2 (ix4 n z r q) = img (U n z) r.val (q.val + 1)

theorem raw_apply (x : Vec Ideal S1x1x264x256 .f32) (r : Fin 264) (q : Fin 256) : raw x (ix2 r q) = x (ix4 (0 : Fin 1) (0 : Fin 1) r q) := by
  unfold raw
  pointwise

theorem logistic_raw (x : Vec Ideal S1x1x264x256 .f32) (r : Fin 264) (q : Fin 256) :
    logistic (raw x) (ix2 r q) = Ideal.logistic (x (ix4 (0 : Fin 1) (0 : Fin 1) r q)) :=
  congrArg Ideal.logistic (raw_apply x r q)

/-- The histograms of one point of the grid. -/
theorem part_apply {S U : Fin 2 → Fin 16 → Fin 256 → Fin 256 → EReal} (H : Holds V c S U) (n : Fin 2) (z : Fin 15) (k : Fin 3) (h l : Fin 16) :
    part V c ⟨n.val * 15 + z.val, lt_points n.isLt z.isLt⟩ k (ix2 h l) = ∑ r : Fin 264, ∑ q : Fin 256,
      entry (win (S n z.castSucc) (S n z.succ) r.val q.val) (win (U n z.castSucc) (U n z.succ) r.val q.val) r.val h.val l.val k := by
  have h0 : ∀ (r : Fin 264) (q : Fin 256), logistic (raw (iblk0 V c 0 ⟨n.val * 15 + z.val, lt_points n.isLt z.isLt⟩)) (ix2 r q) = img (S n z.castSucc) r.val (q.val + 1) :=
    fun r q => by rw [logistic_raw, block0]; exact H.score n _ r q
  have h1 : ∀ (r : Fin 264) (q : Fin 256), logistic (raw (iblk0 V c 1 ⟨n.val * 15 + z.val, lt_points n.isLt z.isLt⟩)) (ix2 r q) = img (S n z.succ) r.val (q.val + 1) :=
    fun r q => by rw [logistic_raw, block1]; exact H.score n _ r q
  have h2 : ∀ (r : Fin 264) (q : Fin 256), raw (iblk0 V c 2 ⟨n.val * 15 + z.val, lt_points n.isLt z.isLt⟩) (ix2 r q) = img (U n z.castSucc) r.val (q.val + 1) :=
    fun r q => by rw [raw_apply, block2]; exact H.label n _ r q
  have h3 : ∀ (r : Fin 264) (q : Fin 256), raw (iblk0 V c 3 ⟨n.val * 15 + z.val, lt_points n.isLt z.isLt⟩) (ix2 r q) = img (U n z.succ) r.val (q.val + 1) :=
    fun r q => by rw [raw_apply, block3]; exact H.label n _ r q
  match k with
  | 0 => exact histP_apply (H.pos _ _) (H.pos _ _) h0 h1 h l
  | 1 => exact histL_apply (H.flag _ _) (H.flag _ _) h2 h3 h l
  | 2 => exact histI_apply (H.pos _ _) (H.pos _ _) (H.flag _ _) (H.flag _ _) h0 h1 h2 h3 h l

theorem result_apply {S U : Fin 2 → Fin 16 → Fin 256 → Fin 256 → EReal} (H : Holds V c S U) (n : Fin 2) (k : Fin 3) (h l : Fin 16) :
    result V c (ix4 n k h l) = ∑ z : Fin 15, ∑ r : Fin 264, ∑ q : Fin 256,
      entry (win (S n z.castSucc) (S n z.succ) r.val q.val) (win (U n z.castSucc) (U n z.succ) r.val q.val) r.val h.val l.val k :=
  Finset.sum_congr rfl fun z _ => part_apply V c H n z k h l

end Cert.Dice.Main

end
-- ==== Proof.HostMain.lean ====
/- What the main call's input arrays hold when it starts: the predictions and the labels with a row of padding above
   and seven rows below. -/
module

public import proofs.«01_k».proof.Proof.MainArray
public import Idealize.ShloMosaic.Lib.StableHlo.ReadAt

@[expose] public section

noncomputable section

namespace Cert.Dice.Main

open Idealize.ShloMosaic Idealize.ShloMosaic.TcCoe Idealize.SL.Sem Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The predictions, the labels and the areas. -/
abbrev pred : FVec Ideal S2x16x256x256 .f32 := m ((c.tc : Thread Cert.KernelIdeal.nD Cert.KernelIdeal.τ).loc main_arg0)
abbrev labels : IVec S2x16x256x256 32 := m ((c.tc : Thread Cert.KernelIdeal.nD Cert.KernelIdeal.τ).loc main_arg1)
abbrev area : FVec Ideal S256 .f32 := m ((c.tc : Thread Cert.KernelIdeal.nD Cert.KernelIdeal.τ).loc main_arg2)

/-- The scores of a slice and its labels as numbers. -/
def scores (x : FVec Ideal S2x16x256x256 .f32) (n : Fin 2) (z : Fin 16) (a b : Fin 256) : EReal := Ideal.logistic (x (ix4 n z a b))
def marks (y : IVec S2x16x256x256 32) (n : Fin 2) (z : Fin 16) (a b : Fin 256) : EReal := FloatOps.sitofp (F := Ideal) .f32 (y (ix4 n z a b))

theorem neg_inf : (FloatOps.ofBits (F := Ideal) .f32 0xFF800000#32) = (⊥ : EReal) := by
  show Ideal.ofBits .f32 _ = _
  simp [Ideal.ofBits, Ideal.ieee]

theorem zero_bits : (FloatOps.ofBits (F := Ideal) .f32 0x00000000#32) = (0 : EReal) := by
  show Ideal.ofBits .f32 _ = _
  simp [Ideal.ofBits, Ideal.ieee]

theorem array_v0 (n : Fin 2) (z : Fin 16) (r : Fin 264) (q : Fin 256) :
    V4 m ρ c main_v0 (ix4 n z r q) = if h : 1 ≤ r.val ∧ r.val - 1 < 256 then
      pred m c (ix4 n z ⟨r.val - 1, h.2⟩ q) else (⊥ : EReal) := by
  rw [← neg_inf]
  show StableHlo.after hostOps0_3 (StableHlo.after hostOps0_2 (StableHlo.after hostOps0_1 (StableHlo.after hostOps0 (W0 m ρ c)))) (Proc.devRef .tc main_v0) (ix4 n z r q) = _
  after_reads_at
  rfl

theorem array_v2 (n : Fin 2) (z : Fin 16) (r : Fin 264) (q : Fin 256) :
    V4 m ρ c main_v2 (ix4 n z r q) = if h : 1 ≤ r.val ∧ r.val - 1 < 256 then
      FloatOps.sitofp (F := Ideal) .f32 (labels m c (ix4 n z ⟨r.val - 1, h.2⟩ q)) else (0 : EReal) := by
  show StableHlo.after hostOps0_3 (StableHlo.after hostOps0_2 (StableHlo.after hostOps0_1 (StableHlo.after hostOps0 (W0 m ρ c)))) (Proc.devRef .tc main_v2) (ix4 n z r q) = _
  after_reads_at
  rw [← zero_bits]
  rfl

/-- The entry of an image under its row of padding. -/
theorem img_col (s : Fin 256 → Fin 256 → EReal) (r : ℕ) (q : Fin 256) :
    img s r (q.val + 1) = if h : 1 ≤ r ∧ r - 1 < 256 then s ⟨r - 1, h.2⟩ q else 0 := by
  unfold img
  by_cases h : 1 ≤ r ∧ r - 1 < 256
  · rw [dif_pos h, dif_pos (by omega)]; rfl
  · rw [dif_neg h, dif_neg (by omega)]

theorem holds (hp : ∀ n z, Pos (scores (pred m c) n z)) (hf : ∀ n z, Flag (marks (labels m c) n z)) :
    Holds (V4 m ρ) c (scores (pred m c)) (marks (labels m c)) where
  pos := hp
  flag := hf
  score n z r q := by
    rw [array_v0, img_col]
    by_cases h : 1 ≤ r.val ∧ r.val - 1 < 256
    · rw [dif_pos h, dif_pos h]; rfl
    · rw [dif_neg h, dif_neg h]; exact Ideal.logistic_bot
  label n z r q := by
    rw [array_v2, img_col]
    by_cases h : 1 ≤ r.val ∧ r.val - 1 < 256
    · rw [dif_pos h, dif_pos h]; rfl
    · rw [dif_neg h, dif_neg h]

end Cert.Dice.Main

end
-- ==== Proof.Assumed.lean ====
module

public import proofs.«01_k».proof.Pre_pre
public import proofs.«01_k».proof.Proof.HostMain
public import Idealize.ShloMosaic.Lib.ReduceAll
public import Idealize.ShloMosaic.Lib.WordCmp

/-! What the precondition says of the predictions and the labels. -/

@[expose] public section

noncomputable section

namespace Cert.Dice.Assumed

open Idealize.ShloMosaic Cert.Pre_pre

theorem facts : Cert.Pre_pre.Facts where
  bcast_S_S2x16x256x256 := by decide
  reducesTo_S2x16x256x256_S_d0_1_2_3 := by decide
  h_S_ := by decide

theorem small_word : ∀ b : BitVec 32, 0 ≤ b.toInt → b.toInt ≤ 1 → b = 0#32 ∨ b = 1#32 := by
  intro b h0 h1
  have h : b.toInt = 0 ∨ b.toInt = 1 := by omega
  rcases h with h | h
  · left; exact BitVec.eq_of_toInt_eq (by rw [h]; rfl)
  · right; exact BitVec.eq_of_toInt_eq (by rw [h]; rfl)

theorem neg_infinity : (Ideal.ofBits .f32 0xFF800000#32) = (⊥ : EReal) := by
  simp [Ideal.ofBits, Ideal.ieee]

theorem above_bot {x : EReal} (h : FloatOps.cmpf (F := Ideal) (φ := .f32) .ogt x ⊥ = 1#1) : ⊥ < x := by
  by_contra hn
  have e : x = ⊥ := by rwa [bot_lt_iff_ne_bot, not_not] at hn
  subst e
  revert h
  show Ideal.cmp .ogt (⊥ : EReal) ⊥ = 1#1 → False
  simp [Ideal.cmp]

variable (x : FVec Ideal S2x16x256x256 .f32) (y : IVec S2x16x256x256 32) (a : FVec Ideal S256 .f32)

theorem read (h : (letI := facts; Cert.Pre_pre.fn (F := Ideal) x y a) = fun _ => 1#1) :
    (∀ i, y i = 0#32 ∨ y i = 1#32) ∧ ∀ i, ⊥ < x i := by
  letI := facts
  have e := congrFun h (fun j => j.elim0)
  have e2 := IntOp.andi_eq_one.1 e
  have s : Subsingleton S_.Idx := ⟨fun p q => funext fun j => j.elim0⟩
  refine ⟨fun i => ?_, fun i => ?_⟩
  · have k := Host.reduce_andi_all _ _ _ _ _ e2.1 i
    have k2 := IntOp.andi_eq_one.1 k
    exact small_word (y i) (IntOp.cmpi_sge.1 k2.1) (IntOp.cmpi_sle.1 k2.2)
  · have k := Host.reduce_andi_all _ _ _ _ _ e2.2 i
    refine above_bot ?_
    rw [← neg_infinity]
    exact k

theorem logistic_pos {v : EReal} (h : ⊥ < v) : 0 < Ideal.logistic v ∧ Ideal.logistic v ≤ 1 := by
  induction v with
  | bot => exact absurd h (lt_irrefl _)
  | top => rw [Ideal.logistic_top]; exact ⟨by norm_num, le_refl _⟩
  | coe r =>
    rw [Ideal.logistic_coe]
    have p := Real.exp_pos (-r)
    refine ⟨by exact_mod_cast inv_pos.2 (by linarith), ?_⟩
    have : (1 + Real.exp (-r))⁻¹ ≤ 1 := inv_le_one_of_one_le₀ (by linarith)
    exact_mod_cast this

theorem pos (h : ∀ i, ⊥ < x i) (n : Fin 2) (z : Fin 16) : Pos (Main.scores x n z) := fun _ _ => logistic_pos (h _)

theorem flag (h : ∀ i, y i = 0#32 ∨ y i = 1#32) (n : Fin 2) (z : Fin 16) : Flag (Main.marks y n z) := fun a b => by
  unfold Main.marks
  rcases h (ix4 n z a b) with e | e
  · left; rw [e, show (0#32) = BitVec.ofNat 32 0 from rfl, sitofp_small _ (by decide)]; simp
  · right; rw [e, show (1#32) = BitVec.ofNat 32 1 from rfl, sitofp_small _ (by decide)]; simp

end Cert.Dice.Assumed

end
-- ==== Proof.EdgeBody.lean ====
/- The body of the edge call as a function of its four input blocks: the three histograms of the windows in the last
   column, every third lane one pair of slices. -/
module

public import proofs.«01_k».proof.Proof.Body
public import proofs.«01_k».proof.Proof.Gen.KernelIdeal.Frame

@[expose] public section

noncomputable section

namespace Cert.Dice.Edge

open Idealize.ShloMosaic Idealize.SL.Sem Cert.KernelIdeal Cert.KernelIdeal.Gen

variable {F : FTy → Type} [FloatOps F]

/-- An input block as a matrix. -/
def raw (x : Vec F S1x264x128 .f32) : FVec F S264x128 .f32 := shapeCast S264x128 x shapeCasts_S1x264x128_S264x128

/-- The matrix moved up one row, the first row coming last. -/
def down (x : FVec F S264x128 .f32) : FVec F S264x128 .f32 :=
  concatenate S264x128 0 [⟨S263x128, extractStridedSlice S263x128 ![1, 0] x slices_S264x128_o1_0_S263x128⟩,
    ⟨S1x128, extractStridedSlice S1x128 ![0, 0] x slices_S264x128_o0_0_S1x128⟩] concatenates_S263x128_S1x128_S264x128_d0

/-- The matrix moved left one lane, the first lane coming last. -/
def left (x : FVec F S264x128 .f32) : FVec F S264x128 .f32 :=
  concatenate S264x128 1 [⟨S264x127, extractStridedSlice S264x127 ![0, 1] x slices_S264x128_o0_1_S264x127⟩,
    ⟨S264x1, extractStridedSlice S264x1 ![0, 0] x slices_S264x128_o0_0_S264x1⟩] concatenates_S264x127_S264x1_S264x128_d1

/-- The eight corners of every window: four of one slice, four of the next. -/
def corners (x y : FVec F S264x128 .f32) : Fin 8 → FVec F S264x128 .f32 :=
  ![x, left x, down x, left (down x), y, left y, down y, left (down y)]

/-- The corners of the predictions. -/
def cp (x y : Vec F S1x264x128 .f32) : Fin 8 → FVec F S264x128 .f32 := corners (logistic (raw x)) (logistic (raw y))

/-- The halves of the labels' byte. -/
def llo (x : Vec F S1x264x128 .f32) : FVec F S264x128 .f32 :=
  vcode (raw x) (left (raw x)) (down (raw x)) (left (down (raw x)))

/-- A lane's number. -/
def lane : FVec F S1x128 .f32 := sitofp .f32 (iota .tc S1x128 32 [1] iota_S1x128_d1_w32)

/-- A lane's number less three times the whole part of its third. -/
def lmod : FVec F S1x128 .f32 :=
  subf lane (mulf (broadcast S1x128 (Scalar.ofBits .f32 0x40400000#32)) (floor (mulf lane (broadcast S1x128 (Scalar.ofBits .f32 0x3EAAAAAB#32)))))

/-- The lanes in use. -/
def used : IVec S1x128 1 := cmpf (F := F) .olt lane (broadcast S1x128 (Scalar.ofBits .f32 0x42340000#32))

/-- One on the lanes that weigh. -/
def mask : FVec F S1x128 .f32 :=
  select (andi (cmpf .one (lmod (F := F)) (broadcast S1x128 (Scalar.ofBits .f32 0x40000000#32))) (used (F := F)))
    (broadcast S1x128 (Scalar.ofBits .f32 0x3F800000#32)) (broadcast S1x128 (Scalar.ofBits .f32 0x00000000#32))

/-- The weight of a step, on the lanes that weigh. -/
def esw (c : Fin 8 → FVec F S264x128 .f32) : FVec F S264x128 .f32 :=
  mulf (vsw c) (broadcastTo S264x128 mask broadcasts_S1x128_S264x128)

/-- The sixteen digits down the rows. -/
def digits : FVec F S16x33792 .bf16 := sitofp .bf16 (iota .tc S16x33792 32 [0] iota_S16x33792_d0_w32)

/-- A matrix as one row. -/
def flat (x : FVec F S264x128 .bf16) : FVec F S1x33792 .bf16 := shapeCast S1x33792 x shapeCasts_S264x128_S1x33792

/-- Where a window's digit is the row's. -/
def hot (x : FVec F S264x128 .f32) : IVec S16x33792 1 :=
  cmpf .oeq (broadcastTo S16x33792 (flat (truncf .bf16 x bitsLt_bf16_f32)) broadcasts_S1x33792_S16x33792) digits

/-- The histogram of the weights `w` by the two digits `hi` and `lo`: a product of a weighted and a plain indicator. -/
def hist (hi lo : FVec F S264x128 .f32) (w : FVec F S264x128 .bf16) : FVec F S16x16 .f32 :=
  matmul dot_S16x33792_S16x33792_S16x16_1_1_0_0_n_n none
    (select (hot hi) (broadcastTo S16x33792 (shapeCast S1x33792 (flat w) shapeCasts_S1x33792_S1x33792)
      broadcasts_S1x33792_S16x33792) (broadcast S16x33792 (Scalar.ofBits .bf16 0x0000#16)))
    (select (hot lo) (broadcast S16x33792 (Scalar.ofBits .bf16 0x3F80#16)) (broadcast S16x33792 (Scalar.ofBits .bf16 0x0000#16)))
    (constant S16x16 .f32 0x00000000#32)

/-- The histogram of the weights by the byte of positive corners, over the first `t` steps. -/
def hp (c : Fin 8 → FVec F S264x128 .f32) (t : ℕ) : FVec F S16x16 .f32 :=
  Nat.rec (broadcast S16x16 (Scalar.ofBits .f32 0x00000000#32)) (fun t h => addf h (hist (vhi (vst esw c t)) (vlo (vst esw c t))
    (truncf .bf16 (esw (vst esw c t)) bitsLt_bf16_f32))) t

/-- One on the windows that exist. -/
def valid : FVec F S264x128 .bf16 :=
  mulf (broadcastTo S264x128 (truncf .bf16 (sitofp .f32 (extui 32 (cmpi .slt (iota .tc S264x1 32 [0] iota_S264x1_d0_w32)
      (broadcast S264x1 257#32)) natLt_1_32)) bitsLt_bf16_f32) broadcasts_S264x1_S264x128)
    (broadcastTo S264x128 (truncf .bf16 (sitofp .f32 (extui 32 (andi (cmpf .oeq (lmod (F := F)) (broadcast S1x128 (Scalar.ofBits .f32 0x00000000#32)))
      (used (F := F))) natLt_1_32)) bitsLt_bf16_f32) broadcasts_S1x128_S264x128)

/-- The three histograms. -/
def histP (x0 x1 : Vec F S1x264x128 .f32) : FVec F S16x16 .f32 := hp (cp x0 x1) 8
def histL (x2 x3 : Vec F S1x264x128 .f32) : FVec F S16x16 .f32 := hist (llo x3) (llo x2) valid
def histI (x0 x1 x2 x3 : Vec F S1x264x128 .f32) : FVec F S16x16 .f32 :=
  hist (llo x3) (llo x2) (truncf .bf16 (vpw esw (cp x0 x1) (llo x2) (llo x3) 8) bitsLt_bf16_f32)

/-- A histogram as a slice of the output block. -/
def put (h : FVec F S16x16 .f32) : FVec F S1x1x16x16 .f32 := shapeCast S1x1x16x16 h shapeCasts_S16x16_S1x1x16x16

/-- What a load of a whole input block reads. -/
abbrev ldIn (a : Memref Cert.KernelIdeal.sig .tc .vmem S1x264x128 .f32) (ha : a.IsWhole) (x : Vec F S1x264x128 .f32) :
    Vec F S1x264x128 .f32 :=
  View.readAt (Elt F) a.view (Rect.unit ![0, 0, 0] S1x264x128.size inb_S1x264x128_S1x264x128_0_0_0).toLoadRect (ha.unread x)

theorem ldIn_eq (a : Memref Cert.KernelIdeal.sig .tc .vmem S1x264x128 .f32) (ha : a.IsWhole) (x : Vec F S1x264x128 .f32) :
    ldIn a ha x = x := by
  have hz : (![0, 0, 0] : Fin 3 → Nat) = fun _ => 0 := funext fun a => by fin_cases a <;> rfl
  unfold ldIn
  rw [View.readAt_eq_ld, ha.read_unread, View.ld_unit_zero (S := S1x264x128) hz]

/-- The three slices of the output block. -/
abbrev sl0 : Rect S1x3x16x16 := Rect.unit ![0, 0, 0, 0] ![1, 1, 16, 16] inb_S1x3x16x16_S1x1x16x16_0_0_0_0
abbrev sl1 : Rect S1x3x16x16 := Rect.unit ![0, 1, 0, 0] ![1, 1, 16, 16] inb_S1x3x16x16_S1x1x16x16_0_1_0_0
abbrev sl2 : Rect S1x3x16x16 := Rect.unit ![0, 2, 0, 0] ![1, 1, 16, 16] inb_S1x3x16x16_S1x1x16x16_0_2_0_0

/-- What a point of the edge call's grid stores. -/
theorem run (c : Dev Cert.KernelIdeal.nD) (i : grid1.Coords) (arg1 : Memref Cert.KernelIdeal.sig .tc .vmem S1x264x128 .f32) (harg1 : arg1.IsWhole) (arg2 : Memref Cert.KernelIdeal.sig .tc .vmem S1x264x128 .f32) (harg2 : arg2.IsWhole) (arg3 : Memref Cert.KernelIdeal.sig .tc .vmem S1x264x128 .f32) (harg3 : arg3.IsWhole) (arg4 : Memref Cert.KernelIdeal.sig .tc .vmem S1x264x128 .f32) (harg4 : arg4.IsWhole) (arg5 : Memref Cert.KernelIdeal.sig .tc .vmem S1x3x16x16 .f32) (harg5 : arg5.IsWhole) (arg6 : Memref Cert.KernelIdeal.sig .tc .vmem S8x128 .f32) (harg6 : arg6.IsWhole)
    (x0 : Vec F S1x264x128 .f32) (x1 : Vec F S1x264x128 .f32) (x2 : Vec F S1x264x128 .f32) (x3 : Vec F S1x264x128 .f32) :
    (kernelRun1_A c i arg1 harg1 arg2 harg2 arg3 harg3 arg4 harg4 arg5 harg5 arg6 harg6 x0 x1 x2 x3).1 =
      [⟨sl2, put (histI (ldIn arg1 harg1 x0) (ldIn arg2 harg2 x1) (ldIn arg3 harg3 x2) (ldIn arg4 harg4 x3))⟩,
       ⟨sl1, put (histL (ldIn arg3 harg3 x2) (ldIn arg4 harg4 x3))⟩,
       ⟨sl0, put (histP (ldIn arg1 harg1 x0) (ldIn arg2 harg2 x1))⟩] := by
  sl_kernel_rfl

end Cert.Dice.Edge

end
-- ==== Proof.EdgeValue.lean ====
/- What the body of the edge call computes over the extended reals: each of its three histograms as a sum over the
   windows of the last column, of fifteen pairs of slices. -/
module

public import proofs.«01_k».proof.Proof.EdgeBody
public import proofs.«01_k».proof.Proof.Digits

@[expose] public section

noncomputable section

namespace Cert.Dice.Edge

open Idealize.ShloMosaic Idealize.SL.Sem Cert.KernelIdeal Cert.KernelIdeal.Gen

theorem hist_apply (hi lo : FVec Ideal S264x128 .f32) (w : FVec Ideal S264x128 .bf16) (h l : Fin 16) :
    hist hi lo w (ix2 h l) = ∑ r : Fin 264, ∑ c : Fin 128,
      if hi (ix2 r c) = ((h.val : ℝ) : EReal) ∧ lo (ix2 r c) = ((l.val : ℝ) : EReal) then w (ix2 r c) else 0 := by
  unfold hist hot digits flat
  pointwise
  rw [sitofp_small _ (by omega), sitofp_small _ (by omega), Fin.sum_univ_tiles 264 128 rfl]
  refine Finset.sum_congr rfl fun r _ => Finset.sum_congr rfl fun c _ => ?_
  have e1 : (r.val * 128 + c.val) / 128 = r.val := by omega
  have e2 : (r.val * 128 + c.val) % 128 = c.val := by omega
  simp only [e1, e2, Fin.eta]
  split_ifs <;> simp_all

/-! ## Lanes -/

/-- A lane that holds the last column of a pair of slices. -/
def Live (q : ℕ) : Prop := q % 3 = 0 ∧ q < 45

instance (q : ℕ) : Decidable (Live q) := by unfold Live; infer_instance

theorem lane_apply (q : Fin 128) : lane (F := Ideal) (ix2 (0 : Fin 1) q) = ((q.val : ℝ) : EReal) := by
  unfold lane
  pointwise
  exact sitofp_small _ (by omega)

theorem third_bits : Ideal.ofBits .f32 0x3EAAAAAB#32 = (((11184811 : ℝ) / 2 ^ 25 : ℝ) : EReal) := by
  simp [Ideal.ofBits, Ideal.ieee, -EReal.coe_mul]
  norm_num

theorem three_bits : Ideal.ofBits .f32 0x40400000#32 = ((3 : ℝ) : EReal) := by
  simp [Ideal.ofBits, Ideal.ieee, -EReal.coe_mul]
  norm_num

theorem last_bits : Ideal.ofBits .f32 0x42340000#32 = ((45 : ℝ) : EReal) := by
  simp [Ideal.ofBits, Ideal.ieee, -EReal.coe_mul]
  norm_num

/-- The whole part of a lane's third. -/
theorem third_floor (q : ℕ) (hq : q < 128) : ⌊(q : ℝ) * ((11184811 : ℝ) / 2 ^ 25)⌋ = ((q / 3 : ℕ) : ℤ) := by
  obtain ⟨a, b, hb, rfl⟩ : ∃ a b : ℕ, b < 3 ∧ q = 3 * a + b := ⟨q / 3, q % 3, by omega, by omega⟩
  have e : (3 * a + b) / 3 = a := by omega
  rw [e, Int.floor_eq_iff]
  have ha : (a : ℝ) ≤ 43 := by exact_mod_cast (by omega : a ≤ 43)
  have ha0 : (0 : ℝ) ≤ a := Nat.cast_nonneg a
  have hb0 : (0 : ℝ) ≤ b := Nat.cast_nonneg b
  have hb' : (b : ℝ) ≤ 2 := by exact_mod_cast (by omega : b ≤ 2)
  push_cast
  constructor <;> nlinarith

theorem lmod_apply (q : Fin 128) : lmod (F := Ideal) (ix2 (0 : Fin 1) q) = (((q.val % 3 : ℕ) : ℝ) : EReal) := by
  unfold lmod
  pointwise
  rw [lane_apply, third_bits, three_bits]
  have e1 : ((q.val : ℝ) : EReal) * (((11184811 : ℝ) / 2 ^ 25 : ℝ) : EReal) = (((q.val : ℝ) * ((11184811 : ℝ) / 2 ^ 25) : ℝ) : EReal) :=
    (EReal.coe_mul _ _).symm
  rw [e1]
  show ((q.val : ℝ) : EReal) - ((3 : ℝ) : EReal) * (((⌊(q.val : ℝ) * ((11184811 : ℝ) / 2 ^ 25)⌋ : ℤ) : ℝ) : EReal) = _
  rw [third_floor _ q.isLt, ← EReal.coe_mul, ← EReal.coe_sub, EReal.coe_eq_coe_iff]
  have e2 : q.val = 3 * (q.val / 3) + q.val % 3 := by omega
  have e3 : (q.val : ℝ) = 3 * ((q.val / 3 : ℕ) : ℝ) + ((q.val % 3 : ℕ) : ℝ) := by exact_mod_cast e2
  rw [Int.cast_natCast]
  linarith

theorem used_apply (q : Fin 128) : used (F := Ideal) (ix2 (0 : Fin 1) q) = BitVec.ofBool (decide (q.val < 45)) := by
  unfold used
  pointwise
  rw [lane_apply, last_bits]
  congr 1
  rw [decide_eq_decide, EReal.coe_lt_coe_iff]
  exact_mod_cast Iff.rfl

theorem mask_apply (q : Fin 128) : mask (F := Ideal) (ix2 (0 : Fin 1) q) = if q.val % 3 ≠ 2 ∧ q.val < 45 then 1 else 0 := by
  unfold mask
  pointwise
  rw [used_apply, lmod_apply, two_bits]
  have e : ((((q.val % 3 : ℕ) : ℝ) : EReal) ≠ 2) ↔ q.val % 3 ≠ 2 := by
    have h2 : (2 : EReal) = (((2 : ℕ) : ℝ) : EReal) := by norm_num; rfl
    rw [h2, Ne, nat_coe_inj]
  rw [andi_test, select_test]
  exact if_congr (and_congr e Iff.rfl) rfl rfl

theorem valid_apply (r : Fin 264) (q : Fin 128) :
    valid (F := Ideal) (ix2 r q) = if Live q.val then (if r.val < 257 then 1 else 0) else 0 := by
  unfold valid
  pointwise
  rw [cmpi_slt_small (by omega) (by omega), used_apply, lmod_apply, sitofp_test]
  have e : ((((q.val % 3 : ℕ) : ℝ) : EReal) = 0) ↔ q.val % 3 = 0 := by
    have h2 : (0 : EReal) = (((0 : ℕ) : ℝ) : EReal) := by norm_num
    rw [h2, nat_coe_inj]
  rw [andi_test, sitofp_test]
  unfold Live
  by_cases h1 : r.val < 257 <;> by_cases h2 : q.val % 3 = 0 <;> by_cases h3 : q.val < 45 <;> simp [h1, h2, h3]

/-! ## Corners -/

/-- A block of last columns: lane `3 p` of row `r` is row `r` of slice `p`, over zeros. -/
def eimg (s : ℕ → Fin 256 → Fin 256 → EReal) (r q : ℕ) : EReal := if Live q then img (s (q / 3)) r 256 else 0

theorem left_apply (x : FVec Ideal S264x128 .f32) (f : ℕ → ℕ → EReal) (h0 : ∀ a, f a 0 = f a 128)
    (hx : ∀ (r : Fin 264) (c : Fin 128), x (ix2 r c) = f r.val c.val) (r : Fin 264) (c : Fin 128) :
    left x (ix2 r c) = f r.val (c.val + 1) := by
  unfold left
  pointwise
  split_ifs with h1 h2
  · rw [hx]; congr 1; show 1 + c.val = c.val + 1; omega
  · rw [hx]
    have : c.val = 127 := by omega
    show f r.val (c.val - 127) = _
    rw [this]; exact h0 _
  · exact absurd rfl h2

theorem down_apply (x : FVec Ideal S264x128 .f32) (f : ℕ → ℕ → EReal) (h0 : ∀ b, f 264 b = f 0 b)
    (hx : ∀ (r : Fin 264) (c : Fin 128), x (ix2 r c) = f r.val c.val) (r : Fin 264) (c : Fin 128) :
    down x (ix2 r c) = f (r.val + 1) c.val := by
  unfold down
  pointwise
  split_ifs with h1 h2
  · rw [hx]; congr 1; show 1 + r.val = r.val + 1; omega
  · rw [hx]
    have : r.val = 263 := by omega
    show f (r.val - 263) c.val = _
    rw [this]; exact (h0 _).symm
  · exact absurd rfl h2

/-- The function that the corners read: lane 128 is lane 0 again. -/
def wrap (s : ℕ → Fin 256 → Fin 256 → EReal) (a q : ℕ) : EReal := eimg s a (q % 128)

/-- The corners of a lane's window. -/
def ewin (s s' : ℕ → Fin 256 → Fin 256 → EReal) (a q : ℕ) : Fin 8 → EReal :=
  ![wrap s a q, wrap s a (q + 1), wrap s (a + 1) q, wrap s (a + 1) (q + 1),
    wrap s' a q, wrap s' a (q + 1), wrap s' (a + 1) q, wrap s' (a + 1) (q + 1)]

theorem corners_apply (x y : FVec Ideal S264x128 .f32) (s s' : ℕ → Fin 256 → Fin 256 → EReal)
    (hx : ∀ (r : Fin 264) (c : Fin 128), x (ix2 r c) = eimg s r.val c.val)
    (hy : ∀ (r : Fin 264) (c : Fin 128), y (ix2 r c) = eimg s' r.val c.val) (r : Fin 264) (c : Fin 128) :
    (fun k => corners x y k (ix2 r c)) = ewin s s' r.val c.val := by
  have hm : ∀ c : Fin 128, c.val % 128 = c.val := fun c => by omega
  have hx' : ∀ (r : Fin 264) (c : Fin 128), x (ix2 r c) = wrap s r.val c.val := fun r c => by rw [hx, wrap, hm]
  have hy' : ∀ (r : Fin 264) (c : Fin 128), y (ix2 r c) = wrap s' r.val c.val := fun r c => by rw [hy, wrap, hm]
  have hw : ∀ (t : ℕ → Fin 256 → Fin 256 → EReal) b, wrap t 264 b = wrap t 0 b := fun t b => by
    unfold wrap eimg; rw [img_out _ (by omega), img_out _ (by omega)]
  have d := down_apply x (wrap s) (hw s) hx'
  have d' := down_apply y (wrap s') (hw s') hy'
  funext k
  fin_cases k
  · exact hx' r c
  · exact left_apply x (wrap s) (fun _ => rfl) hx' r c
  · exact d r c
  · exact left_apply (down x) (fun a b => wrap s (a + 1) b) (fun _ => rfl) d r c
  · exact hy' r c
  · exact left_apply y (wrap s') (fun _ => rfl) hy' r c
  · exact d' r c
  · exact left_apply (down y) (fun a b => wrap s' (a + 1) b) (fun _ => rfl) d' r c

theorem wrap_live (s : ℕ → Fin 256 → Fin 256 → EReal) (a : ℕ) {q : ℕ} (h : Live q) : wrap s a q = img (s (q / 3)) a 256 := by
  have hq := h.2
  unfold wrap eimg; rw [Nat.mod_eq_of_lt (by omega), if_pos h]

theorem wrap_dead (s : ℕ → Fin 256 → Fin 256 → EReal) (a : ℕ) {q : ℕ} (h : ¬ Live (q % 128)) : wrap s a q = 0 := by
  unfold wrap eimg; rw [if_neg h]

/-- A lane in use that holds a column holds a window of the last column. -/
theorem ewin_live (s s' : ℕ → Fin 256 → Fin 256 → EReal) (a : ℕ) {q : ℕ} (h : Live q) :
    ewin s s' a q = win (s (q / 3)) (s' (q / 3)) a 256 := by
  have hn : ¬ Live ((q + 1) % 128) := by unfold Live at *; omega
  have z : ∀ (t : ℕ → Fin 256 → Fin 256 → EReal) b, wrap t b (q + 1) = img (t (q / 3)) b (256 + 1) := fun t b => by
    rw [wrap_dead t b hn, img_out _ (by omega)]
  have w : ∀ (t : ℕ → Fin 256 → Fin 256 → EReal) b, wrap t b q = img (t (q / 3)) b 256 := fun t b => wrap_live t b h
  unfold ewin win
  simp only [z, w]

/-- The lane after it holds nothing. -/
theorem ewin_next (s s' : ℕ → Fin 256 → Fin 256 → EReal) (a : ℕ) {q : ℕ} (h : q % 3 = 1) (hq : q < 45) : ewin s s' a q = fun _ => 0 := by
  have h0 : ¬ Live (q % 128) := by unfold Live; omega
  have h1 : ¬ Live ((q + 1) % 128) := by unfold Live; omega
  funext k
  fin_cases k <;> first | exact wrap_dead _ _ h0 | exact wrap_dead _ _ h1

theorem wrap_unit {s : ℕ → Fin 256 → Fin 256 → EReal} (h : ∀ p, Pos (s p)) (a q : ℕ) : 0 ≤ wrap s a q ∧ wrap s a q ≤ 1 := by
  unfold wrap eimg; split_ifs
  · exact img_unit (h _) _ _
  · exact ⟨le_rfl, zero_le_one⟩

theorem ewin_unit {s s' : ℕ → Fin 256 → Fin 256 → EReal} (h : ∀ p, Pos (s p)) (h' : ∀ p, Pos (s' p)) (a q : ℕ) : Unit8 (ewin s s' a q) := by
  intro k; fin_cases k
  · exact wrap_unit h _ _
  · exact wrap_unit h _ _
  · exact wrap_unit h _ _
  · exact wrap_unit h _ _
  · exact wrap_unit h' _ _
  · exact wrap_unit h' _ _
  · exact wrap_unit h' _ _
  · exact wrap_unit h' _ _

/-! ## Steps -/

theorem esw_apply (c : Fin 8 → FVec Ideal S264x128 .f32) (r : Fin 264) (q : Fin 128) (h : Unit8 fun k => c k (ix2 r q)) :
    esw c (ix2 r q) = (gsw fun k => c k (ix2 r q)) * if q.val % 3 ≠ 2 ∧ q.val < 45 then 1 else 0 := by
  rw [← vsw_apply c _ h, ← mask_apply]
  unfold esw
  pointwise

/-- On a lane that holds a column the corners walk as on any window; -/
theorem vst_live (c : Fin 8 → FVec Ideal S264x128 .f32) (r : Fin 264) (q : Fin 128) (h : Unit8 fun k => c k (ix2 r q)) (hq : Live q.val) (t : ℕ) :
    (fun k => vst esw c t k (ix2 r q)) = gst (fun k => c k (ix2 r q)) t := by
  induction t with
  | zero => rfl
  | succ t ih =>
    funext k
    show vnext (vst esw c t) (esw (vst esw c t)) k (ix2 r q) = gnext (gst (fun k => c k (ix2 r q)) t) k
    have h2 : Unit8 fun k => vst esw c t k (ix2 r q) := by rw [ih]; exact gst_unit h t
    have hm : q.val % 3 ≠ 2 ∧ q.val < 45 := ⟨by have := hq.1; omega, hq.2⟩
    rw [vnext_apply, esw_apply _ _ _ h2, if_pos hm, mul_one, ih]
    rw [show vst esw c t k (ix2 r q) = gst (fun k => c k (ix2 r q)) t k from congrFun ih k]; rfl

/-- on the others nothing is ever taken away. -/
theorem vst_dead (c : Fin 8 → FVec Ideal S264x128 .f32) (r : Fin 264) (q : Fin 128) (h : Unit8 fun k => c k (ix2 r q))
    (hz : (gsw fun k => c k (ix2 r q)) * (if q.val % 3 ≠ 2 ∧ q.val < 45 then (1 : EReal) else 0) = 0) (t : ℕ) :
    (fun k => vst esw c t k (ix2 r q)) = fun k => c k (ix2 r q) := by
  induction t with
  | zero => rfl
  | succ t ih =>
    funext k
    show vnext (vst esw c t) (esw (vst esw c t)) k (ix2 r q) = c k (ix2 r q)
    have h2 : Unit8 fun k => vst esw c t k (ix2 r q) := by rw [ih]; exact h
    rw [vnext_apply, esw_apply _ _ _ h2, ih, hz, zero_mul, sub_zero]
    exact congrFun ih k

/-- The weight of a step on a lane. -/
theorem esw_step (c : Fin 8 → FVec Ideal S264x128 .f32) (r : Fin 264) (q : Fin 128) (s s' : ℕ → Fin 256 → Fin 256 → EReal)
    (hs : ∀ p, Pos (s p)) (hs' : ∀ p, Pos (s' p)) (hc : (fun k => c k (ix2 r q)) = ewin s s' r.val q.val) (t : ℕ) :
    esw (vst esw c t) (ix2 r q) = if Live q.val then gsw (gst (win (s (q.val / 3)) (s' (q.val / 3)) r.val 256) t) else 0 := by
  have h : Unit8 fun k => c k (ix2 r q) := by rw [hc]; exact ewin_unit hs hs' _ _
  by_cases hq : Live q.val
  · have e := vst_live c r q h hq t
    have hm : q.val % 3 ≠ 2 ∧ q.val < 45 := ⟨by have := hq.1; omega, hq.2⟩
    rw [esw_apply _ _ _ (by rw [e]; exact gst_unit h t), if_pos hm, mul_one, e, hc, ewin_live _ _ _ hq, if_pos hq]
  · have hz : (gsw fun k => c k (ix2 r q)) * (if q.val % 3 ≠ 2 ∧ q.val < 45 then (1 : EReal) else 0) = 0 := by
      split_ifs with hm
      · have : q.val % 3 = 1 := by unfold Live at hq; omega
        rw [hc, ewin_next _ _ _ this hm.2, gsw_zero, zero_mul]
      · rw [mul_zero]
    have e := vst_dead c r q h hz t
    rw [esw_apply _ _ _ (by rw [e]; exact h), e, hz, if_neg hq]

/-- A sum over lanes of what only the lanes that hold a column have. -/
theorem sum_live (f : ℕ → EReal) : (∑ q : Fin 128, if Live q.val then f (q.val / 3) else 0) = ∑ p : Fin 15, f p.val := by
  symm
  refine Finset.sum_of_injOn (fun p : Fin 15 => (⟨3 * p.val, by omega⟩ : Fin 128)) ?_ ?_ ?_ ?_
  · intro a _ b _ hab
    have : 3 * a.val = 3 * b.val := congrArg Fin.val hab
    exact Fin.ext (by omega)
  · intro a _; exact Finset.mem_coe.2 (Finset.mem_univ _)
  · intro q _ hq
    rw [if_neg]
    intro hl
    refine hq ⟨⟨q.val / 3, by have := hl.2; omega⟩, Finset.mem_coe.2 (Finset.mem_univ _), ?_⟩
    refine Fin.ext ?_
    show 3 * (q.val / 3) = q.val
    have := hl.1; omega
  · intro p _
    have hl : Live (3 * p.val) := ⟨by omega, by omega⟩
    show f p.val = if Live (3 * p.val) then f (3 * p.val / 3) else 0
    rw [if_pos hl]; congr 1; omega

end Cert.Dice.Edge

end
-- ==== Proof.Lanes.lean ====
module

public import proofs.«01_k».proof.Proof.HostMain
public import proofs.«01_k».proof.Proof.EdgeValue
public import Idealize.ShloMosaic.Lib.StableHlo.ReadAt
public import Idealize.ShloMosaic.Lib.Routing.OpsPair

/-! How the host lays the edge call's operands out: fifteen columns written to every third lane of a
constant array. -/

@[expose] public section

noncomputable section

namespace Cert.Dice.Edge

open Idealize.ShloMosaic Idealize.ShloMosaic.TcCoe Idealize.SL.Sem Cert.KernelIdeal Cert.KernelIdeal.Gen

/-- A fold that replaces its value at the hits keeps its start when nothing hits. -/
theorem fold_none {α β : Type} (P : β → Prop) [DecidablePred P] (v : β → α) :
    ∀ (l : List β) (x : α), (∀ b ∈ l, ¬ P b) → l.foldl (fun a b => if P b then v b else a) x = x
  | [], _, _ => rfl
  | b :: l, x, h => by
      rw [List.foldl_cons, if_neg (h b List.mem_cons_self)]
      exact fold_none P v l x fun b' hb => h b' (List.mem_cons_of_mem _ hb)

/-- A fold that replaces its value at the hits ends at the one hit's value. -/
theorem fold_one {α β : Type} (P : β → Prop) [DecidablePred P] (v : β → α) (b0 : β) (w : α)
    (hw : ∀ b, P b → v b = w) (h0 : P b0) :
    ∀ (l : List β) (x : α), b0 ∈ l → l.foldl (fun a b => if P b then v b else a) x = w := by
  have keep : ∀ (l : List β), l.foldl (fun a b => if P b then v b else a) w = w := by
    intro l
    induction l with
    | nil => rfl
    | cons b l ih =>
      rw [List.foldl_cons]
      by_cases h : P b
      · rw [if_pos h, hw b h]; exact ih
      · rw [if_neg h]; exact ih
  intro l
  induction l with
  | nil => intro x h; exact absurd h List.not_mem_nil
  | cons b l ih =>
    intro x h
    rw [List.foldl_cons]
    by_cases hb : P b
    · rw [if_pos hb, hw b hb]; exact keep l
    · rw [if_neg hb]
      rcases List.mem_cons.1 h with e | e
      · exact absurd (e ▸ h0) hb
      · exact ih x e

/-- Where a column's entry lands. -/
theorem lands (idx : IVec S15x1 32) (hi : ∀ p : Fin 15, (idx (ix2 p 0)).toInt = 3 * p.val) (a : Fin 2) (b : Fin 264) (p : Fin 15)
    (n : Fin 2) (r : Fin 264) (q : Fin 128) :
    scatter_S2x264x128_S15x1_S2x264x15_01_2_2_1.resultIdx? (ix3 a b p) idx = some (ix3 n r q)
      ↔ a = n ∧ b = r ∧ 3 * p.val = q.val := by
  rw [Routing.resultIdx?_eq_some]
  have e0 : ∀ (h : (0 : ℕ) < 3), scatter_S2x264x128_S15x1_S2x264x15_01_2_2_1.start (ix3 a b p) idx ⟨0, h⟩ = 0 := fun _ => rfl
  have e1 : ∀ (h : (1 : ℕ) < 3), scatter_S2x264x128_S15x1_S2x264x15_01_2_2_1.start (ix3 a b p) idx ⟨1, h⟩ = 0 := fun _ => rfl
  have e2 : ∀ (h : (2 : ℕ) < 3), scatter_S2x264x128_S15x1_S2x264x15_01_2_2_1.start (ix3 a b p) idx ⟨2, h⟩ = 3 * p.val := by
    intro h
    rw [← hi p]
    refine congrArg (fun t => (idx t).toInt) (funext fun k => ?_)
    match k with
    | ⟨0, _⟩ => rfl
    | ⟨1, _⟩ => rfl
  have w0 : ∀ (h : (0 : ℕ) < 3), scatter_S2x264x128_S15x1_S2x264x15_01_2_2_1.window (ix3 a b p) ⟨0, h⟩ = a.val := fun _ => rfl
  have w1 : ∀ (h : (1 : ℕ) < 3), scatter_S2x264x128_S15x1_S2x264x15_01_2_2_1.window (ix3 a b p) ⟨1, h⟩ = b.val := fun _ => rfl
  have w2 : ∀ (h : (2 : ℕ) < 3), scatter_S2x264x128_S15x1_S2x264x15_01_2_2_1.window (ix3 a b p) ⟨2, h⟩ = 0 := fun _ => rfl
  constructor
  · intro h
    have h0 := h ⟨0, by decide⟩
    have h1 := h ⟨1, by decide⟩
    have h2 := h ⟨2, by decide⟩
    rw [e0, w0] at h0
    rw [e1, w1] at h1
    rw [e2, w2] at h2
    have h0' : (0 : ℤ) + a.val = n.val := h0
    have h1' : (0 : ℤ) + b.val = r.val := h1
    have h2' : (3 * p.val : ℤ) + (0 : ℕ) = q.val := h2
    exact ⟨Fin.ext (by omega), Fin.ext (by omega), by omega⟩
  · rintro ⟨rfl, rfl, h⟩ k
    match k with
    | ⟨0, hk⟩ => rw [e0, w0]; exact zero_add _
    | ⟨1, hk⟩ => rw [e1, w1]; exact zero_add _
    | ⟨2, hk⟩ =>
      rw [e2, w2]
      show (3 * p.val : ℤ) + (0 : ℕ) = q.val
      omega

/-- The written array at a lane: the column on its own lane, the constant elsewhere. -/
theorem lanes_apply (x : S2x264x128.Idx → EReal) (idx : IVec S15x1 32) (hi : ∀ p : Fin 15, (idx (ix2 p 0)).toInt = 3 * p.val)
    (upd : S2x264x15.Idx → EReal) (n : Fin 2) (r : Fin 264) (q : Fin 128) :
    Host.scatter scatter_S2x264x128_S15x1_S2x264x15_01_2_2_1 (fun _ b => b) x idx upd (ix3 n r q)
      = if h : q.val % 3 = 0 ∧ q.val / 3 < 15 then upd (ix3 n r ⟨q.val / 3, h.2⟩) else x (ix3 n r q) := by
  rw [Routing.scatter_at]
  have hit : ∀ k : Fin S2x264x15.numel, scatter_S2x264x128_S15x1_S2x264x15_01_2_2_1.resultIdx? (S2x264x15.rowMajor.symm k) idx = some (ix3 n r q) →
      ∃ p : Fin 15, S2x264x15.rowMajor.symm k = ix3 n r p ∧ 3 * p.val = q.val := by
    intro k hk
    obtain ⟨a, b, p, e⟩ : ∃ (a : Fin 2) (b : Fin 264) (p : Fin 15), S2x264x15.rowMajor.symm k = ix3 a b p :=
      ⟨_, _, _, ValueIdx.eq_ix3 _⟩
    rw [e] at hk
    obtain ⟨rfl, rfl, h⟩ := (lands idx hi a b p n r q).1 hk
    exact ⟨p, e, h⟩
  by_cases h : q.val % 3 = 0 ∧ q.val / 3 < 15
  · rw [dif_pos h]
    refine fold_one _ (fun k => upd (S2x264x15.rowMajor.symm k)) (S2x264x15.rowMajor (ix3 n r ⟨q.val / 3, h.2⟩)) _ ?_ ?_ _ _ (List.mem_finRange _)
    · intro k hk
      obtain ⟨p, e, hp⟩ := hit k hk
      have : p = ⟨q.val / 3, h.2⟩ := Fin.ext (by show p.val = q.val / 3; omega)
      rw [← this]
      exact congrArg upd e
    · rw [Equiv.symm_apply_apply]
      exact (lands idx hi n r ⟨q.val / 3, h.2⟩ n r q).2 ⟨rfl, rfl, by show 3 * (q.val / 3) = q.val; omega⟩
  · rw [dif_neg h]
    refine fold_none _ (fun k => upd (S2x264x15.rowMajor.symm k)) _ _ fun k _ hk => h ?_
    obtain ⟨p, -, hp⟩ := hit k hk
    have := p.2
    omega

end Cert.Dice.Edge

end
-- ==== Proof.EdgePoint.lean ====
/- What one grid point of the edge call leaves in the output block: its three histograms. -/
module

public import proofs.«01_k».proof.Proof.EdgeValue
public import proofs.«01_k».proof.Proof.MainPoint

@[expose] public section

noncomputable section

namespace Cert.Dice.Edge

open Idealize.ShloMosaic Idealize.SL.Sem Cert.KernelIdeal Cert.KernelIdeal.Gen

/-- The three histograms of a grid point, by slice. -/
def tri {F : FTy → Type} [FloatOps F] (x0 x1 x2 x3 : Vec F S1x264x128 .f32) : Fin 3 → FVec F S16x16 .f32 :=
  ![histP x0 x1, histL x2 x3, histI x0 x1 x2 x3]

theorem put_apply (g : FVec Ideal S16x16 .f32) (h l : Fin 16) : put g (ix4 (0 : Fin 1) (0 : Fin 1) h l) = g (ix2 h l) := by
  unfold put
  pointwise

/-- What the three stores leave, whatever the histograms are. -/
theorem stores (g0 g1 g2 : FVec Ideal S16x16 .f32) (k : Fin 3) (h l : Fin 16) :
    View.canon [(⟨sl2, put g2⟩ : View.Piece (Elt Ideal) S1x3x16x16 .f32), ⟨sl1, put g1⟩, ⟨sl0, put g0⟩] (ix4 (0 : Fin 1) k h l)
      = (![g0, g1, g2] : Fin 3 → FVec Ideal S16x16 .f32) k (ix2 h l) := by
  refine (Main.canon_slices (Val := Elt Ideal) _ _ _ _ k h l).trans ?_
  match k with
  | 0 => exact put_apply _ h l
  | 1 => exact put_apply _ h l
  | 2 => exact put_apply _ h l

theorem out_A (c : Dev Cert.KernelIdeal.nD) (i : grid1.Coords) (arg1 : Memref Cert.KernelIdeal.sig .tc .vmem S1x264x128 .f32) (harg1 : arg1.IsWhole) (arg2 : Memref Cert.KernelIdeal.sig .tc .vmem S1x264x128 .f32) (harg2 : arg2.IsWhole) (arg3 : Memref Cert.KernelIdeal.sig .tc .vmem S1x264x128 .f32) (harg3 : arg3.IsWhole) (arg4 : Memref Cert.KernelIdeal.sig .tc .vmem S1x264x128 .f32) (harg4 : arg4.IsWhole) (arg5 : Memref Cert.KernelIdeal.sig .tc .vmem S1x3x16x16 .f32) (harg5 : arg5.IsWhole) (arg6 : Memref Cert.KernelIdeal.sig .tc .vmem S8x128 .f32) (harg6 : arg6.IsWhole)
    (x0 : Vec Ideal S1x264x128 .f32) (x1 : Vec Ideal S1x264x128 .f32) (x2 : Vec Ideal S1x264x128 .f32) (x3 : Vec Ideal S1x264x128 .f32)
    (k : Fin 3) (h l : Fin 16) :
    out1_A_4 c i arg1 harg1 arg2 harg2 arg3 harg3 arg4 harg4 arg5 harg5 arg6 harg6 x0 x1 x2 x3 (ix4 (0 : Fin 1) k h l)
      = tri x0 x1 x2 x3 k (ix2 h l) := by
  unfold out1_A_4
  rw [View.read_writes_eq_canon _ _ _ (cover1_A_4 c i arg1 harg1 arg2 harg2 arg3 harg3 arg4 harg4 arg5 harg5 arg6 harg6 x0 x1 x2 x3), run]
  simp only [ldIn_eq]
  exact stores _ _ _ k h l

end Cert.Dice.Edge

end
-- ==== Proof.EdgeHist.lean ====
/- The three histograms of the edge call over the extended reals: each a sum over the windows of the last column of
   fifteen pairs of slices. -/
module

public import proofs.«01_k».proof.Proof.EdgeValue

@[expose] public section

noncomputable section

namespace Cert.Dice.Edge

open Idealize.ShloMosaic Idealize.SL.Sem Cert.KernelIdeal Cert.KernelIdeal.Gen

/-! ## The histograms -/

section Point

variable {x0 x1 x2 x3 : Vec Ideal S1x264x128 .f32} {s s' u u' : ℕ → Fin 256 → Fin 256 → EReal}

/-- The window of pair `p` in row `r` of the last column. -/
abbrev lwin (s s' : ℕ → Fin 256 → Fin 256 → EReal) (r p : ℕ) : Fin 8 → EReal := win (s p) (s' p) r 256

theorem hp_apply {c : Fin 8 → FVec Ideal S264x128 .f32} (hs : ∀ p, Pos (s p)) (hs' : ∀ p, Pos (s' p))
    (hc : ∀ (r : Fin 264) (q : Fin 128), (fun k => c k (ix2 r q)) = ewin s s' r.val q.val) (h l : Fin 16) (t : ℕ) :
    hp c t (ix2 h l) = ∑ r : Fin 264, ∑ p : Fin 15, weigh (lwin s s' r.val p.val) h.val l.val t := by
  induction t with
  | zero =>
    show (broadcast S16x16 (Scalar.ofBits .f32 0x00000000#32) : FVec Ideal S16x16 .f32) (ix2 h l) = ∑ r : Fin 264, ∑ p : Fin 15, (0 : EReal)
    simp only [Finset.sum_const_zero]
    pointwise
  | succ t ih =>
    show addf (hp c t) (hist (vhi (vst esw c t)) (vlo (vst esw c t))
      (truncf .bf16 (esw (vst esw c t)) bitsLt_bf16_f32)) (ix2 h l) = _
    have e : addf (hp c t) (hist (vhi (vst esw c t)) (vlo (vst esw c t))
      (truncf .bf16 (esw (vst esw c t)) bitsLt_bf16_f32)) (ix2 h l) = hp c t (ix2 h l) + (hist (vhi (vst esw c t)) (vlo (vst esw c t))
      (truncf .bf16 (esw (vst esw c t)) bitsLt_bf16_f32)) (ix2 h l) := by pointwise
    rw [e, ih, hist_apply, ← Finset.sum_add_distrib]
    refine Finset.sum_congr rfl fun r _ => ?_
    show _ = ∑ p : Fin 15, (weigh (lwin s s' r.val p.val) h.val l.val t
      + if Bin (gst (lwin s s' r.val p.val) t) h.val l.val then gsw (gst (lwin s s' r.val p.val) t) else 0)
    rw [Finset.sum_add_distrib]
    congr 1
    rw [← sum_live fun p => if Bin (gst (lwin s s' r.val p) t) h.val l.val then gsw (gst (lwin s s' r.val p) t) else 0]
    refine Finset.sum_congr rfl fun q _ => ?_
    have e3 : truncf .bf16 (esw (vst esw c t)) bitsLt_bf16_f32 (ix2 r q) = esw (vst esw c t) (ix2 r q) := by pointwise
    rw [e3, esw_step c r q s s' hs hs' (hc r q) t, vlo_apply, vhi_apply]
    by_cases hq : Live q.val
    · have h1 : Unit8 fun k => c k (ix2 r q) := by rw [hc]; exact ewin_unit hs hs' _ _
      rw [vst_live c r q h1 hq t, hc, ewin_live _ _ _ hq, if_pos hq, if_pos hq]
      exact if_congr (and_congr (nat_coe_inj _ _) (nat_coe_inj _ _)) rfl rfl
    · rw [if_neg hq, if_neg hq]; exact ite_self _

/-- The histogram of the weights. -/
theorem histP_apply (hs : ∀ p, Pos (s p)) (hs' : ∀ p, Pos (s' p))
    (h0 : ∀ (r : Fin 264) (q : Fin 128), logistic (raw x0) (ix2 r q) = eimg s r.val q.val)
    (h1 : ∀ (r : Fin 264) (q : Fin 128), logistic (raw x1) (ix2 r q) = eimg s' r.val q.val) (h l : Fin 16) :
    histP x0 x1 (ix2 h l) = ∑ r : Fin 264, ∑ p : Fin 15, weigh (lwin s s' r.val p.val) h.val l.val 8 :=
  hp_apply hs hs' (corners_apply _ _ s s' h0 h1) h l 8

theorem llo_apply {x : Vec Ideal S1x264x128 .f32} {u : ℕ → Fin 256 → Fin 256 → EReal}
    (hx : ∀ (r : Fin 264) (q : Fin 128), raw x (ix2 r q) = eimg u r.val q.val) (r : Fin 264) (q : Fin 128) (hq : Live q.val) :
    llo x (ix2 r q) = four (lwin u u r.val (q.val / 3) 0) (lwin u u r.val (q.val / 3) 1) (lwin u u r.val (q.val / 3) 2) (lwin u u r.val (q.val / 3) 3) := by
  have e := (corners_apply (raw x) (raw x) u u hx hx r q).trans (ewin_live _ _ _ hq)
  unfold llo
  rw [vcode_apply]
  have e0 := congrFun e 0; have e1 := congrFun e 1; have e2 := congrFun e 2; have e3 := congrFun e 3
  exact congr (congr (congr (congrArg four e0) e1) e2) e3

/-- The two digits of a window of flags. -/
theorem four_flags (c : Fin 8 → EReal) (h : ∀ k, c k = 0 ∨ c k = 1) :
    four (c 0) (c 1) (c 2) (c 3) = ((lo c : ℝ) : EReal) ∧ four (c 4) (c 5) (c 6) (c 7) = ((hi c : ℝ) : EReal) := by
  have e1 := four_lo c
  have e2 := four_hi c
  rw [nz_flag (h 0), nz_flag (h 1), nz_flag (h 2), nz_flag (h 3)] at e1
  rw [nz_flag (h 4), nz_flag (h 5), nz_flag (h 6), nz_flag (h 7)] at e2
  exact ⟨e1, e2⟩

/-! The corners of a window, one by one. -/

theorem win_0 (a b : Fin 256 → Fin 256 → EReal) (r q : ℕ) : win a b r q 0 = img a r q := rfl
theorem win_1 (a b : Fin 256 → Fin 256 → EReal) (r q : ℕ) : win a b r q 1 = img a r (q + 1) := rfl
theorem win_2 (a b : Fin 256 → Fin 256 → EReal) (r q : ℕ) : win a b r q 2 = img a (r + 1) q := rfl
theorem win_3 (a b : Fin 256 → Fin 256 → EReal) (r q : ℕ) : win a b r q 3 = img a (r + 1) (q + 1) := rfl
theorem win_4 (a b : Fin 256 → Fin 256 → EReal) (r q : ℕ) : win a b r q 4 = img b r q := rfl
theorem win_5 (a b : Fin 256 → Fin 256 → EReal) (r q : ℕ) : win a b r q 5 = img b r (q + 1) := rfl
theorem win_6 (a b : Fin 256 → Fin 256 → EReal) (r q : ℕ) : win a b r q 6 = img b (r + 1) q := rfl
theorem win_7 (a b : Fin 256 → Fin 256 → EReal) (r q : ℕ) : win a b r q 7 = img b (r + 1) (q + 1) := rfl

theorem labels_apply (hu : ∀ p, Flag (u p)) (hu' : ∀ p, Flag (u' p))
    (h2 : ∀ (r : Fin 264) (q : Fin 128), raw x2 (ix2 r q) = eimg u r.val q.val)
    (h3 : ∀ (r : Fin 264) (q : Fin 128), raw x3 (ix2 r q) = eimg u' r.val q.val) (r : Fin 264) (q : Fin 128) (hq : Live q.val) :
    llo x2 (ix2 r q) = ((lo (lwin u u' r.val (q.val / 3)) : ℝ) : EReal) ∧ llo x3 (ix2 r q) = ((hi (lwin u u' r.val (q.val / 3)) : ℝ) : EReal) := by
  have f := four_flags _ (win_flag (hu (q.val / 3)) (hu' (q.val / 3)) r.val 256)
  rw [win_0, win_1, win_2, win_3, win_4, win_5, win_6, win_7] at f
  refine ⟨(llo_apply h2 r q hq).trans ?_, (llo_apply h3 r q hq).trans ?_⟩
  · unfold lwin; rw [win_0, win_1, win_2, win_3]; exact f.1
  · unfold lwin; rw [win_0, win_1, win_2, win_3]; exact f.2

/-- The histogram of the windows that exist. -/
theorem histL_apply (hu : ∀ p, Flag (u p)) (hu' : ∀ p, Flag (u' p))
    (h2 : ∀ (r : Fin 264) (q : Fin 128), raw x2 (ix2 r q) = eimg u r.val q.val)
    (h3 : ∀ (r : Fin 264) (q : Fin 128), raw x3 (ix2 r q) = eimg u' r.val q.val) (h l : Fin 16) :
    histL x2 x3 (ix2 h l) = ∑ r : Fin 264, ∑ p : Fin 15,
      if Bin (lwin u u' r.val p.val) h.val l.val then (if r.val < 257 then 1 else 0) else 0 := by
  unfold histL
  rw [hist_apply]
  refine Finset.sum_congr rfl fun r _ => ?_
  rw [← sum_live fun p => if Bin (lwin u u' r.val p) h.val l.val then (if r.val < 257 then 1 else 0) else 0]
  refine Finset.sum_congr rfl fun q _ => ?_
  rw [valid_apply]
  by_cases hq : Live q.val
  · obtain ⟨e1, e2⟩ := labels_apply hu hu' h2 h3 r q hq
    rw [e1, e2, if_pos hq, if_pos hq]
    exact if_congr (and_congr (nat_coe_inj _ _) (nat_coe_inj _ _)) rfl rfl
  · rw [if_neg hq, if_neg hq]; exact ite_self _

theorem vpw_live (c : Fin 8 → FVec Ideal S264x128 .f32) (vl vh : FVec Ideal S264x128 .f32) (r : Fin 264) (q : Fin 128) (d : Fin 8 → EReal)
    (hs : ∀ p, Pos (s p)) (hs' : ∀ p, Pos (s' p)) (hc : (fun k => c k (ix2 r q)) = ewin s s' r.val q.val) (hq : Live q.val)
    (hl : vl (ix2 r q) = ((lo d : ℝ) : EReal)) (hh : vh (ix2 r q) = ((hi d : ℝ) : EReal)) (t : ℕ) :
    vpw esw c vl vh t (ix2 r q) = match8 (lwin s s' r.val (q.val / 3)) d t := by
  have h1 : Unit8 fun k => c k (ix2 r q) := by rw [hc]; exact ewin_unit hs hs' _ _
  induction t with
  | zero =>
    show bc S264x128 0x00000000#32 (ix2 r q) = 0
    unfold bc; pointwise
  | succ t ih =>
    have e := vst_live c r q h1 hq t
    show addf (vpw esw c vl vh t) (select (andi (cmpf .oeq (vlo (vst esw c t)) vl) (cmpf .oeq (vhi (vst esw c t)) vh))
      (esw (vst esw c t)) (bc S264x128 0x00000000#32)) (ix2 r q) = match8 (lwin s s' r.val (q.val / 3)) d t
        + if Same (gst (lwin s s' r.val (q.val / 3)) t) d then gsw (gst (lwin s s' r.val (q.val / 3)) t) else 0
    rw [← ih]
    unfold bc
    pointwise
    rw [esw_step c r q s s' hs hs' hc t, if_pos hq, vlo_apply, vhi_apply, hl, hh, e, hc, ewin_live _ _ _ hq]
    simp only [nat_coe_inj]
    rw [select_and]; rfl

theorem vpw_dead (c : Fin 8 → FVec Ideal S264x128 .f32) (vl vh : FVec Ideal S264x128 .f32) (r : Fin 264) (q : Fin 128)
    (hs : ∀ p, Pos (s p)) (hs' : ∀ p, Pos (s' p)) (hc : (fun k => c k (ix2 r q)) = ewin s s' r.val q.val) (hq : ¬ Live q.val) (t : ℕ) :
    vpw esw c vl vh t (ix2 r q) = 0 := by
  induction t with
  | zero =>
    show bc S264x128 0x00000000#32 (ix2 r q) = 0
    unfold bc; pointwise
  | succ t ih =>
    show addf (vpw esw c vl vh t) (select (andi (cmpf .oeq (vlo (vst esw c t)) vl) (cmpf .oeq (vhi (vst esw c t)) vh))
      (esw (vst esw c t)) (bc S264x128 0x00000000#32)) (ix2 r q) = 0
    unfold bc
    pointwise
    rw [ih, esw_step c r q s s' hs hs' hc t, if_neg hq, select_and, ite_self, zero_add]

/-- The histogram of the weights of the steps whose byte is the label's. -/
theorem histI_apply (hs : ∀ p, Pos (s p)) (hs' : ∀ p, Pos (s' p)) (hu : ∀ p, Flag (u p)) (hu' : ∀ p, Flag (u' p))
    (h0 : ∀ (r : Fin 264) (q : Fin 128), logistic (raw x0) (ix2 r q) = eimg s r.val q.val)
    (h1 : ∀ (r : Fin 264) (q : Fin 128), logistic (raw x1) (ix2 r q) = eimg s' r.val q.val)
    (h2 : ∀ (r : Fin 264) (q : Fin 128), raw x2 (ix2 r q) = eimg u r.val q.val)
    (h3 : ∀ (r : Fin 264) (q : Fin 128), raw x3 (ix2 r q) = eimg u' r.val q.val) (h l : Fin 16) :
    histI x0 x1 x2 x3 (ix2 h l) = ∑ r : Fin 264, ∑ p : Fin 15,
      if Bin (lwin u u' r.val p.val) h.val l.val then match8 (lwin s s' r.val p.val) (lwin u u' r.val p.val) 8 else 0 := by
  unfold histI
  rw [hist_apply]
  refine Finset.sum_congr rfl fun r _ => ?_
  rw [← sum_live fun p => if Bin (lwin u u' r.val p) h.val l.val then match8 (lwin s s' r.val p) (lwin u u' r.val p) 8 else 0]
  refine Finset.sum_congr rfl fun q _ => ?_
  have e3 : truncf .bf16 (vpw esw (cp x0 x1) (llo x2) (llo x3) 8) bitsLt_bf16_f32 (ix2 r q)
      = vpw esw (cp x0 x1) (llo x2) (llo x3) 8 (ix2 r q) := by pointwise
  have ec : (fun k => cp x0 x1 k (ix2 r q)) = ewin s s' r.val q.val := corners_apply _ _ s s' h0 h1 r q
  rw [e3]
  by_cases hq : Live q.val
  · obtain ⟨e1, e2⟩ := labels_apply hu hu' h2 h3 r q hq
    rw [vpw_live _ _ _ r q (lwin u u' r.val (q.val / 3)) hs hs' ec hq e1 e2 8, e1, e2, if_pos hq]
    exact if_congr (and_congr (nat_coe_inj _ _) (nat_coe_inj _ _)) rfl rfl
  · rw [vpw_dead _ _ _ r q hs hs' ec hq, if_neg hq]; exact ite_self _

end Point

end Cert.Dice.Edge

end
-- ==== Proof.EdgeArray.lean ====
/- The arrays of the edge call: its blocks, and what its output array holds at its end. -/
module

public import proofs.«01_k».proof.Proof.EdgePoint
public import proofs.«01_k».proof.Proof.EdgeHist
public import proofs.«01_k».proof.Proof.Entry
public import Idealize.ShloMosaic.Lib.Pipeline.Value

@[expose] public section

noncomputable section

namespace Cert.Dice.Edge

open Idealize.ShloMosaic Idealize.ShloMosaic.TcCoe Idealize.SL.Sem Cert.KernelIdeal Cert.KernelIdeal.Gen
open Idealize.ShloMosaic.Pipeline (Dat)

variable (V : (c : Dev Cert.KernelIdeal.nD) → (b : Ref Cert.KernelIdeal.sig .tc) → Buf (Elt Ideal) ((c : Thread Cert.KernelIdeal.nD Cert.KernelIdeal.τ).loc b)) (c : Dev Cert.KernelIdeal.nD)

/-- A grid point: a batch. -/
theorem lt_batch {n : ℕ} (hn : n < 2) : n < cfg1.N := by
  rw [show cfg1.N = 2 from N_1]; omega

/-- The histograms of one batch. -/
def part (t : Fin cfg1.N) : Fin 3 → FVec Ideal S16x16 .f32 :=
  tri (iblk1 V c 0 t) (iblk1 V c 1 t) (iblk1 V c 2 t) (iblk1 V c 3 t)

/-- What the output array ends holding. -/
def result : FVec Ideal S2x3x16x16 .f32 := fun i => part V c ⟨(i 0).val, lt_batch (i 0).isLt⟩ (i 1) (ix2 (i 2) (i 3))

theorem index4 (t : Fin cfg1.N) : win1_4.index t 0 = t.val ∧ win1_4.index t 1 = 0 ∧ win1_4.index t 2 = 0 ∧ win1_4.index t 3 = 0 := by
  revert t; decide +kernel

theorem index0 (t : Fin cfg1.N) : win1_0.index t 0 = t.val ∧ win1_0.index t 1 = 0 ∧ win1_0.index t 2 = 0 := by
  revert t; decide +kernel

theorem index1 (t : Fin cfg1.N) : win1_1.index t 0 = t.val ∧ win1_1.index t 1 = 0 ∧ win1_1.index t 2 = 0 := by
  revert t; decide +kernel

theorem index2 (t : Fin cfg1.N) : win1_2.index t 0 = t.val ∧ win1_2.index t 1 = 0 ∧ win1_2.index t 2 = 0 := by
  revert t; decide +kernel

theorem index3 (t : Fin cfg1.N) : win1_3.index t 0 = t.val ∧ win1_3.index t 1 = 0 ∧ win1_3.index t 2 = 0 := by
  revert t; decide +kernel

/-- The write-back of a batch. -/
theorem flushed_eq (t : Fin cfg1.N) (hf : (cfg1.win 4).flush t = true) :
    (dat1 V c).flushed 4 t = ((cfg1.win 4).blk t).view.read (Elt Ideal) (result V c) := by
  have hN : t.val < 2 := lt_of_lt_of_eq t.isLt N_1
  show (cfg1.win 4).cut (grid1.coords t) ((dat1 V c).after 4 t) = _
  rw [after1_4]
  funext j
  obtain ⟨i0, i1, i2, i3⟩ := index4 t
  have hj0 : (j 0 : ℕ) < 1 := (j 0).isLt
  have hj : j = ix4 (0 : Fin 1) (j 1) (j 2) (j 3) := by
    funext a
    match a with
    | ⟨0, _⟩ => exact Fin.ext (by show (j 0 : ℕ) = 0; omega)
    | ⟨1, _⟩ => rfl
    | ⟨2, _⟩ => rfl
    | ⟨3, _⟩ => rfl
  rw [View.read_apply]
  have hr : ((cfg1.win 4).blk t).view.emb j = ix4 ⟨t.val, by omega⟩ (j 1) (j 2) (j 3) := by
    funext a
    apply Fin.ext
    match a with
    | ⟨0, _⟩ => show win1_4.index t 0 * 1 + 1 * (j 0 : ℕ) = t.val; omega
    | ⟨1, _⟩ => show win1_4.index t 1 * 3 + 1 * (j 1 : ℕ) = (j 1 : ℕ); omega
    | ⟨2, _⟩ => show win1_4.index t 2 * 16 + 1 * (j 2 : ℕ) = (j 2 : ℕ); omega
    | ⟨3, _⟩ => show win1_4.index t 3 * 16 + 1 * (j 3 : ℕ) = (j 3 : ℕ); omega
  rw [hr]
  show outsAt1 V c t j = result V c (ix4 ⟨t.val, by omega⟩ (j 1) (j 2) (j 3))
  refine (congrArg (outsAt1 V c t) hj).trans ?_
  unfold outsAt1
  exact out_A ..

/-- The output array at the end of the call. -/
theorem final : (dat1 V c).arrAt 4 cfg1.N = result V c :=
  (dat1 V c).arrAt_eq_of_cover 4 (result V c) (flushed_eq V c) fun i => by
    have h0 : (i 0 : ℕ) < 2 := (i 0).isLt
    have h1 : (i 1 : ℕ) < 3 := (i 1).isLt
    have h2 : (i 2 : ℕ) < 16 := (i 2).isLt
    have h3 : (i 3 : ℕ) < 16 := (i 3).isLt
    refine ⟨⟨(i 0 : ℕ), lt_batch h0⟩, flush1_4 _, ?_⟩
    obtain ⟨i0, i1, i2, i3⟩ := index4 ⟨(i 0 : ℕ), lt_batch h0⟩
    show i ∈ ((View.whole main_v54).slice (win1_4.rect ⟨(i 0 : ℕ), lt_batch h0⟩)).set
    rw [View.set_slice_whole, Rect.mem_set_unit]
    intro a
    match a with
    | ⟨0, _⟩ =>
      show win1_4.index ⟨(i 0 : ℕ), lt_batch h0⟩ 0 * 1 ≤ (i 0 : ℕ) ∧ (i 0 : ℕ) < win1_4.index ⟨(i 0 : ℕ), lt_batch h0⟩ 0 * 1 + 1
      dsimp only at i0; omega
    | ⟨1, _⟩ =>
      show win1_4.index ⟨(i 0 : ℕ), lt_batch h0⟩ 1 * 3 ≤ (i 1 : ℕ) ∧ (i 1 : ℕ) < win1_4.index ⟨(i 0 : ℕ), lt_batch h0⟩ 1 * 3 + 3
      omega
    | ⟨2, _⟩ =>
      show win1_4.index ⟨(i 0 : ℕ), lt_batch h0⟩ 2 * 16 ≤ (i 2 : ℕ) ∧ (i 2 : ℕ) < win1_4.index ⟨(i 0 : ℕ), lt_batch h0⟩ 2 * 16 + 16
      omega
    | ⟨3, _⟩ =>
      show win1_4.index ⟨(i 0 : ℕ), lt_batch h0⟩ 3 * 16 ≤ (i 3 : ℕ) ∧ (i 3 : ℕ) < win1_4.index ⟨(i 0 : ℕ), lt_batch h0⟩ 3 * 16 + 16
      omega

/-! ## The input blocks -/

theorem block0 (n : Fin 2) (r : Fin 264) (q : Fin 128) :
    iblk1 V c 0 ⟨n.val, lt_batch n.isLt⟩ (ix3 (0 : Fin 1) r q) = V c main_v23 (ix3 n r q) := by
  obtain ⟨i0, i1, i2⟩ := index0 ⟨n.val, lt_batch n.isLt⟩
  unfold iblk1
  rw [View.read_apply]
  show V c main_v23 _ = _
  congr 1
  funext a; apply Fin.ext
  match a with
  | ⟨0, _⟩ => show win1_0.index _ 0 * 1 + 1 * 0 = n.val; rw [i0]; dsimp only; omega
  | ⟨1, _⟩ => show win1_0.index _ 1 * 264 + 1 * r.val = r.val; rw [i1]; omega
  | ⟨2, _⟩ => show win1_0.index _ 2 * 128 + 1 * q.val = q.val; rw [i2]; omega

theorem block1 (n : Fin 2) (r : Fin 264) (q : Fin 128) :
    iblk1 V c 1 ⟨n.val, lt_batch n.isLt⟩ (ix3 (0 : Fin 1) r q) = V c main_v33 (ix3 n r q) := by
  obtain ⟨i0, i1, i2⟩ := index1 ⟨n.val, lt_batch n.isLt⟩
  unfold iblk1
  rw [View.read_apply]
  show V c main_v33 _ = _
  congr 1
  funext a; apply Fin.ext
  match a with
  | ⟨0, _⟩ => show win1_1.index _ 0 * 1 + 1 * 0 = n.val; rw [i0]; dsimp only; omega
  | ⟨1, _⟩ => show win1_1.index _ 1 * 264 + 1 * r.val = r.val; rw [i1]; omega
  | ⟨2, _⟩ => show win1_1.index _ 2 * 128 + 1 * q.val = q.val; rw [i2]; omega

theorem block2 (n : Fin 2) (r : Fin 264) (q : Fin 128) :
    iblk1 V c 2 ⟨n.val, lt_batch n.isLt⟩ (ix3 (0 : Fin 1) r q) = V c main_v43 (ix3 n r q) := by
  obtain ⟨i0, i1, i2⟩ := index2 ⟨n.val, lt_batch n.isLt⟩
  unfold iblk1
  rw [View.read_apply]
  show V c main_v43 _ = _
  congr 1
  funext a; apply Fin.ext
  match a with
  | ⟨0, _⟩ => show win1_2.index _ 0 * 1 + 1 * 0 = n.val; rw [i0]; dsimp only; omega
  | ⟨1, _⟩ => show win1_2.index _ 1 * 264 + 1 * r.val = r.val; rw [i1]; omega
  | ⟨2, _⟩ => show win1_2.index _ 2 * 128 + 1 * q.val = q.val; rw [i2]; omega

theorem block3 (n : Fin 2) (r : Fin 264) (q : Fin 128) :
    iblk1 V c 3 ⟨n.val, lt_batch n.isLt⟩ (ix3 (0 : Fin 1) r q) = V c main_v53 (ix3 n r q) := by
  obtain ⟨i0, i1, i2⟩ := index3 ⟨n.val, lt_batch n.isLt⟩
  unfold iblk1
  rw [View.read_apply]
  show V c main_v53 _ = _
  congr 1
  funext a; apply Fin.ext
  match a with
  | ⟨0, _⟩ => show win1_3.index _ 0 * 1 + 1 * 0 = n.val; rw [i0]; dsimp only; omega
  | ⟨1, _⟩ => show win1_3.index _ 1 * 264 + 1 * r.val = r.val; rw [i1]; omega
  | ⟨2, _⟩ => show win1_3.index _ 2 * 128 + 1 * q.val = q.val; rw [i2]; omega

/-! ## The histograms of a batch, as sums over windows -/

/-- The slices of a batch, counted round: the lower and the upper of pair `p`. -/
def low (S : Fin 16 → Fin 256 → Fin 256 → EReal) (p : ℕ) : Fin 256 → Fin 256 → EReal := S ⟨p % 16, Nat.mod_lt _ (by decide)⟩
def high (S : Fin 16 → Fin 256 → Fin 256 → EReal) (p : ℕ) : Fin 256 → Fin 256 → EReal := S ⟨(p + 1) % 16, Nat.mod_lt _ (by decide)⟩

theorem low_eq (S : Fin 16 → Fin 256 → Fin 256 → EReal) (p : Fin 15) : low S p.val = S p.castSucc :=
  congrArg S (Fin.ext (Nat.mod_eq_of_lt (by omega)))
theorem high_eq (S : Fin 16 → Fin 256 → Fin 256 → EReal) (p : Fin 15) : high S p.val = S p.succ :=
  congrArg S (Fin.ext (Nat.mod_eq_of_lt (by omega)))

/-- What the arrays hold: the last columns of the slices, one to every third lane. -/
structure Holds (S U : Fin 2 → Fin 16 → Fin 256 → Fin 256 → EReal) : Prop where
  pos : ∀ n z, Pos (S n z)
  flag : ∀ n z, Flag (U n z)
  score0 : ∀ (n : Fin 2) (r : Fin 264) (q : Fin 128), Ideal.logistic (V c main_v23 (ix3 n r q)) = eimg (low (S n)) r.val q.val
  score1 : ∀ (n : Fin 2) (r : Fin 264) (q : Fin 128), Ideal.logistic (V c main_v33 (ix3 n r q)) = eimg (high (S n)) r.val q.val
  label0 : ∀ (n : Fin 2) (r : Fin 264) (q : Fin 128), V c main_v43 (ix3 n r q) = eimg (low (U n)) r.val q.val
  label1 : ∀ (n : Fin 2) (r : Fin 264) (q : Fin 128), V c main_v53 (ix3 n r q) = eimg (high (U n)) r.val q.val

theorem raw_apply (x : Vec Ideal S1x264x128 .f32) (r : Fin 264) (q : Fin 128) : raw x (ix2 r q) = x (ix3 (0 : Fin 1) r q) := by
  unfold raw
  pointwise

theorem logistic_raw (x : Vec Ideal S1x264x128 .f32) (r : Fin 264) (q : Fin 128) :
    logistic (raw x) (ix2 r q) = Ideal.logistic (x (ix3 (0 : Fin 1) r q)) :=
  congrArg Ideal.logistic (raw_apply x r q)

theorem part_apply {S U : Fin 2 → Fin 16 → Fin 256 → Fin 256 → EReal} (H : Holds V c S U) (n : Fin 2) (k : Fin 3) (h l : Fin 16) :
    part V c ⟨n.val, lt_batch n.isLt⟩ k (ix2 h l) = ∑ r : Fin 264, ∑ p : Fin 15,
      entry (lwin (low (S n)) (high (S n)) r.val p.val) (lwin (low (U n)) (high (U n)) r.val p.val) r.val h.val l.val k := by
  have h0 : ∀ (r : Fin 264) (q : Fin 128), logistic (raw (iblk1 V c 0 ⟨n.val, lt_batch n.isLt⟩)) (ix2 r q) = eimg (low (S n)) r.val q.val :=
    fun r q => by rw [logistic_raw, block0]; exact H.score0 n r q
  have h1 : ∀ (r : Fin 264) (q : Fin 128), logistic (raw (iblk1 V c 1 ⟨n.val, lt_batch n.isLt⟩)) (ix2 r q) = eimg (high (S n)) r.val q.val :=
    fun r q => by rw [logistic_raw, block1]; exact H.score1 n r q
  have h2 : ∀ (r : Fin 264) (q : Fin 128), raw (iblk1 V c 2 ⟨n.val, lt_batch n.isLt⟩) (ix2 r q) = eimg (low (U n)) r.val q.val :=
    fun r q => by rw [raw_apply, block2]; exact H.label0 n r q
  have h3 : ∀ (r : Fin 264) (q : Fin 128), raw (iblk1 V c 3 ⟨n.val, lt_batch n.isLt⟩) (ix2 r q) = eimg (high (U n)) r.val q.val :=
    fun r q => by rw [raw_apply, block3]; exact H.label1 n r q
  match k with
  | 0 => exact histP_apply (fun _ => H.pos _ _) (fun _ => H.pos _ _) h0 h1 h l
  | 1 => exact histL_apply (fun _ => H.flag _ _) (fun _ => H.flag _ _) h2 h3 h l
  | 2 => exact histI_apply (fun _ => H.pos _ _) (fun _ => H.pos _ _) (fun _ => H.flag _ _) (fun _ => H.flag _ _) h0 h1 h2 h3 h l

theorem result_apply {S U : Fin 2 → Fin 16 → Fin 256 → Fin 256 → EReal} (H : Holds V c S U) (n : Fin 2) (k : Fin 3) (h l : Fin 16) :
    result V c (ix4 n k h l) = ∑ p : Fin 15, ∑ r : Fin 264,
      entry (win (S n p.castSucc) (S n p.succ) r.val 256) (win (U n p.castSucc) (U n p.succ) r.val 256) r.val h.val l.val k := by
  refine (part_apply V c H n k h l).trans (Finset.sum_comm.trans ?_)
  refine Finset.sum_congr rfl fun p _ => Finset.sum_congr rfl fun r _ => ?_
  unfold lwin
  rw [low_eq, high_eq, low_eq, high_eq]

end Cert.Dice.Edge

end
-- ==== Proof.HostEdge.lean ====
module

public import proofs.«01_k».proof.Proof.Lanes
public import proofs.«01_k».proof.Proof.EdgeArray

/-! What the edge call's input arrays hold when it starts: lane `3 p` of row `r` holds the last column of a slice. -/

@[expose] public section

noncomputable section

namespace Cert.Dice.Edge

open Idealize.ShloMosaic Idealize.ShloMosaic.TcCoe Idealize.SL.Sem Cert.KernelIdeal Cert.KernelIdeal.Gen

open Cert.Dice.Main (pred labels scores marks neg_inf zero_bits)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- A bound that always holds drops out of a test. -/
theorem drop_first {α : Type} {a b : Prop} [Decidable (a ∧ b)] [Decidable b] (ha : a) {x : a ∧ b → α} {y : b → α} {z z' : α}
    (hx : ∀ h : a ∧ b, x h = y h.2) (hz : z = z') : (if h : a ∧ b then x h else z) = if h : b then y h else z' := by
  by_cases h : b
  · exact (dif_pos ⟨ha, h⟩).trans ((hx _).trans (dif_pos h).symm)
  · rw [dif_neg h, dif_neg (fun t : a ∧ b => h t.2)]
    exact hz

theorem lane_index (p : Fin 15) :
    (broadcastInDim S15x1 ![0] bcast_S15_S15x1_0
        (select
          (cmpi CmpIPredicate.slt
            (muli (broadcastInDim S15 ![] bcast_S_S15 (constantI S_ 32 3#32)) (iotaInDim S15 32 0))
            (broadcastInDim S15 ![] bcast_S_S15 (constantI S_ 32 0#32)))
          (addi (muli (broadcastInDim S15 ![] bcast_S_S15 (constantI S_ 32 3#32)) (iotaInDim S15 32 0))
            (broadcastInDim S15 ![] bcast_S_S15 (constantI S_ 32 128#32)))
          (muli (broadcastInDim S15 ![] bcast_S_S15 (constantI S_ 32 3#32)) (iotaInDim S15 32 0))) (ix2 p 0)).toInt = 3 * p.val := by
  revert p
  decide +kernel

theorem array_v23 (n : Fin 2) (r : Fin 264) (q : Fin 128) :
    V10 m ρ c main_v23 (ix3 n r q) = if h : q.val % 3 = 0 ∧ q.val / 3 < 15 then
      (if h' : 1 ≤ r.val ∧ r.val - 1 < 256 then pred m c (ix4 n ⟨q.val / 3, by have := h.2; omega⟩ ⟨r.val - 1, h'.2⟩ 255) else (⊥ : EReal)) else (⊥ : EReal) := by
  have hw : W5 m ρ c (Proc.devRef .tc main_arg0) = m ((c.tc : Thread Cert.KernelIdeal.nD Cert.KernelIdeal.τ).loc main_arg0) := W5_args m ρ c _ (by decide)
  show StableHlo.after hostOps1_4 (StableHlo.after hostOps1_3 (StableHlo.after hostOps1_2 (StableHlo.after hostOps1_1 (StableHlo.after hostOps1 (W5 m ρ c))))) (Proc.devRef .tc main_v23) (ix3 n r q) = _
  after_reads_at
  rw [hw]
  refine (lanes_apply _ _ lane_index _ n r q).trans ?_
  by_cases h : q.val % 3 = 0 ∧ q.val / 3 < 15
  · rw [dif_pos h, dif_pos h]
    pointwise
    exact drop_first (by omega) (fun _ => rfl) Main.neg_inf
  · rw [dif_neg h, dif_neg h, ← Main.neg_inf]
    rfl

theorem array_v33 (n : Fin 2) (r : Fin 264) (q : Fin 128) :
    V10 m ρ c main_v33 (ix3 n r q) = if h : q.val % 3 = 0 ∧ q.val / 3 < 15 then
      (if h' : 1 ≤ r.val ∧ r.val - 1 < 256 then pred m c (ix4 n ⟨1 + q.val / 3, by have := h.2; omega⟩ ⟨r.val - 1, h'.2⟩ 255) else (⊥ : EReal)) else (⊥ : EReal) := by
  have hw : W5 m ρ c (Proc.devRef .tc main_arg0) = m ((c.tc : Thread Cert.KernelIdeal.nD Cert.KernelIdeal.τ).loc main_arg0) := W5_args m ρ c _ (by decide)
  show StableHlo.after hostOps1_4 (StableHlo.after hostOps1_3 (StableHlo.after hostOps1_2 (StableHlo.after hostOps1_1 (StableHlo.after hostOps1 (W5 m ρ c))))) (Proc.devRef .tc main_v33) (ix3 n r q) = _
  after_reads_at
  rw [hw]
  refine (lanes_apply _ _ lane_index _ n r q).trans ?_
  by_cases h : q.val % 3 = 0 ∧ q.val / 3 < 15
  · rw [dif_pos h, dif_pos h]
    pointwise
    exact drop_first (by omega) (fun _ => rfl) Main.neg_inf
  · rw [dif_neg h, dif_neg h, ← Main.neg_inf]
    rfl

theorem array_v43 (n : Fin 2) (r : Fin 264) (q : Fin 128) :
    V10 m ρ c main_v43 (ix3 n r q) = if h : q.val % 3 = 0 ∧ q.val / 3 < 15 then
      (if h' : 1 ≤ r.val ∧ r.val - 1 < 256 then FloatOps.sitofp (F := Ideal) .f32 (labels m c (ix4 n ⟨q.val / 3, by have := h.2; omega⟩ ⟨r.val - 1, h'.2⟩ 255)) else (0 : EReal)) else (0 : EReal) := by
  have hw : W5 m ρ c (Proc.devRef .tc main_arg1) = m ((c.tc : Thread Cert.KernelIdeal.nD Cert.KernelIdeal.τ).loc main_arg1) := W5_args m ρ c _ (by decide)
  show StableHlo.after hostOps1_4 (StableHlo.after hostOps1_3 (StableHlo.after hostOps1_2 (StableHlo.after hostOps1_1 (StableHlo.after hostOps1 (W5 m ρ c))))) (Proc.devRef .tc main_v43) (ix3 n r q) = _
  after_reads_at
  rw [hw]
  refine (lanes_apply _ _ lane_index _ n r q).trans ?_
  by_cases h : q.val % 3 = 0 ∧ q.val / 3 < 15
  · rw [dif_pos h, dif_pos h]
    pointwise
    exact drop_first (by omega) (fun _ => rfl) Main.zero_bits
  · rw [dif_neg h, dif_neg h, ← Main.zero_bits]
    rfl

theorem array_v53 (n : Fin 2) (r : Fin 264) (q : Fin 128) :
    V10 m ρ c main_v53 (ix3 n r q) = if h : q.val % 3 = 0 ∧ q.val / 3 < 15 then
      (if h' : 1 ≤ r.val ∧ r.val - 1 < 256 then FloatOps.sitofp (F := Ideal) .f32 (labels m c (ix4 n ⟨1 + q.val / 3, by have := h.2; omega⟩ ⟨r.val - 1, h'.2⟩ 255)) else (0 : EReal)) else (0 : EReal) := by
  have hw : W5 m ρ c (Proc.devRef .tc main_arg1) = m ((c.tc : Thread Cert.KernelIdeal.nD Cert.KernelIdeal.τ).loc main_arg1) := W5_args m ρ c _ (by decide)
  show StableHlo.after hostOps1_4 (StableHlo.after hostOps1_3 (StableHlo.after hostOps1_2 (StableHlo.after hostOps1_1 (StableHlo.after hostOps1 (W5 m ρ c))))) (Proc.devRef .tc main_v53) (ix3 n r q) = _
  after_reads_at
  rw [hw]
  refine (lanes_apply _ _ lane_index _ n r q).trans ?_
  by_cases h : q.val % 3 = 0 ∧ q.val / 3 < 15
  · rw [dif_pos h, dif_pos h]
    pointwise
    exact drop_first (by omega) (fun _ => rfl) Main.zero_bits
  · rw [dif_neg h, dif_neg h, ← Main.zero_bits]
    rfl

theorem eimg_col (s : ℕ → Fin 256 → Fin 256 → EReal) (r q : ℕ) :
    eimg s r q = if q % 3 = 0 ∧ q / 3 < 15 then (if h' : 1 ≤ r ∧ r - 1 < 256 then s (q / 3) ⟨r - 1, h'.2⟩ 255 else 0) else 0 := by
  unfold eimg
  refine if_congr ⟨fun h => ⟨h.1, by have := h.2; omega⟩, fun h => ⟨h.1, by have := h.1; have := h.2; omega⟩⟩ ?_ rfl
  exact Main.img_col (s (q / 3)) r 255

/-- The edge call's arrays, of predictions above `-∞` and labels of zeros and ones. -/
theorem holds (hp : ∀ n z, Pos (scores (pred m c) n z)) (hf : ∀ n z, Flag (marks (labels m c) n z)) :
    Holds (V10 m ρ) c (scores (pred m c)) (marks (labels m c)) where
  pos := hp
  flag := hf
  score0 n r q := by
    rw [array_v23, eimg_col]
    by_cases h : q.val % 3 = 0 ∧ q.val / 3 < 15
    · rw [dif_pos h, if_pos h]
      by_cases h' : 1 ≤ r.val ∧ r.val - 1 < 256
      · rw [dif_pos h', dif_pos h']
        refine congrArg (fun z => scores (pred m c) n z ⟨r.val - 1, h'.2⟩ 255) (Fin.ext ?_)
        show q.val / 3 = q.val / 3 % 16
        omega
      · rw [dif_neg h', dif_neg h']; exact Ideal.logistic_bot
    · rw [dif_neg h, if_neg h]; exact Ideal.logistic_bot
  score1 n r q := by
    rw [array_v33, eimg_col]
    by_cases h : q.val % 3 = 0 ∧ q.val / 3 < 15
    · rw [dif_pos h, if_pos h]
      by_cases h' : 1 ≤ r.val ∧ r.val - 1 < 256
      · rw [dif_pos h', dif_pos h']
        refine congrArg (fun z => scores (pred m c) n z ⟨r.val - 1, h'.2⟩ 255) (Fin.ext ?_)
        show 1 + q.val / 3 = (q.val / 3 + 1) % 16
        omega
      · rw [dif_neg h', dif_neg h']; exact Ideal.logistic_bot
    · rw [dif_neg h, if_neg h]; exact Ideal.logistic_bot
  label0 n r q := by
    rw [array_v43, eimg_col]
    by_cases h : q.val % 3 = 0 ∧ q.val / 3 < 15
    · rw [dif_pos h, if_pos h]
      by_cases h' : 1 ≤ r.val ∧ r.val - 1 < 256
      · rw [dif_pos h', dif_pos h']
        refine congrArg (fun z => marks (labels m c) n z ⟨r.val - 1, h'.2⟩ 255) (Fin.ext ?_)
        show q.val / 3 = q.val / 3 % 16
        omega
      · rw [dif_neg h', dif_neg h']
    · rw [dif_neg h, if_neg h]
  label1 n r q := by
    rw [array_v53, eimg_col]
    by_cases h : q.val % 3 = 0 ∧ q.val / 3 < 15
    · rw [dif_pos h, if_pos h]
      by_cases h' : 1 ≤ r.val ∧ r.val - 1 < 256
      · rw [dif_pos h', dif_pos h']
        refine congrArg (fun z => marks (labels m c) n z ⟨r.val - 1, h'.2⟩ 255) (Fin.ext ?_)
        show 1 + q.val / 3 = (q.val / 3 + 1) % 16
        omega
      · rw [dif_neg h', dif_neg h']
    · rw [dif_neg h, if_neg h]

end Cert.Dice.Edge

end
-- ==== Proof.Score.lean ====
module

public import proofs.«01_k».proof.Proof.Entry

/-! The value out of the numerators and the denominators of the two images. -/

@[expose] public section

noncomputable section

namespace Cert.Dice

open Idealize.ShloMosaic

/-- Two. -/
def two : EReal := Ideal.ofBits .f32 1073741824#32
/-- The smoothing term. -/
def smooth : EReal := Ideal.ofBits .f32 981668463#32

/-- One less the smoothed quotient, averaged over the two images. -/
def value (num den : Fin 2 → EReal) : EReal :=
  Ideal.div (∑ x, (1 - Ideal.div (num x + smooth) (den x + smooth))) two

theorem two_eq : two = 2 := by
  unfold two
  simp [Ideal.ofBits, Ideal.ieee, -EReal.coe_mul]
  norm_num
  rfl

/-- The weights of the first `t` steps times the areas of their bytes. -/
def covered (a : ℕ → EReal) (c : Fin 8 → EReal) (t : ℕ) : EReal :=
  Nat.rec 0 (fun t p => p + a (code (gst c t)) * gsw (gst c t)) t

theorem covered_nine (a : ℕ → EReal) {c : Fin 8 → EReal} (hc : Unit8 c) : covered a c 9 = covered a c 8 := by
  show covered a c 8 + a (code (gst c 8)) * gsw (gst c 8) = covered a c 8
  rw [gsw_eight hc, mul_zero, add_zero]

theorem match8_nine {c : Fin 8 → EReal} (hc : Unit8 c) (d : Fin 8 → EReal) : match8 c d 9 = match8 c d 8 := by
  show match8 c d 8 + (if Same (gst c 8) d then gsw (gst c 8) else 0) = match8 c d 8
  rw [gsw_eight hc, ite_self, add_zero]

theorem weigh_nonneg (c : Fin 8 → EReal) (h l t : ℕ) : 0 ≤ weigh c h l t := by
  induction t with
  | zero => exact le_refl _
  | succ t ih =>
    show 0 ≤ weigh c h l t + if Bin (gst c t) h l then gsw (gst c t) else 0
    refine add_nonneg ih ?_
    split_ifs
    · exact gsw_nonneg _
    · exact le_refl _

theorem match8_nonneg (c d : Fin 8 → EReal) (t : ℕ) : 0 ≤ match8 c d t := by
  induction t with
  | zero => exact le_refl _
  | succ t ih =>
    show 0 ≤ match8 c d t + if Same (gst c t) d then gsw (gst c t) else 0
    refine add_nonneg ih ?_
    split_ifs
    · exact gsw_nonneg _
    · exact le_refl _

theorem entry_nonneg (c d : Fin 8 → EReal) (r h l : ℕ) (k : Fin 3) : 0 ≤ entry c d r h l k := by
  unfold entry
  match k with
  | 0 => exact weigh_nonneg c h l 8
  | 1 =>
    show (0 : EReal) ≤ if Bin d h l then (if r < 257 then 1 else 0) else 0
    split_ifs <;> norm_num
  | 2 =>
    show (0 : EReal) ≤ if Bin d h l then match8 c d 8 else 0
    split_ifs
    · exact match8_nonneg c d 8
    · exact le_refl _

/-- A sum of nonnegative terms times a factor. -/
theorem sum_mul_nonneg {ι : Type} (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, EReal.right_distrib_of_nonneg (hf i) (Finset.sum_nonneg fun j _ => hf j), ih]

/-- Twice a sum. -/
theorem two_mul_sum {ι : Type} (s : Finset ι) (f : ι → EReal) : two * (∑ i ∈ s, f i) = ∑ i ∈ s, two * f i := by
  classical
  rw [two_eq]
  induction s using Finset.induction_on with
  | empty => simp
  | insert i s hi ih =>
    rw [Finset.sum_insert hi, Finset.sum_insert hi, EReal.left_distrib_of_nonneg_of_ne_top (by norm_num) (by exact EReal.coe_ne_top 2), ih]

/-- The cell of a byte in a table of sixteen by sixteen. -/
theorem cell (a : ℕ → EReal) (c : Fin 8 → EReal) (x : EReal) :
    (∑ h : Fin 16, ∑ l : Fin 16, (if Bin c h.val l.val then x else 0) * a (h.val * 16 + l.val)) = x * a (code c) := by
  have e : ∀ h l : Fin 16, (if Bin c h.val l.val then x else 0) * a (h.val * 16 + l.val)
      = if h = ⟨hi c, hi_lt c⟩ then (if l = ⟨lo c, lo_lt c⟩ then x * a (code c) else 0) else 0 := fun h l => by
    by_cases hh : h = ⟨hi c, hi_lt c⟩
    · by_cases hl : l = ⟨lo c, lo_lt c⟩
      · have b : Bin c h.val l.val := by subst hh; subst hl; exact ⟨rfl, rfl⟩
        rw [if_pos b, if_pos hh, if_pos hl, code_eq]
        subst hh; subst hl
        show x * a (hi c * 16 + lo c) = _
        rw [Nat.add_comm, Nat.mul_comm]
      · have b : ¬ Bin c h.val l.val := fun b => hl (Fin.ext b.2.symm)
        rw [if_neg b, if_pos hh, if_neg hl, zero_mul]
    · have b : ¬ Bin c h.val l.val := fun b => hh (Fin.ext b.1.symm)
      rw [if_neg b, if_neg hh, zero_mul]
  simp only [e]
  simp

theorem cells_weigh (a : ℕ → EReal) (c : Fin 8 → EReal) (t : ℕ) :
    (∑ h : Fin 16, ∑ l : Fin 16, weigh c h.val l.val t * a (h.val * 16 + l.val)) = covered a c t := by
  induction t with
  | zero =>
    refine Finset.sum_eq_zero fun h _ => Finset.sum_eq_zero fun l _ => ?_
    exact zero_mul _
  | succ t ih =>
    show (∑ h : Fin 16, ∑ l : Fin 16, (weigh c h.val l.val t + if Bin (gst c t) h.val l.val then gsw (gst c t) else 0) * a (h.val * 16 + l.val))
      = covered a c t + a (code (gst c t)) * gsw (gst c t)
    rw [← ih, mul_comm, ← cell, ← Finset.sum_add_distrib]
    refine Finset.sum_congr rfl fun h _ => ?_
    rw [← Finset.sum_add_distrib]
    refine Finset.sum_congr rfl fun l _ => ?_
    refine EReal.right_distrib_of_nonneg (weigh_nonneg _ _ _ _) ?_
    split_ifs
    · exact gsw_nonneg _
    · exact le_refl _

/-- What a window adds to a weighted sum over the cells of histogram `k`. -/
def share (a : ℕ → EReal) (c d : Fin 8 → EReal) : Fin 3 → EReal := ![covered a c 8, a (code d), match8 c d 8 * a (code d)]

theorem cells_entry (a : ℕ → EReal) (c d : Fin 8 → EReal) {r : ℕ} (hr : r < 257) (k : Fin 3) :
    (∑ h : Fin 16, ∑ l : Fin 16, entry c d r h.val l.val k * a (h.val * 16 + l.val)) = share a c d k := by
  unfold entry share
  rw [if_pos hr]
  match k with
  | 0 => exact cells_weigh a c 8
  | 1 => exact (cell a d 1).trans (one_mul _)
  | 2 => exact cell a d _

/-- The weighted sum over the cells of the histogram of many windows. -/
theorem cells_sum {ι κ : Type} [Fintype ι] [Fintype κ] (a : ℕ → EReal) (c d : ι → κ → Fin 8 → EReal) (r : κ → ℕ) (hr : ∀ w, r w < 257) (k : Fin 3) :
    (∑ h : Fin 16, ∑ l : Fin 16, (∑ z, ∑ w, entry (c z w) (d z w) (r w) h.val l.val k) * a (h.val * 16 + l.val))
      = ∑ z, ∑ w, share a (c z w) (d z w) k := by
  have e : ∀ h l : Fin 16, (∑ z, ∑ w, entry (c z w) (d z w) (r w) h.val l.val k) * a (h.val * 16 + l.val)
      = ∑ z, ∑ w, entry (c z w) (d z w) (r w) h.val l.val k * a (h.val * 16 + l.val) := fun h l => by
    rw [sum_mul_nonneg _ _ (fun z => Finset.sum_nonneg fun w _ => entry_nonneg _ _ _ _ _ _)]
    exact Finset.sum_congr rfl fun z _ => sum_mul_nonneg _ _ (fun w => entry_nonneg _ _ _ _ _ _) _
  simp only [e]
  have f : ∀ z w, share a (c z w) (d z w) k = ∑ h : Fin 16, ∑ l : Fin 16, entry (c z w) (d z w) (r w) h.val l.val k * a (h.val * 16 + l.val) :=
    fun z w => (cells_entry a (c z w) (d z w) (hr w) k).symm
  simp only [f]
  calc _ = ∑ h : Fin 16, ∑ z, ∑ w, ∑ l : Fin 16, entry (c z w) (d z w) (r w) h.val l.val k * a (h.val * 16 + l.val) := by
        refine Finset.sum_congr rfl fun h _ => ?_
        rw [Finset.sum_comm]
        refine Finset.sum_congr rfl fun z _ => ?_
        rw [Finset.sum_comm]
    _ = _ := by
        rw [Finset.sum_comm]
        refine Finset.sum_congr rfl fun z _ => ?_
        rw [Finset.sum_comm]

/-- The table of the areas. -/
def areaOf (a : Fin 256 → EReal) (t : ℕ) : EReal := if h : t < 256 then a ⟨t, h⟩ else 0

theorem areaOf_lt (a : Fin 256 → EReal) {t : ℕ} (h : t < 256) : areaOf a t = a ⟨t, h⟩ := dif_pos h

/-- The sum over every window of an image of what it adds to the weighted sum of histogram `k`. -/
def shares (a : ℕ → EReal) (S U : Fin 16 → Fin 256 → Fin 256 → EReal) (k : Fin 3) : EReal :=
  ∑ z : Fin 15, ∑ w : Fin 66049, share a (win (S z.castSucc) (S z.succ) (w.val / 257) (w.val % 257))
    (win (U z.castSucc) (U z.succ) (w.val / 257) (w.val % 257)) k

/-- The loss of scores `S` and labels `U`. -/
def loss (a : ℕ → EReal) (S U : Fin 2 → Fin 16 → Fin 256 → Fin 256 → EReal) : EReal :=
  value (fun n => two * shares a (S n) (U n) 2) (fun n => shares a (S n) (U n) 0 + shares a (S n) (U n) 1)

end Cert.Dice

end
-- ==== Proof.KernelTail.lean ====
module

public import proofs.«01_k».proof.Proof.HostEdge
public import proofs.«01_k».proof.Proof.Score

/-! The kernel program's last step: the result out of the two calls' output arrays. -/

@[expose] public section

noncomputable section

namespace Cert.Dice.Tail

open Idealize.ShloMosaic Idealize.ShloMosaic.TcCoe Idealize.SL.Sem Cert.KernelIdeal Cert.KernelIdeal.Gen Cert.Dice.Main

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem main_out : W11 m ρ c (Proc.devRef .tc main_v3) = Main.result (V4 m ρ) c :=
  (W11_of_ne m ρ c main_v3 (by decide)).trans <| (W10_of m ρ c main_v3 (by decide)).trans <| (W9_of m ρ c main_v3 (by decide)).trans <|
    (W8_of m ρ c main_v3 (by decide)).trans <| (W7_of m ρ c main_v3 (by decide)).trans <| (W6_of m ρ c main_v3 (by decide)).trans <|
    (W5_arr m ρ c 4).trans (Main.final (V4 m ρ) c)

theorem edge_out : W11 m ρ c (Proc.devRef .tc main_v54) = Edge.result (V10 m ρ) c :=
  (W11_arr m ρ c 4).trans (Edge.final (V10 m ρ) c)

theorem area_out : W11 m ρ c (Proc.devRef .tc main_arg2) = area m c := W11_args m ρ c main_arg2 (by decide)

/-- A histogram: the counts of the two calls together. -/
def hist (n : Fin 2) (k : Fin 3) (h l : Fin 16) : EReal :=
  Main.result (V4 m ρ) c (ix4 n k h l) + Edge.result (V10 m ρ) c (ix4 n k h l)

/-- The result out of the histograms. -/
theorem out_hist (i : S_.Idx) : W12 m ρ c (Proc.devRef .tc main_v82) i
    = value (fun n => two * ∑ h : Fin 16, ∑ l : Fin 16, hist m ρ c n 2 h l * areaOf (fun t => area m c (ix1 t)) (h.val * 16 + l.val))
        (fun n => ∑ h : Fin 16, ∑ l : Fin 16, (hist m ρ c n 0 h l + hist m ρ c n 1 h l) * areaOf (fun t => area m c (ix1 t)) (h.val * 16 + l.val)) := by
  have e : ∀ h l : Fin 16, areaOf (fun t => area m c (ix1 t)) (h.val * 16 + l.val) = area m c (ix1 ⟨h.val * 16 + l.val, by omega⟩) :=
    fun h l => dif_pos (by omega)
  simp only [e]
  show StableHlo.after hostOps2 (W11 m ρ c) (Proc.devRef .tc main_v82) i = _
  after_reads_at
  rw [main_out, edge_out, area_out]
  rfl

variable (hp : ∀ n z, Pos (scores (pred m c) n z)) (hf : ∀ n z, Flag (marks (labels m c) n z))

include hp hf in
/-- A histogram is a sum over the windows. -/
theorem hist_apply (n : Fin 2) (k : Fin 3) (h l : Fin 16) :
    hist m ρ c n k h l = ∑ z : Fin 15, ∑ w : Fin 66049,
      entry (win (scores (pred m c) n z.castSucc) (scores (pred m c) n z.succ) (w.val / 257) (w.val % 257))
        (win (marks (labels m c) n z.castSucc) (marks (labels m c) n z.succ) (w.val / 257) (w.val % 257)) (w.val / 257) h.val l.val k := by
  unfold hist
  rw [Main.result_apply (V4 m ρ) c (Main.holds m ρ c hp hf) n k h l, Edge.result_apply (V10 m ρ) c (Edge.holds m ρ c hp hf) n k h l,
    ← Finset.sum_add_distrib]
  exact Finset.sum_congr rfl fun z _ => windows (fun r q => entry (win (scores (pred m c) n z.castSucc) (scores (pred m c) n z.succ) r q)
    (win (marks (labels m c) n z.castSucc) (marks (labels m c) n z.succ) r q) r h.val l.val k) (fun r q hr => entry_out _ _ _ _ hr q _ _ _)

include hp hf in
theorem hist_nonneg (n : Fin 2) (k : Fin 3) (h l : Fin 16) : 0 ≤ hist m ρ c n k h l := by
  rw [hist_apply m ρ c hp hf]
  exact Finset.sum_nonneg fun z _ => Finset.sum_nonneg fun w _ => entry_nonneg _ _ _ _ _ _

include hp hf in
theorem cells_hist (a : ℕ → EReal) (n : Fin 2) (k : Fin 3) :
    (∑ h : Fin 16, ∑ l : Fin 16, hist m ρ c n k h l * a (h.val * 16 + l.val))
      = shares a (scores (pred m c) n) (marks (labels m c) n) k := by
  simp only [hist_apply m ρ c hp hf]
  exact cells_sum a
    (fun (z : Fin 15) (w : Fin 66049) => win (scores (pred m c) n z.castSucc) (scores (pred m c) n z.succ) (w.val / 257) (w.val % 257))
    (fun (z : Fin 15) (w : Fin 66049) => win (marks (labels m c) n z.castSucc) (marks (labels m c) n z.succ) (w.val / 257) (w.val % 257))
    (fun w => w.val / 257) (fun w => by omega) k

include hp hf in
/-- The kernel program's result is the loss. -/
theorem out_eq (i : S_.Idx) : W12 m ρ c (Proc.devRef .tc main_v82) i
    = loss (areaOf fun t => area m c (ix1 t)) (scores (pred m c)) (marks (labels m c)) := by
  rw [out_hist]
  unfold loss
  refine congrArg₂ value (funext fun n => ?_) (funext fun n => ?_)
  · rw [cells_hist m ρ c hp hf]
  · rw [← cells_hist m ρ c hp hf, ← cells_hist m ρ c hp hf, ← Finset.sum_add_distrib]
    refine Finset.sum_congr rfl fun h _ => ?_
    rw [← Finset.sum_add_distrib]
    exact Finset.sum_congr rfl fun l _ => EReal.right_distrib_of_nonneg (hist_nonneg m ρ c hp hf _ _ _ _) (hist_nonneg m ρ c hp hf _ _ _ _)

end Cert.Dice.Tail

end
-- ==== Proof.KernelRun.lean ====
module

public import proofs.«01_k».proof.Proof.Gen.KernelIdeal.Frame

/-! The launch of the kernel program, keeping its result. -/

@[expose] public section

set_option maxRecDepth 16384

noncomputable section

namespace Cert.Dice.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The kernel program ends with its result as the last host step leaves it, and the arguments as launched. -/
theorem run : θ_run defs (onTc (τ := τ) (main (F := F))) ⟨m, fun _ => 0, ρ⟩ (fun r => (∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c)⟩), funext fun g => hz g (.inr (no_unscoped g.2))⟩)

end Cert.Dice.Launch

end
-- ==== Proof.RefStep.lean ====
module

public import proofs.«01_k».proof.Proof.Digits
public import proofs.«01_k».proof.Proof.Gen.ReferenceIdeal.Run

/-! One step of the reference's walk over the cubes, read at a window: the cube's byte, the weight of the step and the
corners it leaves. -/

@[expose] public section

noncomputable section

namespace Cert.Dice.Ref

open Idealize.ShloMosaic Idealize.ShloMosaic.TcCoe Idealize.SL.Sem Cert.ReferenceIdeal Cert.ReferenceIdeal.Gen

/-- Ones at the positive corners. -/
def flags (cp : FVec Ideal S2x15x8x66049 .f32) : IVec S2x15x8x66049 32 :=
  extui 32 (cmpf .ogt cp (broadcastInDim S2x15x8x66049 ![] bcast_S_S2x15x8x66049 (constant S_ .f32 0x00000000#32))) natLt_1_32

/-- The eight bits of a window as a byte. -/
def bytes (b : IVec S2x15x8x66049 32) : IVec S2x15x66049 32 :=
  addi (addi (addi (addi (addi (addi (addi (addi (broadcastInDim S2x15x66049 ![] bcast_S_S2x15x66049 (constantI S_ 32 0#32)) (Host.shli (shapeCast _ (extractStridedSlice S2x15x1x66049 ![0, 0, 0, 0] b slices_S2x15x8x66049_S2x15x1x66049_0_0_0_0) shapeCasts_S2x15x1x66049_S2x15x66049) (broadcastInDim S2x15x66049 ![] bcast_S_S2x15x66049 (constantI S_ 32 0#32)))) (Host.shli (shapeCast _ (extractStridedSlice S2x15x1x66049 ![0, 0, 1, 0] b slices_S2x15x8x66049_S2x15x1x66049_0_0_1_0) shapeCasts_S2x15x1x66049_S2x15x66049) (broadcastInDim S2x15x66049 ![] bcast_S_S2x15x66049 (constantI S_ 32 1#32)))) (Host.shli (shapeCast _ (extractStridedSlice S2x15x1x66049 ![0, 0, 2, 0] b slices_S2x15x8x66049_S2x15x1x66049_0_0_2_0) shapeCasts_S2x15x1x66049_S2x15x66049) (broadcastInDim S2x15x66049 ![] bcast_S_S2x15x66049 (constantI S_ 32 2#32)))) (Host.shli (shapeCast _ (extractStridedSlice S2x15x1x66049 ![0, 0, 3, 0] b slices_S2x15x8x66049_S2x15x1x66049_0_0_3_0) shapeCasts_S2x15x1x66049_S2x15x66049) (broadcastInDim S2x15x66049 ![] bcast_S_S2x15x66049 (constantI S_ 32 3#32)))) (Host.shli (shapeCast _ (extractStridedSlice S2x15x1x66049 ![0, 0, 4, 0] b slices_S2x15x8x66049_S2x15x1x66049_0_0_4_0) shapeCasts_S2x15x1x66049_S2x15x66049) (broadcastInDim S2x15x66049 ![] bcast_S_S2x15x66049 (constantI S_ 32 4#32)))) (Host.shli (shapeCast _ (extractStridedSlice S2x15x1x66049 ![0, 0, 5, 0] b slices_S2x15x8x66049_S2x15x1x66049_0_0_5_0) shapeCasts_S2x15x1x66049_S2x15x66049) (broadcastInDim S2x15x66049 ![] bcast_S_S2x15x66049 (constantI S_ 32 5#32)))) (Host.shli (shapeCast _ (extractStridedSlice S2x15x1x66049 ![0, 0, 6, 0] b slices_S2x15x8x66049_S2x15x1x66049_0_0_6_0) shapeCasts_S2x15x1x66049_S2x15x66049) (broadcastInDim S2x15x66049 ![] bcast_S_S2x15x66049 (constantI S_ 32 6#32)))) (Host.shli (shapeCast _ (extractStridedSlice S2x15x1x66049 ![0, 0, 7, 0] b slices_S2x15x8x66049_S2x15x1x66049_0_0_7_0) shapeCasts_S2x15x1x66049_S2x15x66049) (broadcastInDim S2x15x66049 ![] bcast_S_S2x15x66049 (constantI S_ 32 7#32)))

/-- The smallest positive corner of a window. -/
def least (cp : FVec Ideal S2x15x8x66049 .f32) : FVec Ideal S2x15x66049 .f32 :=
  Host.reduce FloatOps.minimumf (select (cmpf .ogt cp (broadcastInDim S2x15x8x66049 ![] bcast_S_S2x15x8x66049 (constant S_ .f32 0x00000000#32))) cp (broadcastInDim S2x15x8x66049 ![] bcast_S_S2x15x8x66049 (id (constant S_ .f32 0x7F800000#32)))) (constant S_ .f32 0x7F800000#32) reducesTo_S2x15x8x66049_S2x15x66049_d2 h_S_

/-- The weight of a step. -/
def pick (x : FVec Ideal S2x15x66049 .f32) : FVec Ideal S2x15x66049 .f32 :=
  select (cmpf .oeq (Host.absf x) (broadcastInDim S2x15x66049 ![] bcast_S_S2x15x66049 (constant S_ .f32 0x7F800000#32))) (broadcastInDim S2x15x66049 ![] bcast_S_S2x15x66049 (id (constant S_ .f32 0x00000000#32))) x

/-- A byte as a row number. -/
def wrapped (b : IVec S2x15x66049 32) : IVec S2x15x66049x1 32 :=
  broadcastInDim S2x15x66049x1 ![0, 1, 2] bcast_S2x15x66049_S2x15x66049x1_0_1_2 (select (cmpi .slt b (broadcastInDim S2x15x66049 ![] bcast_S_S2x15x66049 (constantI S_ 32 0#32))) (addi b (broadcastInDim S2x15x66049 ![] bcast_S_S2x15x66049 (constantI S_ 32 256#32))) b)

/-- The corners after a step. -/
def next (B : FVec Ideal S256x8 .f32) (cp : FVec Ideal S2x15x8x66049 .f32) (w : FVec Ideal S2x15x66049 .f32) (b : IVec S2x15x66049 32) :
    FVec Ideal S2x15x8x66049 .f32 :=
  subf cp (mulf (broadcastInDim S2x15x8x66049 ![0, 1, 2, 3] bcast_S2x15x1x66049_S2x15x8x66049_0_1_2_3 (broadcastInDim S2x15x1x66049 ![0, 1, 3] bcast_S2x15x66049_S2x15x1x66049_0_1_3 w)) (transpose S2x15x8x66049 [0, 1, 3, 2] (Host.gather gather_S256x8_S2x15x66049x1_S2x15x66049x8_3_0_n_n_0_3_18 B (wrapped b)) transposes_S2x15x66049x8_S2x15x8x66049_0_1_3_2))

/-- The area of a byte. -/
def areas (a : FVec Ideal S256 .f32) (b : IVec S2x15x66049 32) : FVec Ideal S2x15x66049 .f32 :=
  Host.gather gather_S256_S2x15x66049x1_S2x15x66049_n_0_n_n_0_3_1 a (wrapped b)

theorem flags_apply (cp : FVec Ideal S2x15x8x66049 .f32) (n : Fin 2) (z : Fin 15) (k : Fin 8) (w : Fin 66049) :
    flags cp (ix4 n z k w) = BitVec.ofNat 32 (bit (cp (ix4 n z k w))) := by
  unfold flags
  pointwise
  unfold bit
  by_cases h : 0 < cp (ix4 n z k w)
  · rw [if_pos h, decide_eq_true h]; rfl
  · rw [if_neg h, decide_eq_false h]; rfl

theorem shl_bit (k : BitVec 32) (d : ℕ) (hd : d ≤ 1) (e : ℕ) (h : IntOp.shli ArithUnit.host (1#32) k = BitVec.ofNat 32 e)
    (h0 : IntOp.shli ArithUnit.host (0#32) k = 0#32) : IntOp.shli ArithUnit.host (BitVec.ofNat 32 d) k = BitVec.ofNat 32 (e * d) := by
  interval_cases d
  · rw [Nat.mul_zero]; exact h0
  · rw [Nat.mul_one]; exact h

theorem addi_nat (a b : ℕ) : IntOp.addi (BitVec.ofNat 32 a) (BitVec.ofNat 32 b) = BitVec.ofNat 32 (a + b) := (BitVec.ofNat_add ..).symm

theorem bytes_apply (b : IVec S2x15x8x66049 32) (n : Fin 2) (z : Fin 15) (w : Fin 66049) (d : Fin 8 → ℕ) (hd : ∀ k, d k ≤ 1)
    (hb : ∀ k, b (ix4 n z k w) = BitVec.ofNat 32 (d k)) :
    bytes b (ix3 n z w) = BitVec.ofNat 32 (d 0 + 2 * d 1 + 4 * d 2 + 8 * d 3 + 16 * d 4 + 32 * d 5 + 64 * d 6 + 128 * d 7) := by
  unfold bytes
  pointwise
  simp only [hb]
  rw [shl_bit 0#32 (d 0) (hd 0) 1 (by decide) (by decide), shl_bit 1#32 (d 1) (hd 1) 2 (by decide) (by decide),
    shl_bit 2#32 (d 2) (hd 2) 4 (by decide) (by decide), shl_bit 3#32 (d 3) (hd 3) 8 (by decide) (by decide),
    shl_bit 4#32 (d 4) (hd 4) 16 (by decide) (by decide), shl_bit 5#32 (d 5) (hd 5) 32 (by decide) (by decide),
    shl_bit 6#32 (d 6) (hd 6) 64 (by decide) (by decide), shl_bit 7#32 (d 7) (hd 7) 128 (by decide) (by decide)]
  simp only [addi_nat, Nat.zero_add, Nat.one_mul]

theorem pos_inf : (Ideal.ofBits .f32 0x7F800000#32) = (⊤ : EReal) := by
  simp [Ideal.ofBits, Ideal.ieee]

theorem zero_word : (Ideal.ofBits .f32 0x00000000#32) = (0 : EReal) := by
  simp [Ideal.ofBits, Ideal.ieee]

theorem least_apply (cp : FVec Ideal S2x15x8x66049 .f32) (n : Fin 2) (z : Fin 15) (w : Fin 66049) :
    least cp (ix3 n z w) = gmin (fun k => cp (ix4 n z k w)) := by
  unfold least
  pointwise
  rw [pos_inf]
  have e : id (constant (F := Ideal) S_ FTy.f32 2139095040#32) ix0 = (⊤ : EReal) := pos_inf
  rw [e]
  rfl

theorem pick_apply (x : FVec Ideal S2x15x66049 .f32) (n : Fin 2) (z : Fin 15) (w : Fin 66049) :
    pick x (ix3 n z w) = if max (x (ix3 n z w)) (-x (ix3 n z w)) = ⊤ then 0 else x (ix3 n z w) := by
  unfold pick
  pointwise
  have e : id (constant (F := Ideal) S_ FTy.f32 0#32) ix0 = (0 : EReal) := zero_word
  rw [pos_inf, e]
  rfl

theorem wrap_small : ∀ t : Fin 256, Scalar.select (IntOp.cmpi CmpIPredicate.slt (BitVec.ofNat 32 t.val) 0#32)
    (IntOp.addi (BitVec.ofNat 32 t.val) 256#32) (BitVec.ofNat 32 t.val) = BitVec.ofNat 32 t.val := by
  decide +kernel

theorem wrapped_apply (b : IVec S2x15x66049 32) (n : Fin 2) (z : Fin 15) (w : Fin 66049) (t : ℕ) (ht : t < 256)
    (hb : b (ix3 n z w) = BitVec.ofNat 32 t) :
    wrapped b (ix4 n z w (0 : Fin 1)) = BitVec.ofNat 32 t := by
  unfold wrapped
  pointwise
  rw [hb]
  exact wrap_small ⟨t, ht⟩

/-- A row taken by number. -/
theorem row_apply (B : FVec Ideal S256x8 .f32) (i : IVec S2x15x66049x1 32) (n : Fin 2) (z : Fin 15) (w : Fin 66049) (k : Fin 8) (t : ℕ) (ht : t < 256)
    (hi : i (ix4 n z w (0 : Fin 1)) = BitVec.ofNat 32 t) :
    Host.gather gather_S256x8_S2x15x66049x1_S2x15x66049x8_3_0_n_n_0_3_18 B i (ix4 n z w k) = B (ix2 ⟨t, ht⟩ k) := by
  unfold Host.gather
  congr 1
  funext a
  refine Fin.ext ?_
  show gather_S256x8_S2x15x66049x1_S2x15x66049x8_3_0_n_n_0_3_18.start (ix4 n z w k) i a
    + gather_S256x8_S2x15x66049x1_S2x15x66049x8_3_0_n_n_0_3_18.batchCoord (ix4 n z w k) a
    + gather_S256x8_S2x15x66049x1_S2x15x66049x8_3_0_n_n_0_3_18.offCoord (ix4 n z w k) a = _
  have e : gather_S256x8_S2x15x66049x1_S2x15x66049x8_3_0_n_n_0_3_18.siIdx (ix4 n z w k) ⟨0, by decide⟩ = ix4 n z w (0 : Fin 1) := by
    funext b
    match b with
    | ⟨0, _⟩ => rfl
    | ⟨1, _⟩ => rfl
    | ⟨2, _⟩ => rfl
    | ⟨3, _⟩ => rfl
  match a with
  | ⟨0, _⟩ =>
    show min (i (gather_S256x8_S2x15x66049x1_S2x15x66049x8_3_0_n_n_0_3_18.siIdx (ix4 n z w k) ⟨0, by decide⟩)).toInt.toNat 255 + 0 + 0 = t
    rw [e, hi, toInt_small (by omega)]
    omega
  | ⟨1, _⟩ =>
    show 0 + 0 + k.val = k.val
    omega

theorem entry_apply (B : FVec Ideal S256 .f32) (i : IVec S2x15x66049x1 32) (n : Fin 2) (z : Fin 15) (w : Fin 66049) (t : ℕ) (ht : t < 256)
    (hi : i (ix4 n z w (0 : Fin 1)) = BitVec.ofNat 32 t) :
    Host.gather gather_S256_S2x15x66049x1_S2x15x66049_n_0_n_n_0_3_1 B i (ix3 n z w) = B (ix1 ⟨t, ht⟩) := by
  unfold Host.gather
  congr 1
  funext a
  refine Fin.ext ?_
  show gather_S256_S2x15x66049x1_S2x15x66049_n_0_n_n_0_3_1.start (ix3 n z w) i a
    + gather_S256_S2x15x66049x1_S2x15x66049_n_0_n_n_0_3_1.batchCoord (ix3 n z w) a
    + gather_S256_S2x15x66049x1_S2x15x66049_n_0_n_n_0_3_1.offCoord (ix3 n z w) a = _
  have e : gather_S256_S2x15x66049x1_S2x15x66049_n_0_n_n_0_3_1.siIdx (ix3 n z w) ⟨0, by decide⟩ = ix4 n z w (0 : Fin 1) := by
    funext b
    match b with
    | ⟨0, _⟩ => rfl
    | ⟨1, _⟩ => rfl
    | ⟨2, _⟩ => rfl
    | ⟨3, _⟩ => rfl
  match a with
  | ⟨0, _⟩ =>
    show min (i (gather_S256_S2x15x66049x1_S2x15x66049_n_0_n_n_0_3_1.siIdx (ix3 n z w) ⟨0, by decide⟩)).toInt.toNat 255 + 0 + 0 = t
    rw [e, hi, toInt_small (by omega)]
    omega

theorem next_apply (B : FVec Ideal S256x8 .f32) (cp : FVec Ideal S2x15x8x66049 .f32) (s : FVec Ideal S2x15x66049 .f32) (b : IVec S2x15x66049 32)
    (n : Fin 2) (z : Fin 15) (k : Fin 8) (w : Fin 66049) (t : ℕ) (ht : t < 256) (hb : b (ix3 n z w) = BitVec.ofNat 32 t) :
    next B cp s b (ix4 n z k w) = cp (ix4 n z k w) - s (ix3 n z w) * B (ix2 ⟨t, ht⟩ k) := by
  unfold next
  pointwise
  rw [row_apply B (wrapped b) n z w k t ht (wrapped_apply b n z w t ht hb)]

theorem areas_apply (a : FVec Ideal S256 .f32) (b : IVec S2x15x66049 32)
    (n : Fin 2) (z : Fin 15) (w : Fin 66049) (t : ℕ) (ht : t < 256) (hb : b (ix3 n z w) = BitVec.ofNat 32 t) :
    areas a b (ix3 n z w) = a (ix1 ⟨t, ht⟩) := by
  unfold areas
  exact entry_apply a (wrapped b) n z w t ht (wrapped_apply b n z w t ht hb)

/-- The bits of every byte. -/
def table : FVec Ideal S256x8 .f32 :=
  sitofp .f32 (andi (Host.shrsi (broadcastInDim S256x8 ![0, 1] bcast_S256x1_S256x8_0_1 (broadcastInDim S256x1 ![0] bcast_S256_S256x1_0 (iotaInDim S256 32 0))) (broadcastInDim S256x8 ![0, 1] bcast_S1x8_S256x8_0_1 (broadcastInDim S1x8 ![1] bcast_S8_S1x8_1 (iotaInDim S8 32 0)))) (broadcastInDim S256x8 ![] bcast_S_S256x8 (constantI S_ 32 1#32)))

theorem table_bits : ∀ (t : Fin 256) (k : Fin 8), IntOp.andi (IntOp.shrsi ArithUnit.host (BitVec.ofNat 32 t.val) (BitVec.ofNat 32 k.val)) 1#32
    = BitVec.ofNat 32 (t.val / 2 ^ k.val % 2) := by
  decide +kernel

theorem table_apply (t : Fin 256) (k : Fin 8) : table (ix2 t k) = ((t.val / 2 ^ k.val % 2 : ℕ) : ℝ) := by
  unfold table
  pointwise
  rw [table_bits]
  exact sitofp_small _ (lt_of_lt_of_le (Nat.mod_lt _ (by decide)) (by decide))

theorem code_sum (c : Fin 8 → EReal) : code c = bit (c 0) + 2 * bit (c 1) + 4 * bit (c 2) + 8 * bit (c 3) + 16 * bit (c 4) + 32 * bit (c 5)
    + 64 * bit (c 6) + 128 * bit (c 7) := by
  rw [code_eq]; unfold lo hi; omega

theorem code_digit (c : Fin 8 → EReal) (k : Fin 8) : code c / 2 ^ k.val % 2 = bit (c k) := by
  have h := fun k => bit_le (c k)
  have := h 0; have := h 1; have := h 2; have := h 3; have := h 4; have := h 5; have := h 6; have := h 7
  rw [code_sum]
  match k with
  | 0 => show _ / 1 % 2 = _; omega
  | 1 => show _ / 2 % 2 = _; omega
  | 2 => show _ / 4 % 2 = _; omega
  | 3 => show _ / 8 % 2 = _; omega
  | 4 => show _ / 16 % 2 = _; omega
  | 5 => show _ / 32 % 2 = _; omega
  | 6 => show _ / 64 % 2 = _; omega
  | 7 => show _ / 128 % 2 = _; omega

/-! ## One step, from the corners before it -/

section Step
variable {cp : FVec Ideal S2x15x8x66049 .f32} {n : Fin 2} {z : Fin 15} {w : Fin 66049} {c : Fin 8 → EReal}

theorem step_byte (h : ∀ k, cp (ix4 n z k w) = c k) : bytes (flags cp) (ix3 n z w) = BitVec.ofNat 32 (code c) := by
  rw [code_sum]
  refine bytes_apply _ n z w (fun k => bit (c k)) (fun k => bit_le _) fun k => ?_
  rw [flags_apply, h]

theorem step_weight (h : ∀ k, cp (ix4 n z k w) = c k) : pick (least cp) (ix3 n z w) = gsw c := by
  rw [pick_apply, least_apply, ← gsw_abs]
  have e : (fun k => cp (ix4 n z k w)) = c := funext h
  rw [e]

theorem step_next (h : ∀ k, cp (ix4 n z k w) = c k) (k : Fin 8) :
    next table cp (pick (least cp)) (bytes (flags cp)) (ix4 n z k w) = gnext c k := by
  rw [next_apply _ _ _ _ n z k w (code c) (code_lt c) (step_byte h), step_weight h, h, table_apply]
  show _ - _ * (((code c / 2 ^ k.val % 2 : ℕ) : ℝ) : EReal) = _
  rw [code_digit, ← nz_eq_bit]
  rfl

end Step

end Cert.Dice.Ref

end
-- ==== Proof.RefCorners.lean ====
module

public import proofs.«01_k».proof.Proof.RefStep
public import proofs.«01_k».proof.Proof.HostMain

/-! The reference's corners: the eight entries of every window of every pair of slices, scores and labels. -/

@[expose] public section

noncomputable section

namespace Cert.Dice.Ref

open Idealize.ShloMosaic Idealize.ShloMosaic.TcCoe Idealize.SL.Sem Cert.ReferenceIdeal Cert.ReferenceIdeal.Gen

/-- The scores. -/
def sig (x : FVec Ideal S2x16x256x256 .f32) : FVec Ideal S2x16x256x256 .f32 :=
  Host.divf (broadcastInDim S2x16x256x256 ![] bcast_S_S2x16x256x256 (constant S_ .f32 0x3F800000#32)) (addf (broadcastInDim S2x16x256x256 ![] bcast_S_S2x16x256x256 (constant S_ .f32 0x3F800000#32)) (Host.exp (Host.negf x)))

/-- The padded pairs of slices. -/
def pairs (x : FVec Ideal S2x16x256x256 .f32) : FVec Ideal S2x15x2x258x258 .f32 :=
  pad S2x15x2x258x258 ![0, 0, 0, 1, 1] ![0, 0, 0, 1, 1] ![0, 0, 0, 0, 0] (concatenate S2x15x2x256x256 2 [⟨S2x15x1x256x256, (broadcastInDim S2x15x1x256x256 ![0, 1, 3, 4] bcast_S2x15x256x256_S2x15x1x256x256_0_1_3_4 (extractStridedSlice S2x15x256x256 ![0, 0, 0, 0] x slices_S2x16x256x256_S2x15x256x256_0_0_0_0))⟩, ⟨S2x15x1x256x256, (broadcastInDim S2x15x1x256x256 ![0, 1, 3, 4] bcast_S2x15x256x256_S2x15x1x256x256_0_1_3_4 (extractStridedSlice S2x15x256x256 ![0, 1, 0, 0] x slices_S2x16x256x256_S2x15x256x256_0_1_0_0))⟩] concatenates_S2x15x1x256x256_S2x15x1x256x256_S2x15x2x256x256_d2) (sitofp .f32 (constantI S_ 32 0#32)) pads_S2x15x2x256x256_S2x15x2x258x258_000_000_000_110_110 h_S_

/-- The corners of every window. -/
def stack (x : FVec Ideal S2x15x2x258x258 .f32) : FVec Ideal S2x15x8x66049 .f32 :=
  (concatenate S2x15x8x66049 2 [⟨S2x15x1x66049, ((broadcastInDim S2x15x1x66049 ![0, 1, 3] bcast_S2x15x66049_S2x15x1x66049_0_1_3 (shapeCast _ (shapeCast _ (extractStridedSlice S2x15x1x257x257 ![0, 0, 0, 0, 0] x slices_S2x15x2x258x258_S2x15x1x257x257_0_0_0_0_0) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 0, 0, 1] x slices_S2x15x2x258x258_S2x15x1x257x257_0_0_0_0_1) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 0, 1, 0] x slices_S2x15x2x258x258_S2x15x1x257x257_0_0_0_1_0) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 0, 1, 1] x slices_S2x15x2x258x258_S2x15x1x257x257_0_0_0_1_1) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 1, 0, 0] x slices_S2x15x2x258x258_S2x15x1x257x257_0_0_1_0_0) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 1, 0, 1] x slices_S2x15x2x258x258_S2x15x1x257x257_0_0_1_0_1) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 1, 1, 0] x slices_S2x15x2x258x258_S2x15x1x257x257_0_0_1_1_0) shapeCasts_S2x15x1x257x257_S2x15x257x257) shapeCasts_S2x15x257x257_S2x15x66049)) : (⟨S2x15x1x66049, .f32⟩ : BufTy).Contents (Elt Ideal))⟩, ⟨S2x15x1x66049, ((broadcastInDim S2x15x1x66049 ![0, 1, 3] bcast_S2x15x66049_S2x15x1x66049_0_1_3 (shapeCast _ (shapeCast _ (extractStridedSlice S2x15x1x257x257 ![0, 0, 1, 1, 1] x slices_S2x15x2x258x258_S2x15x1x257x257_0_0_1_1_1) shapeCasts_S2x15x1x257x257_S2x15x257x257) shapeCasts_S2x15x257x257_S2x15x66049)) : (⟨S2x15x1x66049, .f32⟩ : BufTy).Contents (Elt Ideal))⟩] concatenates_S2x15x1x66049_S2x15x1x66049_S2x15x1x66049_S2x15x1x66049_S2x15x1x66049_S2x15x1x66049_S2x15x1x66049_S2x15x1x66049_S2x15x8x66049_d2 : (⟨S2x15x8x66049, .f32⟩ : BufTy).Contents (Elt Ideal))

/-- The byte of eight corners that are floats. -/
def labelBytes (b : FVec Ideal S2x15x8x66049 .f32) : IVec S2x15x66049 32 :=
  addi (addi (addi (addi (addi (addi (addi (addi (broadcastInDim S2x15x66049 ![] bcast_S_S2x15x66049 (constantI S_ 32 0#32)) (Host.shli (fptosi 32 (shapeCast _ (extractStridedSlice S2x15x1x66049 ![0, 0, 0, 0] b slices_S2x15x8x66049_S2x15x1x66049_0_0_0_0) shapeCasts_S2x15x1x66049_S2x15x66049)) (broadcastInDim S2x15x66049 ![] bcast_S_S2x15x66049 (constantI S_ 32 0#32)))) (Host.shli (fptosi 32 (shapeCast _ (extractStridedSlice S2x15x1x66049 ![0, 0, 1, 0] b slices_S2x15x8x66049_S2x15x1x66049_0_0_1_0) shapeCasts_S2x15x1x66049_S2x15x66049)) (broadcastInDim S2x15x66049 ![] bcast_S_S2x15x66049 (constantI S_ 32 1#32)))) (Host.shli (fptosi 32 (shapeCast _ (extractStridedSlice S2x15x1x66049 ![0, 0, 2, 0] b slices_S2x15x8x66049_S2x15x1x66049_0_0_2_0) shapeCasts_S2x15x1x66049_S2x15x66049)) (broadcastInDim S2x15x66049 ![] bcast_S_S2x15x66049 (constantI S_ 32 2#32)))) (Host.shli (fptosi 32 (shapeCast _ (extractStridedSlice S2x15x1x66049 ![0, 0, 3, 0] b slices_S2x15x8x66049_S2x15x1x66049_0_0_3_0) shapeCasts_S2x15x1x66049_S2x15x66049)) (broadcastInDim S2x15x66049 ![] bcast_S_S2x15x66049 (constantI S_ 32 3#32)))) (Host.shli (fptosi 32 (shapeCast _ (extractStridedSlice S2x15x1x66049 ![0, 0, 4, 0] b slices_S2x15x8x66049_S2x15x1x66049_0_0_4_0) shapeCasts_S2x15x1x66049_S2x15x66049)) (broadcastInDim S2x15x66049 ![] bcast_S_S2x15x66049 (constantI S_ 32 4#32)))) (Host.shli (fptosi 32 (shapeCast _ (extractStridedSlice S2x15x1x66049 ![0, 0, 5, 0] b slices_S2x15x8x66049_S2x15x1x66049_0_0_5_0) shapeCasts_S2x15x1x66049_S2x15x66049)) (broadcastInDim S2x15x66049 ![] bcast_S_S2x15x66049 (constantI S_ 32 5#32)))) (Host.shli (fptosi 32 (shapeCast _ (extractStridedSlice S2x15x1x66049 ![0, 0, 6, 0] b slices_S2x15x8x66049_S2x15x1x66049_0_0_6_0) shapeCasts_S2x15x1x66049_S2x15x66049)) (broadcastInDim S2x15x66049 ![] bcast_S_S2x15x66049 (constantI S_ 32 6#32)))) (Host.shli (fptosi 32 (shapeCast _ (extractStridedSlice S2x15x1x66049 ![0, 0, 7, 0] b slices_S2x15x8x66049_S2x15x1x66049_0_0_7_0) shapeCasts_S2x15x1x66049_S2x15x66049)) (broadcastInDim S2x15x66049 ![] bcast_S_S2x15x66049 (constantI S_ 32 7#32)))

theorem labelBytes_eq (b : FVec Ideal S2x15x8x66049 .f32) : labelBytes b = bytes (fptosi 32 b) := rfl

theorem sig_apply (x : FVec Ideal S2x16x256x256 .f32) (n : Fin 2) (z : Fin 16) (a b : Fin 256) :
    sig x (ix4 n z a b) = Main.scores x n z a b := by
  unfold sig Main.scores
  pointwise
  rfl

/-- A slice of an array. -/
def slice (x : FVec Ideal S2x16x256x256 .f32) (n : Fin 2) (z : Fin 16) (a b : Fin 256) : EReal := x (ix4 n z a b)

theorem zero_num : (FloatOps.sitofp (F := Ideal) .f32 0#32) = (0 : EReal) := by
  rw [show (0#32) = BitVec.ofNat 32 0 from rfl, sitofp_small _ (by decide)]
  simp

theorem one_bit (v : EReal) (h : v = 0 ∨ v = 1) : Ideal.fptosi 32 v = BitVec.ofNat 32 (bit v) := by
  unfold bit
  rcases h with rfl | rfl
  · rw [if_neg (lt_irrefl _)]
    show BitVec.ofInt 32 (Ideal.toIntClamped _ _ ((0 : ℝ) : EReal)) = _
    rw [Ideal.toIntClamped_coe]; norm_num
  · rw [if_pos (by norm_num)]
    show BitVec.ofInt 32 (Ideal.toIntClamped _ _ ((1 : ℝ) : EReal)) = _
    rw [Ideal.toIntClamped_coe]; norm_num

theorem dite_same {α β : Type} {P Q : Prop} [Decidable P] [Decidable Q] (φ : β → α) (hpq : P ↔ Q) {f : P → α} {g : Q → β} {a : α}
    {b : β} (hf : ∀ p q, f p = φ (g q)) (hab : a = φ b) : (if h : P then f h else a) = φ (if h : Q then g h else b) := by
  by_cases h : P
  · rw [dif_pos h, dif_pos (hpq.1 h)]
    exact hf _ _
  · rw [dif_neg h, dif_neg (fun q => h (hpq.2 q))]
    exact hab

theorem pairs0 (x : FVec Ideal S2x16x256x256 .f32) (n : Fin 2) (z : Fin 15) (a b : Fin 258) :
    pairs x (ix5 n z 0 a b) = img (slice x n z.castSucc) a.val b.val := by
  unfold pairs
  pointwise
  unfold img slice
  exact dite_same id (by omega) (fun _ _ => rfl) zero_num

theorem pairs1 (x : FVec Ideal S2x16x256x256 .f32) (n : Fin 2) (z : Fin 15) (a b : Fin 258) :
    pairs x (ix5 n z 1 a b) = img (slice x n z.succ) a.val b.val := by
  unfold pairs
  pointwise
  unfold img slice
  exact dite_same id (by omega) (fun _ _ => congrArg (fun t => x (ix4 n t _ _)) (Fin.ext (Nat.add_comm 1 z.val))) zero_num

theorem stack0 (x : FVec Ideal S2x15x2x258x258 .f32) (n : Fin 2) (z : Fin 15) (w : Fin 66049) :
    stack x (ix4 n z 0 w) = x (ix5 n z 0 ⟨w.val / 257, by omega⟩ ⟨w.val % 257, by omega⟩) := by
  unfold stack
  pointwise

theorem stack1 (x : FVec Ideal S2x15x2x258x258 .f32) (n : Fin 2) (z : Fin 15) (w : Fin 66049) :
    stack x (ix4 n z 1 w) = x (ix5 n z 0 ⟨w.val / 257, by omega⟩ ⟨1 + w.val % 257, by omega⟩) := by
  unfold stack
  pointwise

theorem stack2 (x : FVec Ideal S2x15x2x258x258 .f32) (n : Fin 2) (z : Fin 15) (w : Fin 66049) :
    stack x (ix4 n z 2 w) = x (ix5 n z 0 ⟨1 + w.val / 257, by omega⟩ ⟨w.val % 257, by omega⟩) := by
  unfold stack
  pointwise

theorem stack3 (x : FVec Ideal S2x15x2x258x258 .f32) (n : Fin 2) (z : Fin 15) (w : Fin 66049) :
    stack x (ix4 n z 3 w) = x (ix5 n z 0 ⟨1 + w.val / 257, by omega⟩ ⟨1 + w.val % 257, by omega⟩) := by
  unfold stack
  pointwise

theorem stack4 (x : FVec Ideal S2x15x2x258x258 .f32) (n : Fin 2) (z : Fin 15) (w : Fin 66049) :
    stack x (ix4 n z 4 w) = x (ix5 n z 1 ⟨w.val / 257, by omega⟩ ⟨w.val % 257, by omega⟩) := by
  unfold stack
  pointwise

theorem stack5 (x : FVec Ideal S2x15x2x258x258 .f32) (n : Fin 2) (z : Fin 15) (w : Fin 66049) :
    stack x (ix4 n z 5 w) = x (ix5 n z 1 ⟨w.val / 257, by omega⟩ ⟨1 + w.val % 257, by omega⟩) := by
  unfold stack
  pointwise

theorem stack6 (x : FVec Ideal S2x15x2x258x258 .f32) (n : Fin 2) (z : Fin 15) (w : Fin 66049) :
    stack x (ix4 n z 6 w) = x (ix5 n z 1 ⟨1 + w.val / 257, by omega⟩ ⟨w.val % 257, by omega⟩) := by
  unfold stack
  pointwise

theorem stack7 (x : FVec Ideal S2x15x2x258x258 .f32) (n : Fin 2) (z : Fin 15) (w : Fin 66049) :
    stack x (ix4 n z 7 w) = x (ix5 n z 1 ⟨1 + w.val / 257, by omega⟩ ⟨1 + w.val % 257, by omega⟩) := by
  unfold stack
  pointwise

/-- The corners of a window of the scores. -/
theorem corners_apply (x : FVec Ideal S2x16x256x256 .f32) (n : Fin 2) (z : Fin 15) (w : Fin 66049) (k : Fin 8) :
    stack (pairs x) (ix4 n z k w) = win (slice x n z.castSucc) (slice x n z.succ) (w.val / 257) (w.val % 257) k := by
  match k with
  | 0 =>
    rw [stack0, pairs0]
    show img _ (w.val / 257) (w.val % 257) = _
    rfl
  | 1 =>
    rw [stack1, pairs0]
    show img _ (w.val / 257) (1 + w.val % 257) = _
    rw [Nat.add_comm 1 (w.val % 257)]
    rfl
  | 2 =>
    rw [stack2, pairs0]
    show img _ (1 + w.val / 257) (w.val % 257) = _
    rw [Nat.add_comm 1 (w.val / 257)]
    rfl
  | 3 =>
    rw [stack3, pairs0]
    show img _ (1 + w.val / 257) (1 + w.val % 257) = _
    rw [Nat.add_comm 1 (w.val / 257)]
    rw [Nat.add_comm 1 (w.val % 257)]
    rfl
  | 4 =>
    rw [stack4, pairs1]
    show img _ (w.val / 257) (w.val % 257) = _
    rfl
  | 5 =>
    rw [stack5, pairs1]
    show img _ (w.val / 257) (1 + w.val % 257) = _
    rw [Nat.add_comm 1 (w.val % 257)]
    rfl
  | 6 =>
    rw [stack6, pairs1]
    show img _ (1 + w.val / 257) (w.val % 257) = _
    rw [Nat.add_comm 1 (w.val / 257)]
    rfl
  | 7 =>
    rw [stack7, pairs1]
    show img _ (1 + w.val / 257) (1 + w.val % 257) = _
    rw [Nat.add_comm 1 (w.val / 257)]
    rw [Nat.add_comm 1 (w.val % 257)]
    rfl

/-- The byte of a window of the labels. -/
theorem label_byte (y : IVec S2x16x256x256 32) (hf : ∀ n z, Flag (Main.marks y n z)) (n : Fin 2) (z : Fin 15) (w : Fin 66049) :
    labelBytes (stack (pairs (sitofp .f32 y))) (ix3 n z w)
      = BitVec.ofNat 32 (code (win (Main.marks y n z.castSucc) (Main.marks y n z.succ) (w.val / 257) (w.val % 257))) := by
  rw [code_sum, labelBytes_eq]
  refine bytes_apply _ n z w (fun k => bit (win (Main.marks y n z.castSucc) (Main.marks y n z.succ) (w.val / 257) (w.val % 257) k))
    (fun k => bit_le _) fun k => ?_
  refine Eq.trans ?_ (one_bit _ (win_flag (hf n _) (hf n _) _ _ k))
  exact congrArg (Ideal.fptosi 32) (corners_apply (sitofp .f32 y) n z w k)

/-- A window of the scores. -/
theorem score_corners (x : FVec Ideal S2x16x256x256 .f32) (n : Fin 2) (z : Fin 15) (w : Fin 66049) (k : Fin 8) :
    stack (pairs (sig x)) (ix4 n z k w) = win (Main.scores x n z.castSucc) (Main.scores x n z.succ) (w.val / 257) (w.val % 257) k := by
  rw [corners_apply]
  have e : ∀ z : Fin 16, slice (sig x) n z = Main.scores x n z := fun z => funext fun a => funext fun b => sig_apply x n z a b
  rw [e, e]

end Cert.Dice.Ref

end
-- ==== Proof.RefValue.lean ====
module

public import proofs.«01_k».proof.Proof.RefCorners
public import proofs.«01_k».proof.Proof.Score

/-! The reference's results of the nine steps at a window, and its value. -/

@[expose] public section

noncomputable section

namespace Cert.Dice.Ref

open Idealize.ShloMosaic Idealize.ShloMosaic.TcCoe Idealize.SL.Sem Cert.ReferenceIdeal Cert.ReferenceIdeal.Gen Cert.ReferenceIdeal.Value

/-- The corners after `t` steps. -/
def chain (cp : FVec Ideal S2x15x8x66049 .f32) : ℕ → FVec Ideal S2x15x8x66049 .f32
  | 0 => cp
  | t + 1 => next table (chain cp t) (pick (least (chain cp t))) (bytes (flags (chain cp t)))

def byteAt (cp : FVec Ideal S2x15x8x66049 .f32) (t : ℕ) : IVec S2x15x66049 32 := bytes (flags (chain cp t))
def weightAt (cp : FVec Ideal S2x15x8x66049 .f32) (t : ℕ) : FVec Ideal S2x15x66049 .f32 := pick (least (chain cp t))

theorem chain_apply (cp : FVec Ideal S2x15x8x66049 .f32) {n : Fin 2} {z : Fin 15} {w : Fin 66049} {c : Fin 8 → EReal}
    (h : ∀ k, cp (ix4 n z k w) = c k) (t : ℕ) (k : Fin 8) : chain cp t (ix4 n z k w) = gst c t k := by
  induction t generalizing k with
  | zero => exact h k
  | succ t ih => exact step_next ih k

theorem byteAt_apply (cp : FVec Ideal S2x15x8x66049 .f32) {n : Fin 2} {z : Fin 15} {w : Fin 66049} {c : Fin 8 → EReal}
    (h : ∀ k, cp (ix4 n z k w) = c k) (t : ℕ) : byteAt cp t (ix3 n z w) = BitVec.ofNat 32 (code (gst c t)) :=
  step_byte (chain_apply cp h t)

theorem weightAt_apply (cp : FVec Ideal S2x15x8x66049 .f32) {n : Fin 2} {z : Fin 15} {w : Fin 66049} {c : Fin 8 → EReal}
    (h : ∀ k, cp (ix4 n z k w) = c k) (t : ℕ) : weightAt cp t (ix3 n z w) = gsw (gst c t) :=
  step_weight (chain_apply cp h t)

/-- The sum over the steps of the weights where the byte is the label's. -/
def agree (b : ℕ → IVec S2x15x66049 32) (l : IVec S2x15x66049 32) (s : ℕ → FVec Ideal S2x15x66049 .f32) : FVec Ideal S2x15x66049 .f32 :=
  addf (addf (addf (addf (addf (addf (addf (addf (addf (broadcastInDim S2x15x66049 ![] bcast_S_S2x15x66049 (constant S_ .f32 0x00000000#32)) (mulf (uitofp .f32 (cmpi .eq (b 0) l)) (s 0))) (mulf (uitofp .f32 (cmpi .eq (b 1) l)) (s 1))) (mulf (uitofp .f32 (cmpi .eq (b 2) l)) (s 2))) (mulf (uitofp .f32 (cmpi .eq (b 3) l)) (s 3))) (mulf (uitofp .f32 (cmpi .eq (b 4) l)) (s 4))) (mulf (uitofp .f32 (cmpi .eq (b 5) l)) (s 5))) (mulf (uitofp .f32 (cmpi .eq (b 6) l)) (s 6))) (mulf (uitofp .f32 (cmpi .eq (b 7) l)) (s 7))) (mulf (uitofp .f32 (cmpi .eq (b 8) l)) (s 8))

/-- The sum over the steps of the weights times the areas. -/
def total (b : ℕ → IVec S2x15x66049 32) (a : FVec Ideal S256 .f32) (s : ℕ → FVec Ideal S2x15x66049 .f32) : FVec Ideal S2x15x66049 .f32 :=
  addf (addf (addf (addf (addf (addf (addf (addf (addf (broadcastInDim S2x15x66049 ![] bcast_S_S2x15x66049 (constant S_ .f32 0x00000000#32)) (mulf (areas a (b 0)) (s 0))) (mulf (areas a (b 1)) (s 1))) (mulf (areas a (b 2)) (s 2))) (mulf (areas a (b 3)) (s 3))) (mulf (areas a (b 4)) (s 4))) (mulf (areas a (b 5)) (s 5))) (mulf (areas a (b 6)) (s 6))) (mulf (areas a (b 7)) (s 7))) (mulf (areas a (b 8)) (s 8))

/-- The value from the three arrays over the windows. -/
def answer (P A G : FVec Ideal S2x15x66049 .f32) : FVec Ideal S_ .f32 :=
  Host.divf (Host.reduceAdd (subf (broadcastInDim S2 ![] bcast_S_S2 (constant S_ .f32 0x3F800000#32)) (Host.divf (addf (Host.reduceAdd (mulf (broadcastInDim S2x15 ![] bcast_S_S2x15 (constant S_ .f32 0x40000000#32)) (Host.reduceAdd (mulf P A) (constant S_ .f32 0x00000000#32) reducesTo_S2x15x66049_S2x15_d2 h_S_)) (constant S_ .f32 0x00000000#32) reducesTo_S2x15_S2_d1 h_S_) (broadcastInDim S2 ![] bcast_S_S2 (constant S_ .f32 0x3A83126F#32))) (addf (Host.reduceAdd (addf (Host.reduceAdd A (constant S_ .f32 0x00000000#32) reducesTo_S2x15x66049_S2x15_d2 h_S_) (Host.reduceAdd G (constant S_ .f32 0x00000000#32) reducesTo_S2x15x66049_S2x15_d2 h_S_)) (constant S_ .f32 0x00000000#32) reducesTo_S2x15_S2_d1 h_S_) (broadcastInDim S2 ![] bcast_S_S2 (constant S_ .f32 0x3A83126F#32))))) (constant S_ .f32 0x00000000#32) reducesTo_S2_S_d0 h_S_) (constant S_ .f32 0x40000000#32)

theorem test_bit (p : Prop) [Decidable p] (x : EReal) :
    (FloatOps.uitofp (F := Ideal) .f32 (BitVec.ofBool (decide p)) : EReal) * x = if p then x else 0 := by
  show (((BitVec.ofBool (decide p)).toNat : ℝ) : EReal) * x = _
  by_cases h : p <;> simp [h]

theorem agree_apply (b : ℕ → IVec S2x15x66049 32) (l : IVec S2x15x66049 32) (s : ℕ → FVec Ideal S2x15x66049 .f32)
    (n : Fin 2) (z : Fin 15) (w : Fin 66049) (c d : Fin 8 → EReal) (hb : ∀ t, b t (ix3 n z w) = BitVec.ofNat 32 (code (gst c t)))
    (hl : l (ix3 n z w) = BitVec.ofNat 32 (code d)) (hs : ∀ t, s t (ix3 n z w) = gsw (gst c t)) :
    agree b l s (ix3 n z w) = match8 c d 9 := by
  have e : ∀ t, FloatOps.uitofp (F := Ideal) .f32 (IntOp.cmpi CmpIPredicate.eq (b t (ix3 n z w)) (l (ix3 n z w))) * s t (ix3 n z w)
      = if Same (gst c t) d then gsw (gst c t) else (0 : EReal) := fun t => by
    rw [hb, hl, hs, cmpi_eq_small (lt_trans (code_lt _) (by norm_num)) (lt_trans (code_lt _) (by norm_num))]
    exact (test_bit _ _).trans (if_congr (same_iff _ _).symm rfl rfl)
  unfold agree
  pointwise
  rw [e, e, e, e, e, e, e, e, e]
  show _ = (0 : EReal) + (if Same (gst c 0) d then gsw (gst c 0) else 0) + (if Same (gst c 1) d then gsw (gst c 1) else 0) + (if Same (gst c 2) d then gsw (gst c 2) else 0) + (if Same (gst c 3) d then gsw (gst c 3) else 0) + (if Same (gst c 4) d then gsw (gst c 4) else 0) + (if Same (gst c 5) d then gsw (gst c 5) else 0) + (if Same (gst c 6) d then gsw (gst c 6) else 0) + (if Same (gst c 7) d then gsw (gst c 7) else 0) + (if Same (gst c 8) d then gsw (gst c 8) else 0)
  rw [zero_add]

theorem total_apply (b : ℕ → IVec S2x15x66049 32) (a : FVec Ideal S256 .f32) (s : ℕ → FVec Ideal S2x15x66049 .f32)
    (n : Fin 2) (z : Fin 15) (w : Fin 66049) (c : Fin 8 → EReal) (hb : ∀ t, b t (ix3 n z w) = BitVec.ofNat 32 (code (gst c t)))
    (hs : ∀ t, s t (ix3 n z w) = gsw (gst c t)) :
    total b a s (ix3 n z w) = covered (areaOf fun t => a (ix1 t)) c 9 := by
  have e : ∀ t, areas a (b t) (ix3 n z w) * s t (ix3 n z w) = areaOf (fun t => a (ix1 t)) (code (gst c t)) * gsw (gst c t) := fun t => by
    rw [areas_apply a (b t) n z w _ (code_lt _) (hb t), hs]
    unfold areaOf
    rw [dif_pos (code_lt _)]
  unfold total
  pointwise
  rw [e, e, e, e, e, e, e, e, e]
  show _ = (0 : EReal) + areaOf (fun t => a (ix1 t)) (code (gst c 0)) * gsw (gst c 0) + areaOf (fun t => a (ix1 t)) (code (gst c 1)) * gsw (gst c 1) + areaOf (fun t => a (ix1 t)) (code (gst c 2)) * gsw (gst c 2) + areaOf (fun t => a (ix1 t)) (code (gst c 3)) * gsw (gst c 3) + areaOf (fun t => a (ix1 t)) (code (gst c 4)) * gsw (gst c 4) + areaOf (fun t => a (ix1 t)) (code (gst c 5)) * gsw (gst c 5) + areaOf (fun t => a (ix1 t)) (code (gst c 6)) * gsw (gst c 6) + areaOf (fun t => a (ix1 t)) (code (gst c 7)) * gsw (gst c 7) + areaOf (fun t => a (ix1 t)) (code (gst c 8)) * gsw (gst c 8)
  rw [zero_add]

theorem answer_apply (P A G : FVec Ideal S2x15x66049 .f32) (i : S_.Idx) :
    answer P A G i = value (fun x => ∑ z : Fin 15, two * ∑ w : Fin 66049, P (ix3 x z w) * A (ix3 x z w))
      (fun x => ∑ z : Fin 15, ((∑ w : Fin 66049, A (ix3 x z w)) + ∑ w : Fin 66049, G (ix3 x z w))) := by
  unfold answer
  pointwise
  rfl

variable (V : Valuation Cert.ReferenceIdeal.τ Cert.ReferenceIdeal.sig (Elt Ideal))

/-- The three arguments. -/
abbrev px : FVec Ideal S2x16x256x256 .f32 := V (Proc.devRef .tc main_arg0)
abbrev ly : IVec S2x16x256x256 32 := V (Proc.devRef .tc main_arg1)
abbrev ar : FVec Ideal S256 .f32 := V (Proc.devRef .tc main_arg2)

/-- The corners of the scores, and the byte of the labels. -/
def cpOf : FVec Ideal S2x15x8x66049 .f32 := stack (pairs (sig (px V)))
def lbOf : IVec S2x15x66049 32 := labelBytes (stack (pairs (sitofp .f32 (ly V))))

theorem label_eq : res_main_v143 V = lbOf V := rfl

theorem corner0 : res_main_v54 V = chain (cpOf V) 0 := rfl

theorem byte0 : res_main_v189 V = byteAt (cpOf V) 0 := by
  unfold res_main_v189 res_main_v148
  rw [corner0]
  rfl

theorem weight0 : res_main_v203 V = weightAt (cpOf V) 0 := by
  unfold res_main_v203 res_main_v201
  rw [corner0]
  rfl

theorem corner1 : res_main_v220 V = chain (cpOf V) 1 := by
  unfold res_main_v220
  rw [corner0, byte0, weight0]
  rfl

theorem byte1 : res_main_v264 V = byteAt (cpOf V) 1 := by
  unfold res_main_v264 res_main_v223
  rw [corner1]
  rfl

theorem weight1 : res_main_v278 V = weightAt (cpOf V) 1 := by
  unfold res_main_v278 res_main_v276
  rw [corner1]
  rfl

theorem corner2 : res_main_v295 V = chain (cpOf V) 2 := by
  unfold res_main_v295
  rw [corner1, byte1, weight1]
  rfl

theorem byte2 : res_main_v339 V = byteAt (cpOf V) 2 := by
  unfold res_main_v339 res_main_v298
  rw [corner2]
  rfl

theorem weight2 : res_main_v353 V = weightAt (cpOf V) 2 := by
  unfold res_main_v353 res_main_v351
  rw [corner2]
  rfl

theorem corner3 : res_main_v370 V = chain (cpOf V) 3 := by
  unfold res_main_v370
  rw [corner2, byte2, weight2]
  rfl

theorem byte3 : res_main_v414 V = byteAt (cpOf V) 3 := by
  unfold res_main_v414 res_main_v373
  rw [corner3]
  rfl

theorem weight3 : res_main_v428 V = weightAt (cpOf V) 3 := by
  unfold res_main_v428 res_main_v426
  rw [corner3]
  rfl

theorem corner4 : res_main_v445 V = chain (cpOf V) 4 := by
  unfold res_main_v445
  rw [corner3, byte3, weight3]
  rfl

theorem byte4 : res_main_v489 V = byteAt (cpOf V) 4 := by
  unfold res_main_v489 res_main_v448
  rw [corner4]
  rfl

theorem weight4 : res_main_v503 V = weightAt (cpOf V) 4 := by
  unfold res_main_v503 res_main_v501
  rw [corner4]
  rfl

theorem corner5 : res_main_v520 V = chain (cpOf V) 5 := by
  unfold res_main_v520
  rw [corner4, byte4, weight4]
  rfl

theorem byte5 : res_main_v564 V = byteAt (cpOf V) 5 := by
  unfold res_main_v564 res_main_v523
  rw [corner5]
  rfl

theorem weight5 : res_main_v578 V = weightAt (cpOf V) 5 := by
  unfold res_main_v578 res_main_v576
  rw [corner5]
  rfl

theorem corner6 : res_main_v595 V = chain (cpOf V) 6 := by
  unfold res_main_v595
  rw [corner5, byte5, weight5]
  rfl

theorem byte6 : res_main_v639 V = byteAt (cpOf V) 6 := by
  unfold res_main_v639 res_main_v598
  rw [corner6]
  rfl

theorem weight6 : res_main_v653 V = weightAt (cpOf V) 6 := by
  unfold res_main_v653 res_main_v651
  rw [corner6]
  rfl

theorem corner7 : res_main_v670 V = chain (cpOf V) 7 := by
  unfold res_main_v670
  rw [corner6, byte6, weight6]
  rfl

theorem byte7 : res_main_v714 V = byteAt (cpOf V) 7 := by
  unfold res_main_v714 res_main_v673
  rw [corner7]
  rfl

theorem weight7 : res_main_v728 V = weightAt (cpOf V) 7 := by
  unfold res_main_v728 res_main_v726
  rw [corner7]
  rfl

theorem corner8 : res_main_v745 V = chain (cpOf V) 8 := by
  unfold res_main_v745
  rw [corner7, byte7, weight7]
  rfl

theorem byte8 : res_main_v789 V = byteAt (cpOf V) 8 := by
  unfold res_main_v789 res_main_v748
  rw [corner8]
  rfl

theorem weight8 : res_main_v803 V = weightAt (cpOf V) 8 := by
  unfold res_main_v803 res_main_v801
  rw [corner8]
  rfl

/-- The reference's result, step by step. -/
theorem result_eq : (Host.divf (Host.reduceAdd (subf (broadcastInDim S2 ![] bcast_S_S2 (constant S_ .f32 0x3F800000#32)) (Host.divf (addf (Host.reduceAdd (mulf (broadcastInDim S2x15 ![] bcast_S_S2x15 (constant S_ .f32 0x40000000#32)) (Host.reduceAdd (mulf (addf (addf (addf (addf (addf (addf (addf (addf (addf (broadcastInDim S2x15x66049 ![] bcast_S_S2x15x66049 (constant S_ .f32 0x00000000#32)) (mulf (uitofp .f32 (cmpi .eq (res_main_v189 V) (res_main_v143 V))) (res_main_v203 V))) (mulf (uitofp .f32 (cmpi .eq (res_main_v264 V) (res_main_v143 V))) (res_main_v278 V))) (mulf (uitofp .f32 (cmpi .eq (res_main_v339 V) (res_main_v143 V))) (res_main_v353 V))) (mulf (uitofp .f32 (cmpi .eq (res_main_v414 V) (res_main_v143 V))) (res_main_v428 V))) (mulf (uitofp .f32 (cmpi .eq (res_main_v489 V) (res_main_v143 V))) (res_main_v503 V))) (mulf (uitofp .f32 (cmpi .eq (res_main_v564 V) (res_main_v143 V))) (res_main_v578 V))) (mulf (uitofp .f32 (cmpi .eq (res_main_v639 V) (res_main_v143 V))) (res_main_v653 V))) (mulf (uitofp .f32 (cmpi .eq (res_main_v714 V) (res_main_v143 V))) (res_main_v728 V))) (mulf (uitofp .f32 (cmpi .eq (res_main_v789 V) (res_main_v143 V))) (res_main_v803 V))) (res_main_v827 V)) (constant S_ .f32 0x00000000#32) reducesTo_S2x15x66049_S2x15_d2 h_S_)) (constant S_ .f32 0x00000000#32) reducesTo_S2x15_S2_d1 h_S_) (broadcastInDim S2 ![] bcast_S_S2 (constant S_ .f32 0x3A83126F#32))) (addf (Host.reduceAdd (addf (Host.reduceAdd (res_main_v827 V) (constant S_ .f32 0x00000000#32) reducesTo_S2x15x66049_S2x15_d2 h_S_) (Host.reduceAdd (res_main_v812 V) (constant S_ .f32 0x00000000#32) reducesTo_S2x15x66049_S2x15_d2 h_S_)) (constant S_ .f32 0x00000000#32) reducesTo_S2x15_S2_d1 h_S_) (broadcastInDim S2 ![] bcast_S_S2 (constant S_ .f32 0x3A83126F#32))))) (constant S_ .f32 0x00000000#32) reducesTo_S2_S_d0 h_S_) (constant S_ .f32 0x40000000#32)) = answer (agree (byteAt (cpOf V)) (lbOf V) (weightAt (cpOf V))) (areas (ar V) (lbOf V))
    (total (byteAt (cpOf V)) (ar V) (weightAt (cpOf V))) := by
  unfold res_main_v827 res_main_v812
  rw [byte0, weight0, byte1, weight1, byte2, weight2, byte3, weight3, byte4, weight4, byte5, weight5, byte6, weight6, byte7, weight7, byte8, weight8, label_eq]
  rfl

variable (hp : ∀ n z, Pos (Main.scores (px V) n z)) (hf : ∀ n z, Flag (Main.marks (ly V) n z))

include hp hf in
/-- The reference's result is the loss. -/
theorem answer_eq (i : S_.Idx) : answer (agree (byteAt (cpOf V)) (lbOf V) (weightAt (cpOf V))) (areas (ar V) (lbOf V))
    (total (byteAt (cpOf V)) (ar V) (weightAt (cpOf V))) i
      = loss (areaOf fun t => ar V (ix1 t)) (Main.scores (px V)) (Main.marks (ly V)) := by
  have hc : ∀ n z w k, cpOf V (ix4 n z k w)
      = win (Main.scores (px V) n z.castSucc) (Main.scores (px V) n z.succ) (w.val / 257) (w.val % 257) k := fun n z w k =>
    score_corners (px V) n z w k
  have hl : ∀ n z w, lbOf V (ix3 n z w) = BitVec.ofNat 32 (code (win (Main.marks (ly V) n z.castSucc) (Main.marks (ly V) n z.succ) (w.val / 257) (w.val % 257))) :=
    fun n z w => label_byte (ly V) hf n z w
  have hu : ∀ (n : Fin 2) (z : Fin 15) (w : Fin 66049), Unit8 (win (Main.scores (px V) n z.castSucc) (Main.scores (px V) n z.succ) (w.val / 257) (w.val % 257)) :=
    fun n z w => win_unit (hp n _) (hp n _) _ _
  have hP : ∀ n z w, agree (byteAt (cpOf V)) (lbOf V) (weightAt (cpOf V)) (ix3 n z w)
      = match8 (win (Main.scores (px V) n z.castSucc) (Main.scores (px V) n z.succ) (w.val / 257) (w.val % 257))
          (win (Main.marks (ly V) n z.castSucc) (Main.marks (ly V) n z.succ) (w.val / 257) (w.val % 257)) 8 := fun n z w =>
    (agree_apply _ _ _ n z w _ _ (byteAt_apply _ (hc n z w)) (hl n z w) (weightAt_apply _ (hc n z w))).trans (match8_nine (hu n z w) _)
  have hG : ∀ n z w, total (byteAt (cpOf V)) (ar V) (weightAt (cpOf V)) (ix3 n z w)
      = covered (areaOf fun t => ar V (ix1 t)) (win (Main.scores (px V) n z.castSucc) (Main.scores (px V) n z.succ) (w.val / 257) (w.val % 257)) 8 := fun n z w =>
    (total_apply _ _ _ n z w _ (byteAt_apply _ (hc n z w)) (weightAt_apply _ (hc n z w))).trans (covered_nine _ (hu n z w))
  have hA : ∀ n z w, areas (ar V) (lbOf V) (ix3 n z w)
      = areaOf (fun t => ar V (ix1 t)) (code (win (Main.marks (ly V) n z.castSucc) (Main.marks (ly V) n z.succ) (w.val / 257) (w.val % 257))) := fun n z w =>
    (areas_apply _ _ n z w _ (code_lt _) (hl n z w)).trans (areaOf_lt (fun t => ar V (ix1 t)) (code_lt _)).symm
  rw [answer_apply]
  unfold loss shares
  refine congrArg₂ value (funext fun n => ?_) (funext fun n => ?_)
  · rw [two_mul_sum]
    refine Finset.sum_congr rfl fun z _ => congrArg (two * ·) (Finset.sum_congr rfl fun w _ => ?_)
    rw [hP, hA]
    rfl
  · rw [Finset.sum_add_distrib, add_comm]
    refine congrArg₂ (· + ·) (Finset.sum_congr rfl fun z _ => Finset.sum_congr rfl fun w _ => ?_)
      (Finset.sum_congr rfl fun z _ => Finset.sum_congr rfl fun w _ => ?_)
    · rw [hG]; rfl
    · rw [hA]; rfl

end Cert.Dice.Ref

end
-- ==== Proof.lean ====
/- The certificate's claim: the frames of the three programs, that the idealized kernel keeps the kernel's words, and
   that the idealized kernel and the reference end with one result. -/
module

public import proofs.«01_k».proof.Defs
public import proofs.«01_k».proof.Proof.Frames
public import proofs.«01_k».proof.Proof.Assumed
public import proofs.«01_k».proof.Proof.KernelTail
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem Cert.Dice

theorem equal_results : Cert.algebraic_KernelIdeal_ReferenceIdeal_pre_pre (hKernelIdeal := Cert.KernelIdeal.Gen.facts)
    (hReferenceIdeal := Cert.ReferenceIdeal.Gen.facts) (hPre_pre := Assumed.facts) := by
  intro m g m' g' hpre hargs
  refine ⟨fun c => Cert.KernelIdeal.Gen.W12 m g c (Proc.devRef .tc Cert.KernelIdeal.main_v82),
    (θ_run _ _ _).mono (fun r h => h.1) (Launch.run m g),
    (θ_run _ _ _).mono (fun r h c => ⟨(h c).1.trans ?_, (h c).2⟩) (Cert.ReferenceIdeal.Value.run m' g')⟩
  obtain ⟨hy, hx⟩ := Assumed.read _ _ _ (hpre c)
  have hp : ∀ n z, Pos (Main.scores (Main.pred m c) n z) := Assumed.pos _ hx
  have hf : ∀ n z, Flag (Main.marks (Main.labels m c) n z) := Assumed.flag _ hy
  have e0 : Ref.px (StableHlo.launchContents m' c) = Main.pred m c := (hargs c).1
  have e1 : Ref.ly (StableHlo.launchContents m' c) = Main.labels m c := (hargs c).2.1
  have e2 : Ref.ar (StableHlo.launchContents m' c) = Main.area m c := (hargs c).2.2
  refine (Ref.result_eq (StableHlo.launchContents m' c)).trans (funext fun i => ?_)
  rw [Ref.answer_eq _ (by rw [e0]; exact hp) (by rw [e1]; exact hf) i, e0, e1, e2]
  exact (Tail.out_eq m g c hp hf i).symm

theorem claim : Cert.Claim := ⟨Cert.Kernel.Gen.facts, Cert.KernelIdeal.Gen.facts, Cert.ReferenceIdeal.Gen.facts, Assumed.facts,
  fun m g _ => Cert.Kernel.Gen.frame m g,
  fun m g _ => Cert.KernelIdeal.Gen.frame m g,
  fun m g _ => Cert.KernelIdeal.Gen.frame m g,
  fun m g _ => Cert.Dice.reference_frame m g,
  fun m g _ => Cert.Dice.reference_frame m g,
  trivial,
  equal_results⟩

end Cert.Proof

end
